-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Qa (m : (ℓ : Loc Cert.Qa.nD Cert.Qa.τ Cert.Qa.sig) → Buf (Elt Bits) ℓ) : Prop :=
  True

def Pre_QaIdeal (m : (ℓ : Loc Cert.QaIdeal.nD Cert.QaIdeal.τ Cert.QaIdeal.sig) → Buf (Elt Ideal) ℓ) : Prop :=
  True

def Pre_QaRefIdeal (m : (ℓ : Loc Cert.QaRefIdeal.nD Cert.QaRefIdeal.τ Cert.QaRefIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4))
      ∧ r.2.sem = fun _ => 0)

def quiescent_Qa [hQa : Cert.Qa.Facts] : Prop :=
  ∀ (m : (ℓ : Loc Cert.Qa.nD Cert.Qa.τ Cert.Qa.sig) → Buf (Elt Bits) ℓ) (g : Dev Cert.Qa.nD → PrngReg), Pre_Qa m →
    θ_run (Cert.Qa.defs (F := Bits)) (onTc (τ := Cert.Qa.τ) (Cert.Qa.main (F := Bits))) ⟨m, fun _ => 0, g⟩ (fun r => (∀ c : Dev Cert.Qa.nD,
      r.2.mem ((c.tc : Thread Cert.Qa.nD Cert.Qa.τ).loc Cert.Qa.main_arg0) = m ((c.tc : Thread Cert.Qa.nD Cert.Qa.τ).loc Cert.Qa.main_arg0)
      ∧ r.2.mem ((c.tc : Thread Cert.Qa.nD Cert.Qa.τ).loc Cert.Qa.main_arg1) = m ((c.tc : Thread Cert.Qa.nD Cert.Qa.τ).loc Cert.Qa.main_arg1))
      ∧ r.2.sem = fun _ => 0)

def quiescent_QaIdeal [hQaIdeal : Cert.QaIdeal.Facts] : Prop :=
  ∀ (m : (ℓ : Loc Cert.QaIdeal.nD Cert.QaIdeal.τ Cert.QaIdeal.sig) → Buf (Elt Ideal) ℓ) (g : Dev Cert.QaIdeal.nD → PrngReg), Pre_QaIdeal m →
    θ_run (Cert.QaIdeal.defs (F := Ideal)) (onTc (τ := Cert.QaIdeal.τ) (Cert.QaIdeal.main (F := Ideal))) ⟨m, fun _ => 0, g⟩ (fun r => (∀ c : Dev Cert.QaIdeal.nD,
      r.2.mem ((c.tc : Thread Cert.QaIdeal.nD Cert.QaIdeal.τ).loc Cert.QaIdeal.main_arg0) = m ((c.tc : Thread Cert.QaIdeal.nD Cert.QaIdeal.τ).loc Cert.QaIdeal.main_arg0)
      ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ r.2.sem = fun _ => 0)

def quiescent_QaRefIdeal [hQaRefIdeal : Cert.QaRefIdeal.Facts] : Prop :=
  ∀ (m : (ℓ : Loc Cert.QaRefIdeal.nD Cert.QaRefIdeal.τ Cert.QaRefIdeal.sig) → Buf (Elt Ideal) ℓ) (g : Dev Cert.QaRefIdeal.nD → PrngReg), Pre_QaRefIdeal m →
    θ_run (Cert.QaRefIdeal.defs (F := Ideal)) (onTc (τ := Cert.QaRefIdeal.τ) (Cert.QaRefIdeal.main (F := Ideal))) ⟨m, fun _ => 0, g⟩ (fun r => (∀ c : Dev Cert.QaRefIdeal.nD,
      r.2.mem ((c.tc : Thread Cert.QaRefIdeal.nD Cert.QaRefIdeal.τ).loc Cert.QaRefIdeal.main_arg0) = m ((c.tc : Thread Cert.QaRefIdeal.nD Cert.QaRefIdeal.τ).loc Cert.QaRefIdeal.main_arg0)
      ∧ r.2.mem ((c.tc : Thread Cert.QaRefIdeal.nD Cert.QaRefIdeal.τ).loc Cert.QaRefIdeal.main_arg1) = m ((c.tc : Thread Cert.QaRefIdeal.nD Cert.QaRefIdeal.τ).loc Cert.QaRefIdeal.main_arg1))
      ∧ r.2.sem = fun _ => 0)

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Kv_KvIdeal : Prop :=
  IdealRules.named_const.Statement Cert.KvIdeal.κ "sixth" .f32 0x3E2AB555#32 ((4097 / 24576 : ℝ) : EReal)

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v0_0)) (v1 : (c : Dev Cert.KvIdeal.nD) → Buf (Elt Ideal) ((c.tc : Thread Cert.KvIdeal.nD Cert.KvIdeal.τ).loc Cert.KvIdeal.main_v0_1)) (v2 : (c : Dev Cert.KvIdeal.nD) → Buf (Elt Ideal) ((c.tc : Thread Cert.KvIdeal.nD Cert.KvIdeal.τ).loc Cert.KvIdeal.main_v0_2)) (v3 : (c : Dev Cert.KvIdeal.nD) → Buf (Elt Ideal) ((c.tc : Thread Cert.KvIdeal.nD Cert.KvIdeal.τ).loc Cert.KvIdeal.main_v0_3)) (v4 : (c : Dev Cert.KvIdeal.nD) → Buf (Elt Ideal) ((c.tc : Thread Cert.KvIdeal.nD Cert.KvIdeal.τ).loc Cert.KvIdeal.main_v0_4)) (v5 : (c : Dev Cert.KvIdeal.nD) → Buf (Elt Ideal) ((c.tc : Thread Cert.KvIdeal.nD Cert.KvIdeal.τ).loc Cert.KvIdeal.main_v0_5)) (v6 : (c : Dev Cert.KvIdeal.nD) → Buf (Elt Ideal) ((c.tc : Thread Cert.KvIdeal.nD Cert.KvIdeal.τ).loc Cert.KvIdeal.main_v0_6)) (v7 : (c : Dev Cert.KvIdeal.nD) → Buf (Elt Ideal) ((c.tc : Thread Cert.KvIdeal.nD Cert.KvIdeal.τ).loc Cert.KvIdeal.main_v0_7)) (v8 : (c : Dev Cert.KvIdeal.nD) → Buf (Elt Ideal) ((c.tc : Thread Cert.KvIdeal.nD Cert.KvIdeal.τ).loc Cert.KvIdeal.main_v0_8)) (v9 : (c : Dev Cert.KvIdeal.nD) → Buf (Elt Ideal) ((c.tc : Thread Cert.KvIdeal.nD Cert.KvIdeal.τ).loc Cert.KvIdeal.main_v0_9)) (v10 : (c : Dev Cert.KvIdeal.nD) → Buf (Elt Ideal) ((c.tc : Thread Cert.KvIdeal.nD Cert.KvIdeal.τ).loc Cert.KvIdeal.main_v0_10)) (v11 : (c : Dev Cert.KvIdeal.nD) → Buf (Elt Ideal) ((c.tc : Thread Cert.KvIdeal.nD Cert.KvIdeal.τ).loc Cert.KvIdeal.main_v0_11)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0_0) = v0 c
          ∧ r.2.mem ((c.tc : Thread Cert.KvIdeal.nD Cert.KvIdeal.τ).loc Cert.KvIdeal.main_v0_1) = v1 c
          ∧ r.2.mem ((c.tc : Thread Cert.KvIdeal.nD Cert.KvIdeal.τ).loc Cert.KvIdeal.main_v0_2) = v2 c
          ∧ r.2.mem ((c.tc : Thread Cert.KvIdeal.nD Cert.KvIdeal.τ).loc Cert.KvIdeal.main_v0_3) = v3 c
          ∧ r.2.mem ((c.tc : Thread Cert.KvIdeal.nD Cert.KvIdeal.τ).loc Cert.KvIdeal.main_v0_4) = v4 c
          ∧ r.2.mem ((c.tc : Thread Cert.KvIdeal.nD Cert.KvIdeal.τ).loc Cert.KvIdeal.main_v0_5) = v5 c
          ∧ r.2.mem ((c.tc : Thread Cert.KvIdeal.nD Cert.KvIdeal.τ).loc Cert.KvIdeal.main_v0_6) = v6 c
          ∧ r.2.mem ((c.tc : Thread Cert.KvIdeal.nD Cert.KvIdeal.τ).loc Cert.KvIdeal.main_v0_7) = v7 c
          ∧ r.2.mem ((c.tc : Thread Cert.KvIdeal.nD Cert.KvIdeal.τ).loc Cert.KvIdeal.main_v0_8) = v8 c
          ∧ r.2.mem ((c.tc : Thread Cert.KvIdeal.nD Cert.KvIdeal.τ).loc Cert.KvIdeal.main_v0_9) = v9 c
          ∧ r.2.mem ((c.tc : Thread Cert.KvIdeal.nD Cert.KvIdeal.τ).loc Cert.KvIdeal.main_v0_10) = v10 c
          ∧ r.2.mem ((c.tc : Thread Cert.KvIdeal.nD Cert.KvIdeal.τ).loc Cert.KvIdeal.main_v0_11) = v11 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v0_0) = v0 c
          ∧ r.2.mem ((c.tc : Thread Cert.KvRefIdeal.nD Cert.KvRefIdeal.τ).loc Cert.KvRefIdeal.main_v0_1) = v1 c
          ∧ r.2.mem ((c.tc : Thread Cert.KvRefIdeal.nD Cert.KvRefIdeal.τ).loc Cert.KvRefIdeal.main_v0_2) = v2 c
          ∧ r.2.mem ((c.tc : Thread Cert.KvRefIdeal.nD Cert.KvRefIdeal.τ).loc Cert.KvRefIdeal.main_v0_3) = v3 c
          ∧ r.2.mem ((c.tc : Thread Cert.KvRefIdeal.nD Cert.KvRefIdeal.τ).loc Cert.KvRefIdeal.main_v0_4) = v4 c
          ∧ r.2.mem ((c.tc : Thread Cert.KvRefIdeal.nD Cert.KvRefIdeal.τ).loc Cert.KvRefIdeal.main_v0_5) = v5 c
          ∧ r.2.mem ((c.tc : Thread Cert.KvRefIdeal.nD Cert.KvRefIdeal.τ).loc Cert.KvRefIdeal.main_v0_6) = v6 c
          ∧ r.2.mem ((c.tc : Thread Cert.KvRefIdeal.nD Cert.KvRefIdeal.τ).loc Cert.KvRefIdeal.main_v0_7) = v7 c
          ∧ r.2.mem ((c.tc : Thread Cert.KvRefIdeal.nD Cert.KvRefIdeal.τ).loc Cert.KvRefIdeal.main_v0_8) = v8 c
          ∧ r.2.mem ((c.tc : Thread Cert.KvRefIdeal.nD Cert.KvRefIdeal.τ).loc Cert.KvRefIdeal.main_v0_9) = v9 c
          ∧ r.2.mem ((c.tc : Thread Cert.KvRefIdeal.nD Cert.KvRefIdeal.τ).loc Cert.KvRefIdeal.main_v0_10) = v10 c
          ∧ r.2.mem ((c.tc : Thread Cert.KvRefIdeal.nD Cert.KvRefIdeal.τ).loc Cert.KvRefIdeal.main_v0_11) = v11 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4))

def preserves_Qa_QaIdeal : Prop :=
  IdealRules.named_const.Statement Cert.QaIdeal.κ "sixth" .f32 0x3E2AB555#32 ((4097 / 24576 : ℝ) : EReal)

def algebraic_QaIdeal_QaRefIdeal [hQaIdeal : Cert.QaIdeal.Facts] [hQaRefIdeal : Cert.QaRefIdeal.Facts] : Prop :=
  ∀ (m : (ℓ : Loc Cert.QaIdeal.nD Cert.QaIdeal.τ Cert.QaIdeal.sig) → Buf (Elt Ideal) ℓ) (g : Dev Cert.QaIdeal.nD → PrngReg)
    (m' : (ℓ : Loc Cert.QaRefIdeal.nD Cert.QaRefIdeal.τ Cert.QaRefIdeal.sig) → Buf (Elt Ideal) ℓ) (g' : Dev Cert.QaRefIdeal.nD → PrngReg), Pre_QaIdeal m →
    (∀ c : Dev Cert.QaIdeal.nD,
      m' ((c.tc : Thread Cert.QaRefIdeal.nD Cert.QaRefIdeal.τ).loc Cert.QaRefIdeal.main_arg0) = m ((c.tc : Thread Cert.QaIdeal.nD Cert.QaIdeal.τ).loc Cert.QaIdeal.main_arg0)
      ∧ m' ((c.tc : Thread Cert.QaRefIdeal.nD Cert.QaRefIdeal.τ).loc Cert.QaRefIdeal.main_arg1) = m ((c.tc : Thread Cert.QaIdeal.nD Cert.QaIdeal.τ).loc Cert.QaIdeal.main_arg1)) →
    ∃ (v0 : (c : Dev Cert.QaIdeal.nD) → Buf (Elt Ideal) ((c.tc : Thread Cert.QaIdeal.nD Cert.QaIdeal.τ).loc Cert.QaIdeal.main_v0_0)) (v1 : (c : Dev Cert.QaIdeal.nD) → Buf (Elt Ideal) ((c.tc : Thread Cert.QaIdeal.nD Cert.QaIdeal.τ).loc Cert.QaIdeal.main_v0_1)) (v2 : (c : Dev Cert.QaIdeal.nD) → Buf (Elt Ideal) ((c.tc : Thread Cert.QaIdeal.nD Cert.QaIdeal.τ).loc Cert.QaIdeal.main_v0_2)) (v3 : (c : Dev Cert.QaIdeal.nD) → Buf (Elt Ideal) ((c.tc : Thread Cert.QaIdeal.nD Cert.QaIdeal.τ).loc Cert.QaIdeal.main_v0_3)) (v4 : (c : Dev Cert.QaIdeal.nD) → Buf (Elt Ideal) ((c.tc : Thread Cert.QaIdeal.nD Cert.QaIdeal.τ).loc Cert.QaIdeal.main_v0_4)),
      θ_run (Cert.QaIdeal.defs (F := Ideal)) (onTc (τ := Cert.QaIdeal.τ) (Cert.QaIdeal.main (F := Ideal))) ⟨m, fun _ => 0, g⟩ (fun r => ∀ c : Dev Cert.QaIdeal.nD,
          r.2.mem ((c.tc : Thread Cert.QaIdeal.nD Cert.QaIdeal.τ).loc Cert.QaIdeal.main_v0_0) = v0 c
          ∧ r.2.mem ((c.tc : Thread Cert.QaIdeal.nD Cert.QaIdeal.τ).loc Cert.QaIdeal.main_v0_1) = v1 c
          ∧ r.2.mem ((c.tc : Thread Cert.QaIdeal.nD Cert.QaIdeal.τ).loc Cert.QaIdeal.main_v0_2) = v2 c
          ∧ r.2.mem ((c.tc : Thread Cert.QaIdeal.nD Cert.QaIdeal.τ).loc Cert.QaIdeal.main_v0_3) = v3 c
          ∧ r.2.mem ((c.tc : Thread Cert.QaIdeal.nD Cert.QaIdeal.τ).loc Cert.QaIdeal.main_v0_4) = v4 c
          ∧ r.2.mem ((c.tc : Thread Cert.QaIdeal.nD Cert.QaIdeal.τ).loc Cert.QaIdeal.main_arg0) = m ((c.tc : Thread Cert.QaIdeal.nD Cert.QaIdeal.τ).loc Cert.QaIdeal.main_arg0)
          ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ θ_run (Cert.QaRefIdeal.defs (F := Ideal)) (onTc (τ := Cert.QaRefIdeal.τ) (Cert.QaRefIdeal.main (F := Ideal))) ⟨m', fun _ => 0, g'⟩ (fun r => ∀ c : Dev Cert.QaRefIdeal.nD,
          r.2.mem ((c.tc : Thread Cert.QaRefIdeal.nD Cert.QaRefIdeal.τ).loc Cert.QaRefIdeal.main_v0_0) = v0 c
          ∧ r.2.mem ((c.tc : Thread Cert.QaRefIdeal.nD Cert.QaRefIdeal.τ).loc Cert.QaRefIdeal.main_v0_1) = v1 c
          ∧ r.2.mem ((c.tc : Thread Cert.QaRefIdeal.nD Cert.QaRefIdeal.τ).loc Cert.QaRefIdeal.main_v0_2) = v2 c
          ∧ r.2.mem ((c.tc : Thread Cert.QaRefIdeal.nD Cert.QaRefIdeal.τ).loc Cert.QaRefIdeal.main_v0_3) = v3 c
          ∧ r.2.mem ((c.tc : Thread Cert.QaRefIdeal.nD Cert.QaRefIdeal.τ).loc Cert.QaRefIdeal.main_v0_4) = v4 c
          ∧ r.2.mem ((c.tc : Thread Cert.QaRefIdeal.nD Cert.QaRefIdeal.τ).loc Cert.QaRefIdeal.main_arg0) = m' ((c.tc : Thread Cert.QaRefIdeal.nD Cert.QaRefIdeal.τ).loc Cert.QaRefIdeal.main_arg0)
          ∧ r.2.mem ((c.tc : Thread Cert.QaRefIdeal.nD Cert.QaRefIdeal.τ).loc Cert.QaRefIdeal.main_arg1) = m' ((c.tc : Thread Cert.QaRefIdeal.nD Cert.QaRefIdeal.τ).loc Cert.QaRefIdeal.main_arg1))

def Claim : Prop :=
  ∃ (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hKv : Cert.Kv.Facts) (hKvIdeal : Cert.KvIdeal.Facts) (hKvRefIdeal : Cert.KvRefIdeal.Facts) (hQa : Cert.Qa.Facts) (hQaIdeal : Cert.QaIdeal.Facts) (hQaRefIdeal : Cert.QaRefIdeal.Facts),
    quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Kv (hKv := hKv)
    ∧ quiescent_KvIdeal (hKvIdeal := hKvIdeal)
    ∧ quiescent_KvRefIdeal (hKvRefIdeal := hKvRefIdeal)
    ∧ quiescent_Qa (hQa := hQa)
    ∧ quiescent_QaIdeal (hQaIdeal := hQaIdeal)
    ∧ quiescent_QaRefIdeal (hQaRefIdeal := hQaRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Kv_KvIdeal
    ∧ algebraic_KvIdeal_KvRefIdeal (hKvIdeal := hKvIdeal) (hKvRefIdeal := hKvRefIdeal)
    ∧ preserves_Qa_QaIdeal
    ∧ algebraic_QaIdeal_QaRefIdeal (hQaIdeal := hQaIdeal) (hQaRefIdeal := hQaRefIdeal)
-- ==== Out.lean ====
abbrev S1920x7168 : Shape := ⟨2, ![1920, 7168]⟩
abbrev S3584x7168 : Shape := ⟨2, ![3584, 7168]⟩
abbrev S448x7168 : Shape := ⟨2, ![448, 7168]⟩
abbrev S2 : Shape := ⟨1, ![2]⟩
abbrev S1x7168 : Shape := ⟨2, ![1, 7168]⟩
abbrev S3584x256 : Shape := ⟨2, ![3584, 256]⟩
abbrev S448x256 : Shape := ⟨2, ![448, 256]⟩
abbrev S1x256 : Shape := ⟨2, ![1, 256]⟩
abbrev S1920x256 : Shape := ⟨2, ![1920, 256]⟩
abbrev S7168x256 : Shape := ⟨2, ![7168, 256]⟩
abbrev S3584x1x256 : Shape := ⟨3, ![3584, 1, 256]⟩
abbrev S3584x2x256 : Shape := ⟨3, ![3584, 2, 256]⟩
abbrev S448x16x256 : Shape := ⟨3, ![448, 16, 256]⟩
abbrev S448x1x256 : Shape := ⟨3, ![448, 1, 256]⟩
abbrev S1 : Shape := ⟨1, ![1]⟩
abbrev S384x7168 : Shape := ⟨2, ![384, 7168]⟩
abbrev S384x256 : Shape := ⟨2, ![384, 256]⟩

abbrev nBuf : Space → Nat
  | .hbm => 7
  | .vmem => 12
  | .smem => 1
  | _ => 0

abbrev bufTy : (tb : Table) → Fin (tcTables nBuf tb) → BufTy
  | .hbm, ⟨0, _⟩ => ⟨S1920x7168, .bf16⟩
  | .hbm, ⟨1, _⟩ => ⟨S3584x7168, .i8⟩
  | .hbm, ⟨2, _⟩ => ⟨S448x7168, .fp8e4m3⟩
  | .hbm, ⟨3, _⟩ => ⟨S2, .f32⟩
  | .hbm, ⟨4, _⟩ => ⟨S1x7168, .f32⟩
  | .hbm, ⟨5, _⟩ => ⟨S1920x7168, .bf16⟩
  | .hbm, ⟨6, _⟩ => ⟨S1920x7168, .bf16⟩
  | .local _ .vmem, ⟨0, _⟩ => ⟨S1920x7168, .bf16⟩
  | .local _ .vmem, ⟨1, _⟩ => ⟨S3584x256, .i8⟩
  | .local _ .vmem, ⟨2, _⟩ => ⟨S3584x256, .i8⟩
  | .local _ .vmem, ⟨3, _⟩ => ⟨S448x256, .fp8e4m3⟩
  | .local _ .vmem, ⟨4, _⟩ => ⟨S448x256, .fp8e4m3⟩
  | .local _ .vmem, ⟨5, _⟩ => ⟨S1x256, .f32⟩
  | .local _ .vmem, ⟨6, _⟩ => ⟨S1x256, .f32⟩
  | .local _ .vmem, ⟨7, _⟩ => ⟨S1920x256, .bf16⟩
  | .local _ .vmem, ⟨8, _⟩ => ⟨S1920x256, .bf16⟩
  | .local _ .vmem, ⟨9, _⟩ => ⟨S1920x256, .bf16⟩
  | .local _ .vmem, ⟨10, _⟩ => ⟨S1920x256, .bf16⟩
  | .local _ .vmem, ⟨11, _⟩ => ⟨S7168x256, .bf16⟩
  | .local _ .smem, ⟨0, _⟩ => ⟨S2, .f32⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S1920x7168 : Shape := ⟨2, ![1920, 7168]⟩
abbrev S3584x7168 : Shape := ⟨2, ![3584, 7168]⟩
abbrev S448x7168 : Shape := ⟨2, ![448, 7168]⟩
abbrev S2 : Shape := ⟨1, ![2]⟩
abbrev S1x7168 : Shape := ⟨2, ![1, 7168]⟩
abbrev S3584x1x7168 : Shape := ⟨3, ![3584, 1, 7168]⟩
abbrev S3584x2x7168 : Shape := ⟨3, ![3584, 2, 7168]⟩
abbrev S448x16x7168 : Shape := ⟨3, ![448, 16, 7168]⟩
abbrev S448x1x7168 : Shape := ⟨3, ![448, 1, 7168]⟩
abbrev S7168x7168 : Shape := ⟨2, ![7168, 7168]⟩
abbrev S1 : Shape := ⟨1, ![1]⟩

abbrev nBuf : Space → Nat
  | .hbm => 7
  | .vmem => 6
  | .smem => 1
  | _ => 0

abbrev bufTy : (tb : Table) → Fin (tcTables nBuf tb) → BufTy
  | .hbm, ⟨0, _⟩ => ⟨S1920x7168, .bf16⟩
  | .hbm, ⟨1, _⟩ => ⟨S3584x7168, .i8⟩
  | .hbm, ⟨2, _⟩ => ⟨S448x7168, .fp8e4m3⟩
  | .hbm, ⟨3, _⟩ => ⟨S2, .f32⟩
  | .hbm, ⟨4, _⟩ => ⟨S1x7168, .f32⟩
  | .hbm, ⟨5, _⟩ => ⟨S1920x7168, .bf16⟩
  | .hbm, ⟨6, _⟩ => ⟨S1920x7168, .bf16⟩
  | .local _ .vmem, ⟨0, _⟩ => ⟨S1920x7168, .bf16⟩
  | .local _ .vmem, ⟨1, _⟩ => ⟨S3584x7168, .i8⟩
  | .local _ .vmem, ⟨2, _⟩ => ⟨S448x7168, .fp8e4m3⟩
  | .local _ .vmem, ⟨3, _⟩ => ⟨S1x7168, .f32⟩
  | .local _ .vmem, ⟨4, _⟩ => ⟨S1920x7168, .bf16⟩
  | .local _ .vmem, ⟨5, _⟩ => ⟨S1920x7168, .bf16⟩
  | .local _ .smem, ⟨0, _⟩ => ⟨S2, .f32⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S1920x7168 : Shape := ⟨2, ![1920, 7168]⟩
abbrev S3584x9216 : Shape := ⟨2, ![3584, 9216]⟩
abbrev S448x9216 : Shape := ⟨2, ![448, 9216]⟩
abbrev S2 : Shape := ⟨1, ![2]⟩
abbrev S1x9216 : Shape := ⟨2, ![1, 9216]⟩
abbrev S32x1920 : Shape := ⟨2, ![32, 1920]⟩
abbrev S7168x1920 : Shape := ⟨2, ![7168, 1920]⟩
abbrev S1024x1920 : Shape := ⟨2, ![1024, 1920]⟩
abbrev S8x128 : Shape := ⟨2, ![8, 128]⟩
abbrev S3584x256 : Shape := ⟨2, ![3584, 256]⟩
abbrev S448x256 : Shape := ⟨2, ![448, 256]⟩
abbrev S1x256 : Shape := ⟨2, ![1, 256]⟩
abbrev S256x1920 : Shape := ⟨2, ![256, 1920]⟩
abbrev S7168x256 : Shape := ⟨2, ![7168, 256]⟩
abbrev S3584x1x256 : Shape := ⟨3, ![3584, 1, 256]⟩
abbrev S3584x2x256 : Shape := ⟨3, ![3584, 2, 256]⟩
abbrev S448x16x256 : Shape := ⟨3, ![448, 16, 256]⟩
abbrev S448x1x256 : Shape := ⟨3, ![448, 1, 256]⟩
abbrev S1 : Shape := ⟨1, ![1]⟩
abbrev S384x7168 : Shape := ⟨2, ![384, 7168]⟩
abbrev S384x256 : Shape := ⟨2, ![384, 256]⟩
abbrev S256x384 : Shape := ⟨2, ![256, 384]⟩
abbrev S4x2x32x384 : Shape := ⟨4, ![4, 2, 32, 384]⟩
abbrev S32x384 : Shape := ⟨2, ![32, 384]⟩
abbrev S4x1x32x384 : Shape := ⟨4, ![4, 1, 32, 384]⟩
abbrev S4x32x384 : Shape := ⟨3, ![4, 32, 384]⟩
abbrev S1x32x384 : Shape := ⟨3, ![1, 32, 384]⟩
abbrev S1x256x384 : Shape := ⟨3, ![1, 256, 384]⟩
abbrev S1x1x1 : Shape := ⟨3, ![1, 1, 1]⟩

abbrev nBuf : Space → Nat
  | .hbm => 12
  | .vmem => 18
  | .smem => 1
  | _ => 0

abbrev bufTy : (tb : Table) → Fin (tcTables nBuf tb) → BufTy
  | .hbm, ⟨0, _⟩ => ⟨S1920x7168, .bf16⟩
  | .hbm, ⟨1, _⟩ => ⟨S3584x9216, .i8⟩
  | .hbm, ⟨2, _⟩ => ⟨S448x9216, .fp8e4m3⟩
  | .hbm, ⟨3, _⟩ => ⟨S2, .f32⟩
  | .hbm, ⟨4, _⟩ => ⟨S1x9216, .f32⟩
  | .hbm, ⟨5, _⟩ => ⟨S32x1920, .f32⟩
  | .hbm, ⟨6, _⟩ => ⟨S32x1920, .f32⟩
  | .hbm, ⟨7, _⟩ => ⟨S7168x1920, .bf16⟩
  | .hbm, ⟨8, _⟩ => ⟨S1024x1920, .f32⟩
  | .hbm, ⟨9, _⟩ => ⟨S1024x1920, .f32⟩
  | .hbm, ⟨10, _⟩ => ⟨S8x128, .f32⟩
  | .hbm, ⟨11, _⟩ => ⟨S8x128, .f32⟩
  | .local _ .vmem, ⟨0, _⟩ => ⟨S1920x7168, .bf16⟩
  | .local _ .vmem, ⟨1, _⟩ => ⟨S3584x256, .i8⟩
  | .local _ .vmem, ⟨2, _⟩ => ⟨S3584x256, .i8⟩
  | .local _ .vmem, ⟨3, _⟩ => ⟨S448x256, .fp8e4m3⟩
  | .local _ .vmem, ⟨4, _⟩ => ⟨S448x256, .fp8e4m3⟩
  | .local _ .vmem, ⟨5, _⟩ => ⟨S1x256, .f32⟩
  | .local _ .vmem, ⟨6, _⟩ => ⟨S1x256, .f32⟩
  | .local _ .vmem, ⟨7, _⟩ => ⟨S32x1920, .f32⟩
  | .local _ .vmem, ⟨8, _⟩ => ⟨S32x1920, .f32⟩
  | .local _ .vmem, ⟨9, _⟩ => ⟨S256x1920, .bf16⟩
  | .local _ .vmem, ⟨10, _⟩ => ⟨S256x1920, .bf16⟩
  | .local _ .vmem, ⟨11, _⟩ => ⟨S256x1920, .f32⟩
  | .local _ .vmem, ⟨12, _⟩ => ⟨S256x1920, .f32⟩
  | .local _ .vmem, ⟨13, _⟩ => ⟨S256x1920, .f32⟩
  | .local _ .vmem, ⟨14, _⟩ => ⟨S256x1920, .f32⟩
  | .local _ .vmem, ⟨15, _⟩ => ⟨S8x128, .f32⟩
  | .local _ .vmem, ⟨16, _⟩ => ⟨S8x128, .f32⟩
  | .local _ .vmem, ⟨17, _⟩ => ⟨S7168x256, .bf16⟩
  | .local _ .smem, ⟨0, _⟩ => ⟨S2, .f32⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c28_i32 : BitVec 32 := 28#32
  let v58 : BitVec 1 := Scalar.cmpi .slt arg0 c28_i32
  let v59 : BitVec 32 := Scalar.extui v58
  let c0_i32_19 : BitVec 32 := 0#32
  let v60 : BitVec 1 := Scalar.cmpi .ne v59 c0_i32_19
  v60

def k0_cond5 (i : grid0.Coords) : BitVec 1 :=
  let arg0 : BitVec 32 := BitVec.ofNat 32 (i 0).val
  let c28_i32_28 : BitVec 32 := 28#32
  let v77 : BitVec 1 := Scalar.cmpi .slt arg0 c28_i32_28
  let v78 : BitVec 32 := Scalar.extui v77
  let c0_i32_29 : BitVec 32 := 0#32
  let v79 : BitVec 1 := Scalar.cmpi .ne v78 c0_i32_29
  v79

def k0_cond8 (i : grid0.Coords) : BitVec 1 :=
  let arg0 : BitVec 32 := BitVec.ofNat 32 (i 0).val
  let c28_i32_39 : BitVec 32 := 28#32
  let v96 : BitVec 1 := Scalar.cmpi .slt arg0 c28_i32_39
  let v97 : BitVec 32 := Scalar.extui v96
  let c0_i32_40 : BitVec 32 := 0#32
  let v98 : BitVec 1 := Scalar.cmpi .ne v97 c0_i32_40
  v98

def k0_cond11 (i : grid0.Coords) : BitVec 1 :=
  let arg0 : BitVec 32 := BitVec.ofNat 32 (i 0).val
  let c28_i32_50 : BitVec 32 := 28#32
  let v115 : BitVec 1 := Scalar.cmpi .slt arg0 c28_i32_50
  let v116 : BitVec 32 := Scalar.extui v115
  let c0_i32_51 : BitVec 32 := 0#32
  let v117 : BitVec 1 := Scalar.cmpi .ne v116 c0_i32_51
  v117

def k0_cond14 (i : grid0.Coords) : BitVec 1 :=
  let arg0 : BitVec 32 := BitVec.ofNat 32 (i 0).val
  let c28_i32_61 : BitVec 32 := 28#32
  let v134 : BitVec 1 := Scalar.cmpi .slt arg0 c28_i32_61
  let v135 : BitVec 32 := Scalar.extui v134
  let c0_i32_62 : BitVec 32 := 0#32
  let v136 : BitVec 1 := Scalar.cmpi .ne v135 c0_i32_62
  v136

def k0_cond3 (i : grid0.Coords) : BitVec 1 :=
  let arg0 : BitVec 32 := BitVec.ofNat 32 (i 0).val
  let c28_i32_20 : BitVec 32 := 28#32
  let v61 : BitVec 1 := Scalar.cmpi .sge arg0 c28_i32_20
  let c32_i32 : BitVec 32 := 32#32
  let v62 : BitVec 1 := Scalar.cmpi .slt arg0 c32_i32
  let v63 : BitVec 1 := Scalar.andi v61 v62
  let v64 : BitVec 32 := Scalar.extui v63
  let c0_i32_21 : BitVec 32 := 0#32
  let v65 : BitVec 1 := Scalar.cmpi .ne v64 c0_i32_21
  v65

def k0_cond6 (i : grid0.Coords) : BitVec 1 :=
  let arg0 : BitVec 32 := BitVec.ofNat 32 (i 0).val
  let c28_i32_30 : BitVec 32 := 28#32
  let v80 : BitVec 1 := Scalar.cmpi .sge arg0 c28_i32_30
  let c32_i32_31 : BitVec 32 := 32#32
  let v81 : BitVec 1 := Scalar.cmpi .slt arg0 c32_i32_31
  let v82 : BitVec 1 := Scalar.andi v80 v81
  let v83 : BitVec 32 := Scalar.extui v82
  let c0_i32_32 : BitVec 32 := 0#32
  let v84 : BitVec 1 := Scalar.cmpi .ne v83 c0_i32_32
  v84

def k0_cond9 (i : grid0.Coords) : BitVec 1 :=
  let arg0 : BitVec 32 := BitVec.ofNat 32 (i 0).val
  let c28_i32_41 : BitVec 32 := 28#32
  let v99 : BitVec 1 := Scalar.cmpi .sge arg0 c28_i32_41
  let c32_i32_42 : BitVec 32 := 32#32
  let v100 : BitVec 1 := Scalar.cmpi .slt arg0 c32_i32_42
  let v101 : BitVec 1 := Scalar.andi v99 v100
  let v102 : BitVec 32 := Scalar.extui v101
  let c0_i32_43 : BitVec 32 := 0#32
  let v103 : BitVec 1 := Scalar.cmpi .ne v102 c0_i32_43
  v103

def k0_cond12 (i : grid0.Coords) : BitVec 1 :=
  let arg0 : BitVec 32 := BitVec.ofNat 32 (i 0).val
  let c28_i32_52 : BitVec 32 := 28#32
  let v118 : BitVec 1 := Scalar.cmpi .sge arg0 c28_i32_52
  let c32_i32_53 : BitVec 32 := 32#32
  let v119 : BitVec 1 := Scalar.cmpi .slt arg0 c32_i32_53
  let v120 : BitVec 1 := Scalar.andi v118 v119
  let v121 : BitVec 32 := Scalar.extui v120
  let c0_i32_54 : BitVec 32 := 0#32
  let v122 : BitVec 1 := Scalar.cmpi .ne v121 c0_i32_54
  v122

def k0_cond15 (i : grid0.Coords) : BitVec 1 :=
  let arg0 : BitVec 32 := BitVec.ofNat 32 (i 0).val
  let c28_i32_63 : BitVec 32 := 28#32
  let v137 : BitVec 1 := Scalar.cmpi .sge arg0 c28_i32_63
  let c32_i32_64 : BitVec 32 := 32#32
  let v138 : BitVec 1 := Scalar.cmpi .slt arg0 c32_i32_64
  let v139 : BitVec 1 := Scalar.andi v137 v138
  let v140 : BitVec 32 := Scalar.extui v139
  let c0_i32_65 : BitVec 32 := 0#32
  let v141 : BitVec 1 := Scalar.cmpi .ne v140 c0_i32_65
  v141

def k0_cond4 (i : grid0.Coords) : BitVec 1 :=
  let arg0 : BitVec 32 := BitVec.ofNat 32 (i 0).val
  let c32_i32_22 : BitVec 32 := 32#32
  let v66 : BitVec 1 := Scalar.cmpi .sge arg0 c32_i32_22
  let v67 : BitVec 32 := Scalar.extui v66
  let c0_i32_23 : BitVec 32 := 0#32
  let v68 : BitVec 1 := Scalar.cmpi .ne v67 c0_i32_23
  v68

def k0_cond7 (i : grid0.Coords) : BitVec 1 :=
  let arg0 : BitVec 32 := BitVec.ofNat 32 (i 0).val
  let c32_i32_33 : BitVec 32 := 32#32
  let v85 : BitVec 1 := Scalar.cmpi .sge arg0 c32_i32_33
  let v86 : BitVec 32 := Scalar.extui v85
  let c0_i32_34 : BitVec 32 := 0#32
  let v87 : BitVec 1 := Scalar.cmpi .ne v86 c0_i32_34
  v87

def k0_cond10 (i : grid0.Coords) : BitVec 1 :=
  let arg0 : BitVec 32 := BitVec.ofNat 32 (i 0).val
  let c32_i32_44 : BitVec 32 := 32#32
  let v104 : BitVec 1 := Scalar.cmpi .sge arg0 c32_i32_44
  let v105 : BitVec 32 := Scalar.extui v104
  let c0_i32_45 : BitVec 32 := 0#32
  let v106 : BitVec 1 := Scalar.cmpi .ne v105 c0_i32_45
  v106

def k0_cond13 (i : grid0.Coords) : BitVec 1 :=
  let arg0 : BitVec 32 := BitVec.ofNat 32 (i 0).val
  let c32_i32_55 : BitVec 32 := 32#32
  let v123 : BitVec 1 := Scalar.cmpi .sge arg0 c32_i32_55
  let v124 : BitVec 32 := Scalar.extui v123
  let c0_i32_56 : BitVec 32 := 0#32
  let v125 : BitVec 1 := Scalar.cmpi .ne v124 c0_i32_56
  v125

def k0_cond16 (i : grid0.Coords) : BitVec 1 :=
  let arg0 : BitVec 32 := BitVec.ofNat 32 (i 0).val
  let c32_i32_66 : BitVec 32 := 32#32
  let v142 : BitVec 1 := Scalar.cmpi .sge arg0 c32_i32_66
  let v143 : BitVec 32 := Scalar.extui v142
  let c0_i32_67 : BitVec 32 := 0#32
  let v144 : BitVec 1 := Scalar.cmpi .ne v143 c0_i32_67
  v144

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_13 : BitVec 32 := 0#32
  let v49 : BitVec 1 := Scalar.cmpi .ne v48 c0_i32_13
  v49

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c28_i32 : BitVec 32 := 28#32
  let v0 : BitVec 32 := Scalar.subi arg0 c28_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c28_i32 : BitVec 32 := 28#32
  let v0 : BitVec 32 := Scalar.subi arg0 c28_i32
  let c4_i32 : BitVec 32 := 4#32
  let v1 : BitVec 32 := Scalar.subi v0 c4_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1920 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1920 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkvRefIdeal.lean ====
abbrev S1920x7168 : Shape := ⟨2, ![1920, 7168]⟩
abbrev S3584x9216 : Shape := ⟨2, ![3584, 9216]⟩
abbrev S448x9216 : Shape := ⟨2, ![448, 9216]⟩
abbrev S2 : Shape := ⟨1, ![2]⟩
abbrev S1x9216 : Shape := ⟨2, ![1, 9216]⟩
abbrev S32x1920 : Shape := ⟨2, ![32, 1920]⟩
abbrev S7168x1920 : Shape := ⟨2, ![7168, 1920]⟩
abbrev S1024x1920 : Shape := ⟨2, ![1024, 1920]⟩
abbrev S8x128 : Shape := ⟨2, ![8, 128]⟩
abbrev S3584x1x9216 : Shape := ⟨3, ![3584, 1, 9216]⟩
abbrev S3584x2x9216 : Shape := ⟨3, ![3584, 2, 9216]⟩
abbrev S448x16x9216 : Shape := ⟨3, ![448, 16, 9216]⟩
abbrev S448x1x9216 : Shape := ⟨3, ![448, 1, 9216]⟩
abbrev S7168x9216 : Shape := ⟨2, ![7168, 9216]⟩
abbrev S1920x9216 : Shape := ⟨2, ![1920, 9216]⟩
abbrev S1 : Shape := ⟨1, ![1]⟩
abbrev S1920x32 : Shape := ⟨2, ![1920, 32]⟩
abbrev S1920x1x32 : Shape := ⟨3, ![1920, 1, 32]⟩
abbrev S1920x112x64 : Shape := ⟨3, ![1920, 112, 64]⟩
abbrev S1920x112x32 : Shape := ⟨3, ![1920, 112, 32]⟩
abbrev S1920x1024 : Shape := ⟨2, ![1920, 1024]⟩
abbrev S1920x16x64 : Shape := ⟨3, ![1920, 16, 64]⟩
abbrev S1920x16x32 : Shape := ⟨3, ![1920, 16, 32]⟩
abbrev S1x1920x1024 : Shape := ⟨3, ![1, 1920, 1024]⟩
abbrev S1x1x1 : Shape := ⟨3, ![1, 1, 1]⟩

abbrev nBuf : Space → Nat
  | .hbm => 12
  | .vmem => 11
  | .smem => 1
  | _ => 0

abbrev bufTy : (tb : Table) → Fin (tcTables nBuf tb) → BufTy
  | .hbm, ⟨0, _⟩ => ⟨S1920x7168, .bf16⟩
  | .hbm, ⟨1, _⟩ => ⟨S3584x9216, .i8⟩
  | .hbm, ⟨2, _⟩ => ⟨S448x9216, .fp8e4m3⟩
  | .hbm, ⟨3, _⟩ => ⟨S2, .f32⟩
  | .hbm, ⟨4, _⟩ => ⟨S1x9216, .f32⟩
  | .hbm, ⟨5, _⟩ => ⟨S32x1920, .f32⟩
  | .hbm, ⟨6, _⟩ => ⟨S32x1920, .f32⟩
  | .hbm, ⟨7, _⟩ => ⟨S7168x1920, .bf16⟩
  | .hbm, ⟨8, _⟩ => ⟨S1024x1920, .f32⟩
  | .hbm, ⟨9, _⟩ => ⟨S1024x1920, .f32⟩
  | .hbm, ⟨10, _⟩ => ⟨S8x128, .f32⟩
  | .hbm, ⟨11, _⟩ => ⟨S8x128, .f32⟩
  | .local _ .vmem, ⟨0, _⟩ => ⟨S1920x7168, .bf16⟩
  | .local _ .vmem, ⟨1, _⟩ => ⟨S3584x9216, .i8⟩
  | .local _ .vmem, ⟨2, _⟩ => ⟨S448x9216, .fp8e4m3⟩
  | .local _ .vmem, ⟨3, _⟩ => ⟨S1x9216, .f32⟩
  | .local _ .vmem, ⟨4, _⟩ => ⟨S32x1920, .f32⟩
  | .local _ .vmem, ⟨5, _⟩ => ⟨S32x1920, .f32⟩
  | .local _ .vmem, ⟨6, _⟩ => ⟨S7168x1920, .bf16⟩
  | .local _ .vmem, ⟨7, _⟩ => ⟨S1024x1920, .f32⟩
  | .local _ .vmem, ⟨8, _⟩ => ⟨S1024x1920, .f32⟩
  | .local _ .vmem, ⟨9, _⟩ => ⟨S8x128, .f32⟩
  | .local _ .vmem, ⟨10, _⟩ => ⟨S8x128, .f32⟩
  | .local _ .smem, ⟨0, _⟩ => ⟨S2, .f32⟩
  | _, _ => ⟨S1920x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1920x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x9216 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x1920 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1920 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Kv.lean ====
abbrev S3 : Shape := ⟨1, ![3]⟩
abbrev S1024x1920 : Shape := ⟨2, ![1024, 1920]⟩
abbrev S8x128 : Shape := ⟨2, ![8, 128]⟩
abbrev S1920x512 : Shape := ⟨2, ![1920, 512]⟩
abbrev S1920x64 : Shape := ⟨2, ![1920, 64]⟩
abbrev S1x1 : Shape := ⟨2, ![1, 1]⟩
abbrev S384x512 : Shape := ⟨2, ![384, 512]⟩
abbrev S384x64 : Shape := ⟨2, ![384, 64]⟩
abbrev S1024x128 : Shape := ⟨2, ![1024, 128]⟩
abbrev S128x512 : Shape := ⟨2, ![128, 512]⟩
abbrev S128x64 : Shape := ⟨2, ![128, 64]⟩
abbrev S1 : Shape := ⟨1, ![1]⟩
abbrev S8 : Shape := ⟨1, ![8]⟩
abbrev S8x1 : Shape := ⟨2, ![8, 1]⟩
abbrev S64x16x128 : Shape := ⟨3, ![64, 16, 128]⟩
abbrev S64x128 : Shape := ⟨2, ![64, 128]⟩
abbrev S64x1x128 : Shape := ⟨3, ![64, 1, 128]⟩
abbrev S512x2x128 : Shape := ⟨3, ![512, 2, 128]⟩
abbrev S512x1x128 : Shape := ⟨3, ![512, 1, 128]⟩
abbrev S512x128 : Shape := ⟨2, ![512, 128]⟩
abbrev S128x128 : Shape := ⟨2, ![128, 128]⟩

abbrev nBuf : Space → Nat
  | .hbm => 17
  | .vmem => 28
  | .smem => 1
  | _ => 0

abbrev bufTy : (tb : Table) → Fin (tcTables nBuf tb) → BufTy
  | .hbm, ⟨0, _⟩ => ⟨S3, .i32⟩
  | .hbm, ⟨1, _⟩ => ⟨S1024x1920, .f32⟩
  | .hbm, ⟨2, _⟩ => ⟨S1024x1920, .f32⟩
  | .hbm, ⟨3, _⟩ => ⟨S8x128, .f32⟩
  | .hbm, ⟨4, _⟩ => ⟨S8x128, .f32⟩
  | .hbm, ⟨5, _⟩ => ⟨S1024x1920, .bf16⟩
  | .hbm, ⟨6, _⟩ => ⟨S1024x1920, .bf16⟩
  | .hbm, ⟨7, _⟩ => ⟨S1920x512, .i8⟩
  | .hbm, ⟨8, _⟩ => ⟨S1920x64, .fp8e4m3⟩
  | .hbm, ⟨9, _⟩ => ⟨S1920x512, .i8⟩
  | .hbm, ⟨10, _⟩ => ⟨S1920x64, .fp8e4m3⟩
  | .hbm, ⟨11, _⟩ => ⟨S1x1, .f32⟩
  | .hbm, ⟨12, _⟩ => ⟨S1x1, .f32⟩
  | .hbm, ⟨13, _⟩ => ⟨S384x512, .i8⟩
  | .hbm, ⟨14, _⟩ => ⟨S384x64, .fp8e4m3⟩
  | .hbm, ⟨15, _⟩ => ⟨S384x512, .i8⟩
  | .hbm, ⟨16, _⟩ => ⟨S384x64, .fp8e4m3⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S8x128, .f32⟩
  | .local _ .vmem, ⟨5, _⟩ => ⟨S8x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S128x512, .i8⟩
  | .local _ .vmem, ⟨11, _⟩ => ⟨S128x512, .i8⟩
  | .local _ .vmem, ⟨12, _⟩ => ⟨S128x64, .fp8e4m3⟩
  | .local _ .vmem, ⟨13, _⟩ => ⟨S128x64, .fp8e4m3⟩
  | .local _ .vmem, ⟨14, _⟩ => ⟨S128x512, .i8⟩
  | .local _ .vmem, ⟨15, _⟩ => ⟨S128x512, .i8⟩
  | .local _ .vmem, ⟨16, _⟩ => ⟨S128x64, .fp8e4m3⟩
  | .local _ .vmem, ⟨17, _⟩ => ⟨S128x64, .fp8e4m3⟩
  | .local _ .vmem, ⟨18, _⟩ => ⟨S1x1, .f32⟩
  | .local _ .vmem, ⟨19, _⟩ => ⟨S1x1, .f32⟩
  | .local _ .vmem, ⟨20, _⟩ => ⟨S128x512, .i8⟩
  | .local _ .vmem, ⟨21, _⟩ => ⟨S128x512, .i8⟩
  | .local _ .vmem, ⟨22, _⟩ => ⟨S128x64, .fp8e4m3⟩
  | .local _ .vmem, ⟨23, _⟩ => ⟨S128x64, .fp8e4m3⟩
  | .local _ .vmem, ⟨24, _⟩ => ⟨S128x512, .i8⟩
  | .local _ .vmem, ⟨25, _⟩ => ⟨S128x512, .i8⟩
  | .local _ .vmem, ⟨26, _⟩ => ⟨S128x64, .fp8e4m3⟩
  | .local _ .vmem, ⟨27, _⟩ => ⟨S128x64, .fp8e4m3⟩
  | .local _ .smem, ⟨0, _⟩ => ⟨S3, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev main_v0_10 : Ref sig .tc := ⟨.hbm, 15, rfl⟩
abbrev main_v0_11 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![15], ![false]⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c5_i32 : BitVec 32 := 5#32
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let v0 : BitVec 32 := Scalar.divsi arg0 c5_i32
  let c1_i32 : BitVec 32 := 1#32
  let v15 : BitVec 32 := Scalar.subi v0 c1_i32
  let v16 : BitVec 32 := Scalar.select v14 v15 v0
  let v17 : Index := Scalar.indexCast v16
  ![v17.toNat]
def k0_cond1 (i : grid0.Coords) : BitVec 1 :=
  let arg0 : BitVec 32 := BitVec.ofNat 32 (i 0).val
  let c5_i32_4 : BitVec 32 := 5#32
  let c0_i32_5 : BitVec 32 := 0#32
  let v19 : BitVec 1 := Scalar.cmpi .eq c5_i32_4 c0_i32_5
  let c1_i32_6 : BitVec 32 := 1#32
  let v20 : BitVec 32 := Scalar.select v19 c1_i32_6 c5_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 1 := Scalar.cmpi .eq v28 c4_i32
  let v165 : BitVec 32 := Scalar.extui v29
  let c0_i32_50 : BitVec 32 := 0#32
  let v166 : BitVec 1 := Scalar.cmpi .ne v165 c0_i32_50
  v166

def k0_cond2 (i : grid0.Coords) : BitVec 1 :=
  let arg0 : BitVec 32 := BitVec.ofNat 32 (i 0).val
  let c5_i32_4 : BitVec 32 := 5#32
  let c0_i32_5 : BitVec 32 := 0#32
  let v19 : BitVec 1 := Scalar.cmpi .eq c5_i32_4 c0_i32_5
  let c1_i32_6 : BitVec 32 := 1#32
  let v20 : BitVec 32 := Scalar.select v19 c1_i32_6 c5_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 1 := Scalar.cmpi .eq v28 c4_i32
  let v301 : BitVec 32 := Scalar.extui v29
  let c0_i32_100 : BitVec 32 := 0#32
  let v302 : BitVec 1 := Scalar.cmpi .ne v301 c0_i32_100
  v302

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x64 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x64 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x64 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KvIdeal.lean ====
variable {F : FTy → Type} [FloatOps F] [Named F]
def κ : String → Option EReal := fun
  | "sixth" => some ((4097 / 24576 : ℝ) : EReal)
  | _ => none
-- ==== KvRefIdeal.lean ====
abbrev S3 : Shape := ⟨1, ![3]⟩
abbrev S1024x1920 : Shape := ⟨2, ![1024, 1920]⟩
abbrev S8x128 : Shape := ⟨2, ![8, 128]⟩
abbrev S1920x512 : Shape := ⟨2, ![1920, 512]⟩
abbrev S1920x64 : Shape := ⟨2, ![1920, 64]⟩
abbrev S1x1 : Shape := ⟨2, ![1, 1]⟩
abbrev S384x512 : Shape := ⟨2, ![384, 512]⟩
abbrev S384x64 : Shape := ⟨2, ![384, 64]⟩
abbrev S1920x1024 : Shape := ⟨2, ![1920, 1024]⟩
abbrev S1x128 : Shape := ⟨2, ![1, 128]⟩
abbrev S1 : Shape := ⟨1, ![1]⟩
abbrev S1920x64x16 : Shape := ⟨3, ![1920, 64, 16]⟩
abbrev S1920x64x1 : Shape := ⟨3, ![1920, 64, 1]⟩
abbrev S1920x512x2 : Shape := ⟨3, ![1920, 512, 2]⟩
abbrev S1920x512x1 : Shape := ⟨3, ![1920, 512, 1]⟩
abbrev S128x512 : Shape := ⟨2, ![128, 512]⟩
abbrev S512x128 : Shape := ⟨2, ![512, 128]⟩
abbrev S512x128x1 : Shape := ⟨3, ![512, 128, 1]⟩
abbrev S128x64 : Shape := ⟨2, ![128, 64]⟩
abbrev S64x128 : Shape := ⟨2, ![64, 128]⟩
abbrev S64x128x1 : Shape := ⟨3, ![64, 128, 1]⟩

abbrev nBuf : Space → Nat
  | .hbm => 17
  | .vmem => 16
  | .smem => 1
  | _ => 0

abbrev bufTy : (tb : Table) → Fin (tcTables nBuf tb) → BufTy
  | .hbm, ⟨0, _⟩ => ⟨S3, .i32⟩
  | .hbm, ⟨1, _⟩ => ⟨S1024x1920, .f32⟩
  | .hbm, ⟨2, _⟩ => ⟨S1024x1920, .f32⟩
  | .hbm, ⟨3, _⟩ => ⟨S8x128, .f32⟩
  | .hbm, ⟨4, _⟩ => ⟨S8x128, .f32⟩
  | .hbm, ⟨5, _⟩ => ⟨S1024x1920, .bf16⟩
  | .hbm, ⟨6, _⟩ => ⟨S1024x1920, .bf16⟩
  | .hbm, ⟨7, _⟩ => ⟨S1920x512, .i8⟩
  | .hbm, ⟨8, _⟩ => ⟨S1920x64, .fp8e4m3⟩
  | .hbm, ⟨9, _⟩ => ⟨S1920x512, .i8⟩
  | .hbm, ⟨10, _⟩ => ⟨S1920x64, .fp8e4m3⟩
  | .hbm, ⟨11, _⟩ => ⟨S1x1, .f32⟩
  | .hbm, ⟨12, _⟩ => ⟨S1x1, .f32⟩
  | .hbm, ⟨13, _⟩ => ⟨S384x512, .i8⟩
  | .hbm, ⟨14, _⟩ => ⟨S384x64, .fp8e4m3⟩
  | .hbm, ⟨15, _⟩ => ⟨S384x512, .i8⟩
  | .hbm, ⟨16, _⟩ => ⟨S384x64, .fp8e4m3⟩
  | .local _ .vmem, ⟨0, _⟩ => ⟨S1024x1920, .f32⟩
  | .local _ .vmem, ⟨1, _⟩ => ⟨S1024x1920, .f32⟩
  | .local _ .vmem, ⟨2, _⟩ => ⟨S8x128, .f32⟩
  | .local _ .vmem, ⟨3, _⟩ => ⟨S8x128, .f32⟩
  | .local _ .vmem, ⟨4, _⟩ => ⟨S1024x1920, .bf16⟩
  | .local _ .vmem, ⟨5, _⟩ => ⟨S1024x1920, .bf16⟩
  | .local _ .vmem, ⟨6, _⟩ => ⟨S1920x512, .i8⟩
  | .local _ .vmem, ⟨7, _⟩ => ⟨S1920x64, .fp8e4m3⟩
  | .local _ .vmem, ⟨8, _⟩ => ⟨S1920x512, .i8⟩
  | .local _ .vmem, ⟨9, _⟩ => ⟨S1920x64, .fp8e4m3⟩
  | .local _ .vmem, ⟨10, _⟩ => ⟨S1x1, .f32⟩
  | .local _ .vmem, ⟨11, _⟩ => ⟨S1x1, .f32⟩
  | .local _ .vmem, ⟨12, _⟩ => ⟨S384x512, .i8⟩
  | .local _ .vmem, ⟨13, _⟩ => ⟨S384x64, .fp8e4m3⟩
  | .local _ .vmem, ⟨14, _⟩ => ⟨S384x512, .i8⟩
  | .local _ .vmem, ⟨15, _⟩ => ⟨S384x64, .fp8e4m3⟩
  | .local _ .smem, ⟨0, _⟩ => ⟨S3, .i32⟩
  | _, _ => ⟨S3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev main_v0_10 : Ref sig .tc := ⟨.hbm, 15, rfl⟩
abbrev main_v0_11 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1920 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x512 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S384x512 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S384x64 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S384x512 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S384x64 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Qa.lean ====
abbrev S7168x1920 : Shape := ⟨2, ![7168, 1920]⟩
abbrev S8x128 : Shape := ⟨2, ![8, 128]⟩
abbrev S1920x7168 : Shape := ⟨2, ![1920, 7168]⟩
abbrev S1920x3584 : Shape := ⟨2, ![1920, 3584]⟩
abbrev S1920x448 : Shape := ⟨2, ![1920, 448]⟩
abbrev S1x1 : Shape := ⟨2, ![1, 1]⟩
abbrev S7168x128 : Shape := ⟨2, ![7168, 128]⟩
abbrev S128x7168 : Shape := ⟨2, ![128, 7168]⟩
abbrev S128x3584 : Shape := ⟨2, ![128, 3584]⟩
abbrev S128x448 : Shape := ⟨2, ![128, 448]⟩
abbrev S128 : Shape := ⟨1, ![128]⟩
abbrev S1x128 : Shape := ⟨2, ![1, 128]⟩
abbrev S1 : Shape := ⟨1, ![1]⟩
abbrev S256x128 : Shape := ⟨2, ![256, 128]⟩
abbrev S128x256 : Shape := ⟨2, ![128, 256]⟩
abbrev S16x16x128 : Shape := ⟨3, ![16, 16, 128]⟩
abbrev S16x128 : Shape := ⟨2, ![16, 128]⟩
abbrev S16x1x128 : Shape := ⟨3, ![16, 1, 128]⟩
abbrev S128x2x128 : Shape := ⟨3, ![128, 2, 128]⟩
abbrev S128x1x128 : Shape := ⟨3, ![128, 1, 128]⟩
abbrev S128x128 : Shape := ⟨2, ![128, 128]⟩
abbrev S32x128 : Shape := ⟨2, ![32, 128]⟩
abbrev S448x128 : Shape := ⟨2, ![448, 128]⟩

abbrev nBuf : Space → Nat
  | .hbm => 7
  | .vmem => 12
  | .smem => 0
  | _ => 0

abbrev bufTy : (tb : Table) → Fin (tcTables nBuf tb) → BufTy
  | .hbm, ⟨0, _⟩ => ⟨S7168x1920, .f32⟩
  | .hbm, ⟨1, _⟩ => ⟨S8x128, .f32⟩
  | .hbm, ⟨2, _⟩ => ⟨S1920x7168, .bf16⟩
  | .hbm, ⟨3, _⟩ => ⟨S1920x7168, .bf16⟩
  | .hbm, ⟨4, _⟩ => ⟨S1920x3584, .i8⟩
  | .hbm, ⟨5, _⟩ => ⟨S1920x448, .fp8e4m3⟩
  | .hbm, ⟨6, _⟩ => ⟨S1x1, .f32⟩
  | .local _ .vmem, ⟨0, _⟩ => ⟨S7168x128, .f32⟩
  | .local _ .vmem, ⟨1, _⟩ => ⟨S7168x128, .f32⟩
  | .local _ .vmem, ⟨2, _⟩ => ⟨S8x128, .f32⟩
  | .local _ .vmem, ⟨3, _⟩ => ⟨S128x7168, .bf16⟩
  | .local _ .vmem, ⟨4, _⟩ => ⟨S128x7168, .bf16⟩
  | .local _ .vmem, ⟨5, _⟩ => ⟨S128x7168, .bf16⟩
  | .local _ .vmem, ⟨6, _⟩ => ⟨S128x7168, .bf16⟩
  | .local _ .vmem, ⟨7, _⟩ => ⟨S128x3584, .i8⟩
  | .local _ .vmem, ⟨8, _⟩ => ⟨S128x3584, .i8⟩
  | .local _ .vmem, ⟨9, _⟩ => ⟨S128x448, .fp8e4m3⟩
  | .local _ .vmem, ⟨10, _⟩ => ⟨S128x448, .fp8e4m3⟩
  | .local _ .vmem, ⟨11, _⟩ => ⟨S1x1, .f32⟩
  | _, _ => ⟨S7168x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x448 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QaIdeal.lean ====
variable {F : FTy → Type} [FloatOps F] [Named F]
def κ : String → Option EReal := fun
  | "sixth" => some ((4097 / 24576 : ℝ) : EReal)
  | _ => none
-- ==== QaRefIdeal.lean ====
abbrev S7168x1920 : Shape := ⟨2, ![7168, 1920]⟩
abbrev S8x128 : Shape := ⟨2, ![8, 128]⟩
abbrev S1920x7168 : Shape := ⟨2, ![1920, 7168]⟩
abbrev S1920x3584 : Shape := ⟨2, ![1920, 3584]⟩
abbrev S1920x448 : Shape := ⟨2, ![1920, 448]⟩
abbrev S1x1 : Shape := ⟨2, ![1, 1]⟩
abbrev S8 : Shape := ⟨1, ![8]⟩
abbrev S8x1 : Shape := ⟨2, ![8, 1]⟩
abbrev S1 : Shape := ⟨1, ![1]⟩
abbrev S1920x448x16 : Shape := ⟨3, ![1920, 448, 16]⟩
abbrev S1920x448x1 : Shape := ⟨3, ![1920, 448, 1]⟩
abbrev S1920x3584x2 : Shape := ⟨3, ![1920, 3584, 2]⟩
abbrev S1920x3584x1 : Shape := ⟨3, ![1920, 3584, 1]⟩

abbrev nBuf : Space → Nat
  | .hbm => 7
  | .vmem => 7
  | .smem => 0
  | _ => 0

abbrev bufTy : (tb : Table) → Fin (tcTables nBuf tb) → BufTy
  | .hbm, ⟨0, _⟩ => ⟨S7168x1920, .f32⟩
  | .hbm, ⟨1, _⟩ => ⟨S8x128, .f32⟩
  | .hbm, ⟨2, _⟩ => ⟨S1920x7168, .bf16⟩
  | .hbm, ⟨3, _⟩ => ⟨S1920x7168, .bf16⟩
  | .hbm, ⟨4, _⟩ => ⟨S1920x3584, .i8⟩
  | .hbm, ⟨5, _⟩ => ⟨S1920x448, .fp8e4m3⟩
  | .hbm, ⟨6, _⟩ => ⟨S1x1, .f32⟩
  | .local _ .vmem, ⟨0, _⟩ => ⟨S7168x1920, .f32⟩
  | .local _ .vmem, ⟨1, _⟩ => ⟨S8x128, .f32⟩
  | .local _ .vmem, ⟨2, _⟩ => ⟨S1920x7168, .bf16⟩
  | .local _ .vmem, ⟨3, _⟩ => ⟨S1920x7168, .bf16⟩
  | .local _ .vmem, ⟨4, _⟩ => ⟨S1920x3584, .i8⟩
  | .local _ .vmem, ⟨5, _⟩ => ⟨S1920x448, .fp8e4m3⟩
  | .local _ .vmem, ⟨6, _⟩ => ⟨S1x1, .f32⟩
  | _, _ => ⟨S7168x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7168x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x448 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Fp4.lean ====
/-
  The four-bit float format as arithmetic over the extended reals. A weight byte packs two codes, the low nibble first; a
  code is a sign bit and a magnitude 0..7 standing for 0, 1/2, 1, 3/2, 2, 3, 4, 6. The kernel decodes the value itself and
  multiplies by the block scale; the reference decodes TWICE the value and multiplies by half the scale. Here: both
  decodings as functions of the packed byte, and that the two weights they give are one.
-/
module

public import Idealize.ShloMosaic.Lib.Pointwise

@[expose] public section

noncomputable section

namespace Cert.Fp4

open Idealize.ShloMosaic

/-- The code of row `k` in the byte `b` that packs rows `2·⌊k/2⌋` (low nibble) and `2·⌊k/2⌋ + 1` (high nibble). -/
def nib (b : BitVec 8) (k : ℕ) : BitVec 32 :=
  if _h : k % 2 < 1 then IntOp.andi (BitVec.setWidth 32 b) 15#32 else IntOp.shrsi ArithUnit.vector (BitVec.setWidth 32 b) 4#32

/-- The magnitude's bits of a code, as an extended real. -/
abbrev mag (f : BitVec 32) : EReal := FloatOps.sitofp (F := Ideal) FTy.f32 (IntOp.andi f 7#32)

/-- The magnitude as the kernel decodes it. -/
abbrev absK (f : BitVec 32) : EReal :=
  Scalar.select (IntOp.cmpi CmpIPredicate.slt (IntOp.andi f 7#32) 4#32) (mag f * Ideal.ofBits FTy.f32 1056964608#32)
    (Scalar.select (IntOp.cmpi CmpIPredicate.slt (IntOp.andi f 7#32) 6#32) (mag f - Ideal.ofBits FTy.f32 1073741824#32)
      (mag f * Ideal.ofBits FTy.f32 1073741824#32 - Ideal.ofBits FTy.f32 1090519040#32))

/-- The value of a code as the kernel decodes it. -/
abbrev valK (f : BitVec 32) : EReal :=
  Scalar.select (IntOp.cmpi CmpIPredicate.slt f 8#32) (absK f) (0 - absK f)

/-- Twice the magnitude as the reference decodes it. -/
abbrev absR (f : BitVec 32) : EReal :=
  Scalar.select (IntOp.cmpi CmpIPredicate.slt (IntOp.andi f 7#32) 4#32) (mag f)
    (Scalar.select (IntOp.cmpi CmpIPredicate.slt (IntOp.andi f 7#32) 6#32)
      (Ideal.ofBits FTy.f32 1073741824#32 * mag f - Ideal.ofBits FTy.f32 1082130432#32)
      (Ideal.ofBits FTy.f32 1082130432#32 * mag f - Ideal.ofBits FTy.f32 1098907648#32))

/-- Twice the value of a code as the reference decodes it. -/
abbrev valR (f : BitVec 32) : EReal :=
  Scalar.select (IntOp.cmpi CmpIPredicate.ne (IntOp.andi f 8#32) 0#32) (0 - absR f) (absR f)

/-- A code is one of sixteen. -/
theorem nib_cases (b : BitVec 8) (k : ℕ) : ∃ n : Fin 16, nib b k = BitVec.ofNat 32 n := by
  have h1 : ∀ b : BitVec 8, ∃ n : Fin 16, IntOp.andi (BitVec.setWidth 32 b) 15#32 = BitVec.ofNat 32 n := by decide +kernel
  have h2 : ∀ b : BitVec 8, ∃ n : Fin 16, IntOp.shrsi ArithUnit.vector (BitVec.setWidth 32 b) 4#32 = BitVec.ofNat 32 n := by
    decide +kernel
  unfold nib
  split
  · exact h1 b
  · exact h2 b

/-- The constant one half, as an f32 word. -/
theorem c_half : Ideal.ofBits FTy.f32 1056964608#32 = ((1 / 2 : ℝ) : EReal) := by
  simp [Ideal.ofBits, Ideal.ieee, -EReal.coe_mul]; norm_num
/-- The constant two. -/
theorem c_two : Ideal.ofBits FTy.f32 1073741824#32 = ((2 : ℝ) : EReal) := by
  simp [Ideal.ofBits, Ideal.ieee, -EReal.coe_mul]; norm_num
/-- The constant four. -/
theorem c_four : Ideal.ofBits FTy.f32 1082130432#32 = ((4 : ℝ) : EReal) := by
  simp [Ideal.ofBits, Ideal.ieee, -EReal.coe_mul]; norm_num
/-- The constant eight. -/
theorem c_eight : Ideal.ofBits FTy.f32 1090519040#32 = ((8 : ℝ) : EReal) := by
  simp [Ideal.ofBits, Ideal.ieee, -EReal.coe_mul]; norm_num
/-- The constant sixteen. -/
theorem c_sixteen : Ideal.ofBits FTy.f32 1098907648#32 = ((16 : ℝ) : EReal) := by
  simp [Ideal.ofBits, Ideal.ieee, -EReal.coe_mul]; norm_num
/-- The constant one half, as a bf16 word. -/
theorem c_half16 : Ideal.ofBits FTy.bf16 16128#16 = ((1 / 2 : ℝ) : EReal) := by
  simp [Ideal.ofBits, Ideal.ieee, -EReal.coe_mul]; norm_num

/-- The reference's decoded code is a real number, and the kernel's is half of it. -/
theorem val_half (b : BitVec 8) (k : ℕ) : ∃ r : ℝ, valR (nib b k) = (r : EReal) ∧ valK (nib b k) = ((r * (1 / 2) : ℝ) : EReal) := by
  obtain ⟨n, hn⟩ := nib_cases b k
  rw [hn]
  have e : ∀ f : BitVec 32, mag f = (((IntOp.andi f 7#32).toInt : ℝ) : EReal) := fun _ => rfl
  have z : (0 : EReal) = ((0 : ℝ) : EReal) := rfl
  fin_cases n
  all_goals
    simp only [valR, valK, absR, absK, e, c_half, c_two, c_four, c_eight, c_sixteen, z, ← EReal.coe_mul, ← EReal.coe_sub]
    simp [Scalar.select, IntOp.cmpi, IntOp.andi, -EReal.coe_mul, -EReal.coe_sub, -EReal.coe_neg, -EReal.coe_zero, -EReal.coe_one]
    try norm_num
    try
      simp only [← EReal.coe_one, ← EReal.coe_neg, ← EReal.coe_mul, EReal.coe_eq_coe_iff]
      exact ⟨_, rfl, by norm_num⟩

/-- The two weights are one: the kernel's decoded code times the block scale is the reference's doubled code times half
    the scale. -/
theorem weight_eq (b : BitVec 8) (k : ℕ) (s : EReal) :
    valR (nib b k) * (s * Ideal.ofBits FTy.bf16 16128#16) = valK (nib b k) * s := by
  obtain ⟨r, hr, hk⟩ := val_half b k
  rw [hr, hk, c_half16, EReal.coe_mul, mul_comm s, mul_assoc]

/-- Row `k`, column `j` of the dequantised weight matrix held as packed codes (row `k` in byte row `k/2`) and one scale
    per block of sixteen rows. -/
def wt {N : ℕ} (codes : Vec Ideal ⟨2, ![3584, N]⟩ .i8) (scale : Vec Ideal ⟨2, ![448, N]⟩ .fp8e4m3) (k : Fin 7168) (j : Fin N) : EReal :=
  valK (nib (codes (ix2 (⟨k / 2, by omega⟩ : Fin 3584) j)) k) * scale (ix2 (⟨k / 16, by omega⟩ : Fin 448) j)

/-- The same weight as the reference decodes it, the row read as a block of sixteen and a place in it. -/
theorem ref_wt {N : ℕ} (codes : Vec Ideal ⟨2, ![3584, N]⟩ .i8) (scale : Vec Ideal ⟨2, ![448, N]⟩ .fp8e4m3) (k : Fin 7168) (j : Fin N)
    (h : (k : ℕ) / 16 * 8 + (k : ℕ) % 16 / 2 < 3584) (h' : (k : ℕ) / 16 < 448) :
    valR (nib (codes (ix2 (⟨(k : ℕ) / 16 * 8 + (k : ℕ) % 16 / 2, h⟩ : Fin 3584) j)) ((k : ℕ) % 16))
      * (scale (ix2 (⟨(k : ℕ) / 16, h'⟩ : Fin 448) j) * Ideal.ofBits FTy.bf16 16128#16) = wt codes scale k j := by
  rw [weight_eq]
  have e1 : (⟨(k : ℕ) / 16 * 8 + (k : ℕ) % 16 / 2, h⟩ : Fin 3584) = ⟨k / 2, by omega⟩ := Fin.ext (show (k : ℕ) / 16 * 8 + (k : ℕ) % 16 / 2 = (k : ℕ) / 2 by omega)
  have e2 : ∀ b, nib b ((k : ℕ) % 16) = nib b k := fun b => by
    unfold nib; rw [show (k : ℕ) % 16 % 2 = (k : ℕ) % 2 by omega]
  rw [e1, e2]
  rfl

end Cert.Fp4
end
-- ==== Proof.OutSpec.lean ====
/-
  The output projection as one function of its six arguments over the extended reals: the residual input plus the product
  of the activations with the dequantised weights, scaled by the two tensor scales, plus the bias.
-/
module

public import proofs.«01_k».proof.Proof.Fp4

@[expose] public section

noncomputable section

namespace Cert.OutSpec

open Idealize.ShloMosaic Cert.Fp4

/-- One element of the output projection, from a row of activations, a column of weights, the product of the two tensor
    scales, the column's bias and the residual. -/
def elem (a : Fin 7168 → EReal) (w : Fin 7168 → EReal) (s b x : EReal) : EReal := x + ((∑ k, a k * w k) * s + b)

/-- The output projection. -/
def out (a : Vec Ideal ⟨2, ![1920, 7168]⟩ .bf16) (codes : Vec Ideal ⟨2, ![3584, 7168]⟩ .i8) (scale : Vec Ideal ⟨2, ![448, 7168]⟩ .fp8e4m3)
    (ts : Vec Ideal ⟨1, ![2]⟩ .f32) (b : Vec Ideal ⟨2, ![1, 7168]⟩ .f32) (x : Vec Ideal ⟨2, ![1920, 7168]⟩ .bf16) :
    Vec Ideal ⟨2, ![1920, 7168]⟩ .bf16 :=
  fun i => elem (fun k => a (ix2 (i 0) k)) (fun k => wt codes scale k (i 1)) (ts (ix1 0) * ts (ix1 1)) (b (ix2 0 (i 1))) (x i)

end Cert.OutSpec
end
-- ==== Proof.OutKernel.lean ====
/-
  The output-projection kernel over the extended reals: what one block of the grid computes, and that the result array
  ends holding the projection (`OutSpec.out`) of the arguments.
-/
module

public import proofs.«01_k».proof.Proof.Gen.OutIdeal.Value
public import proofs.«01_k».proof.Proof.OutSpec
public import Idealize.ShloMosaic.Lib.Pipeline.ValueKit

@[expose] public section

set_option maxRecDepth 16384

noncomputable section

namespace Cert.OutIdeal.Block

open Cert.OutIdeal Cert.OutIdeal.Gen Cert.OutIdeal.Value Idealize.ShloMosaic Idealize.ShloMosaic.TcCoe Idealize.SL.Sem Idealize.ShloMosaic.Pointwise
open Idealize.ShloMosaic.Pipeline (Dat)
open Cert.Fp4

/-- The weight block the body dequantises, at an index. -/
theorem w_apply (v0 : Vec Ideal S3584x256 .i8) (v1 : Vec Ideal S448x256 .fp8e4m3) (k : Fin 7168) (j : Fin 256) :
    k0_pay2 (F := Ideal) v0 v1 (ix2 k j) = wt v0 v1 k j := by
  pointwise [k0_pay2]
  rfl

/-- One slab of rows at an index, the first slab's spelling. -/
theorem p5_apply (t0 t1 : Elt Ideal .f32) (a : Vec Ideal S384x7168 .bf16) (w : Vec Ideal S7168x256 .bf16) (x : Vec Ideal S384x256 .bf16)
    (b : Vec Ideal S1x256 .f32) (i : S384x256.Idx) :
    k0_pay5 (F := Ideal) t0 t1 a w x b i
      = OutSpec.elem (fun k => a (ix2 (i 0) k)) (fun k => w (ix2 k (i 1))) (t0 * t1) (b (ix2 0 (i 1))) (x i) := by
  idx_vars i
  pointwise [k0_pay5, k0_pay4, OutSpec.elem]

/-- The other slabs compute the same function. -/
theorem p3_eq (w : Vec Ideal S7168x256 .bf16) : k0_pay3 (F := Ideal) w = w := by
  unfold k0_pay3
  exact shapeCast_self _ _
theorem p6_eq (t0 t1 : Elt Ideal .f32) (a : Vec Ideal S384x7168 .bf16) (w : Vec Ideal S7168x256 .bf16) (x : Vec Ideal S384x256 .bf16)
    (b : Vec Ideal S1x256 .f32) : k0_pay6 (F := Ideal) t0 t1 a w x b = k0_pay5 t0 t1 a w x b := rfl
theorem p7_eq (t0 t1 : Elt Ideal .f32) (a : Vec Ideal S384x7168 .bf16) (w : Vec Ideal S7168x256 .bf16) (x : Vec Ideal S384x256 .bf16)
    (b : Vec Ideal S1x256 .f32) : k0_pay7 (F := Ideal) (k0_pay4 t0 t1) a w x b = k0_pay5 t0 t1 a w x b := rfl
theorem p8_eq (t0 t1 : Elt Ideal .f32) (a : Vec Ideal S384x7168 .bf16) (w : Vec Ideal S7168x256 .bf16) (x : Vec Ideal S384x256 .bf16)
    (b : Vec Ideal S1x256 .f32) : k0_pay8 (F := Ideal) (k0_pay4 t0 t1) a w x b = k0_pay5 t0 t1 a w x b := rfl
theorem p1_eq (t0 t1 : Elt Ideal .f32) (a : Vec Ideal S384x7168 .bf16) (w : Vec Ideal S7168x256 .bf16) (x : Vec Ideal S384x256 .bf16)
    (b : Vec Ideal S1x256 .f32) :
    k0_pay1 (F := Ideal) (k0_pay9 a w) (k0_pay10 x) (k0_pay11 (k0_pay4 t0 t1)) b = k0_pay5 t0 t1 a w x b := rfl

variable (m : (ℓ : Loc nD τ sig) → Buf (Elt Ideal) ℓ) (ρ : Dev nD → PrngReg)

/-- The index maps: the weights, the bias, the residual and the result move along the columns with the point; the
    activations and the scales stay. -/
theorem idx : ∀ t : Fin cfg0.N, win0_0.index t = ![0, 0] ∧ win0_1.index t = ![0, t.val] ∧ win0_2.index t = ![0, t.val]
    ∧ win0_3.index t = ![0] ∧ win0_4.index t = ![0, t.val] ∧ win0_5.index t = ![0, t.val] ∧ win0_6.index t = ![0, t.val] :=
  (by decide +kernel : ∀ t : Fin grid0.N, win0_0.index t = ![0, 0] ∧ win0_1.index t = ![0, t.val] ∧ win0_2.index t = ![0, t.val]
    ∧ win0_3.index t = ![0] ∧ win0_4.index t = ![0, t.val] ∧ win0_5.index t = ![0, t.val] ∧ win0_6.index t = ![0, t.val])

/-- The blocks point `t` reads. -/
abbrev aB (c : Dev nD) (t : Fin cfg0.N) : Vec Ideal S1920x7168 .bf16 := iblk m c 0 t
abbrev cB (c : Dev nD) (t : Fin cfg0.N) : Vec Ideal S3584x256 .i8 := iblk m c 1 t
abbrev sB (c : Dev nD) (t : Fin cfg0.N) : Vec Ideal S448x256 .fp8e4m3 := iblk m c 2 t
abbrev tB (c : Dev nD) (t : Fin cfg0.N) : Vec Ideal S2 .f32 := iblk m c 3 t
abbrev bB (c : Dev nD) (t : Fin cfg0.N) : Vec Ideal S1x256 .f32 := iblk m c 4 t
abbrev xB (c : Dev nD) (t : Fin cfg0.N) : Vec Ideal S1920x256 .bf16 := iblk m c 5 t

/-- Elements over equal reads are equal. -/
theorem elem_congr {a a' w w' : Fin 7168 → EReal} {s s' b b' x x' : EReal} (ha : ∀ k, a k = a' k) (hw : ∀ k, w k = w' k) (hs : s = s')
    (hb : b = b') (hx : x = x') : OutSpec.elem a w s b x = OutSpec.elem a' w' s' b' x' := by
  rw [funext ha, funext hw, hs, hb, hx]

/-- A scalar load of the scales reads its element. -/
theorem ts_ld (T : Vec Ideal S2 .f32) (n : Fin 2) (h) (p) : View.ld T (Rect.unit (s := S2) ![n.val] ![1] h) (Shape.Idx.first p) = T (ix1 n) :=
  View.ld_unit_apply_of T _ _ h _ (ix1 n) fun a => by
    obtain rfl : a = 0 := Subsingleton.elim _ _
    rfl

/-- One slab of rows: the projection's element at the row the slab places. -/
theorem slab (A : Vec Ideal S1920x7168 .bf16) (C : Vec Ideal S3584x256 .i8) (S : Vec Ideal S448x256 .fp8e4m3) (t0 t1 : Elt Ideal .f32)
    (B : Vec Ideal S1x256 .f32) (X : Vec Ideal S1920x256 .bf16) (r0 : ℕ) (hA hX) (x : S384x256.Idx) (y : S1920x256.Idx)
    (h0 : (y 0 : ℕ) = r0 + (x 0 : ℕ)) (h1 : (y 1 : ℕ) = (x 1 : ℕ)) :
    k0_pay5 (F := Ideal) t0 t1 (View.ld A (Rect.unit (s := S1920x7168) ![r0, 0] ![384, 7168] hA)) (k0_pay2 C S)
        (View.ld X (Rect.unit (s := S1920x256) ![r0, 0] ![384, 256] hX)) B x
      = OutSpec.elem (fun k => A (ix2 (y 0) k)) (fun k => wt C S k (y 1)) (t0 * t1) (B (ix2 0 (y 1))) (X y) := by
  have e1 : x 1 = y 1 := Fin.ext h1.symm
  refine (p5_apply t0 t1 _ _ _ B x).trans (elem_congr (fun k => ?_) (fun k => (w_apply C S k _).trans (by rw [e1])) rfl (by rw [e1]) ?_)
  · refine View.ld_unit_apply_of A _ _ hA _ _ fun a => ?_
    match a with
    | 0 => exact h0
    | 1 => exact (Nat.zero_add _).symm
  · refine View.ld_unit_apply_of X _ _ hX _ _ fun a => ?_
    match a with
    | 0 => exact h0
    | 1 => exact h1.trans (Nat.zero_add _).symm

/-- What point `t` leaves in the output's staging buffer, at an index: the projection's element over the point's blocks. -/
theorem outs_apply (c : Dev nD) (t : Fin cfg0.N) (y : S1920x256.Idx) : outsAt0 m c t y
    = OutSpec.elem (fun k => aB m c t (ix2 (y 0) k)) (fun k => wt (cB m c t) (sB m c t) k (y 1))
        (tB m c t (ix1 0) * tB m c t (ix1 1)) (bB m c t (ix2 0 (y 1))) (xB m c t y) := by
  rw [← ts_ld (tB m c t) 0 inb_S2_S1_0 (by decide), ← ts_ld (tB m c t) 1 inb_S2_S1_1 (by decide)]
  unfold outsAt0
  frame_out
  simp only [p3_eq, p6_eq, p7_eq, p8_eq, p1_eq]
  canon_tiles x h
  · exact slab (aB m c t) (cB m c t) (sB m c t) _ _ (bB m c t) (xB m c t) 1536 _ _ x y h0 h1
  · exact slab (aB m c t) (cB m c t) (sB m c t) _ _ (bB m c t) (xB m c t) 1152 _ _ x y h0 h1
  · exact slab (aB m c t) (cB m c t) (sB m c t) _ _ (bB m c t) (xB m c t) 768 _ _ x y h0 h1
  · exact slab (aB m c t) (cB m c t) (sB m c t) _ _ (bB m c t) (xB m c t) 384 _ _ x y h0 h1
  · exact slab (aB m c t) (cB m c t) (sB m c t) _ _ (bB m c t) (xB m c t) 0 _ _ x y (h0.trans (Nat.zero_add _).symm) h1

/-- The arguments the call reads. -/
abbrev aM (c : Dev nD) : Vec Ideal S1920x7168 .bf16 := m ((c : Thread nD τ).loc main_arg0)
abbrev cM (c : Dev nD) : Vec Ideal S3584x7168 .i8 := m ((c : Thread nD τ).loc main_arg1)
abbrev sM (c : Dev nD) : Vec Ideal S448x7168 .fp8e4m3 := m ((c : Thread nD τ).loc main_arg2)
abbrev tM (c : Dev nD) : Vec Ideal S2 .f32 := m ((c : Thread nD τ).loc main_arg3)
abbrev bM (c : Dev nD) : Vec Ideal S1x7168 .f32 := m ((c : Thread nD τ).loc main_arg4)
abbrev xM (c : Dev nD) : Vec Ideal S1920x7168 .bf16 := m ((c : Thread nD τ).loc main_arg5)

/-- The result array after the run is the output projection of the arguments. -/
theorem final (c : Dev nD) : (dats m 0 c).arrAt 6 cfg0.N
    = OutSpec.out (aM m c) (cM m c) (sM m c) (tM m c) (bM m c) (xM m c) := by
  refine (dats m 0 c).arrAt_eq_of_covers 6 _ (by decide +kernel) fun t hf y => ?_
  blk_simp
  rw [after0_6, outs_apply]
  obtain ⟨i0, i1, i2, i3, i4, i5, i6⟩ := idx t
  refine elem_congr (fun k => ?_) (fun k => congrArg₂ (· * ·) (congrArg (fun z => valK (nib z k)) ?_) ?_) (congrArg₂ _ ?_ ?_) ?_ ?_
  all_goals blk_ext [iblk, V, i0, i1, i2, i3, i4, i5, i6]

/-- The kernel's run: the result cell ends at the projection, the argument cells keep. -/
theorem runP : θ_run defs (onTc (τ := τ) (main (F := Ideal))) ⟨m, fun _ => 0, ρ⟩ (fun r => ∀ c : Dev nD,
    r.2.mem ((c : Thread nD τ).loc main_v0) = OutSpec.out (aM m c) (cM m c) (sM m c) (tM m c) (bM m c) (xM m c)
    ∧ (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun _ h c => ⟨(h c).1.trans (final m c), (h c).2⟩) (run_blocks m ρ)

end Cert.OutIdeal.Block
end
-- ==== Proof.OutReference.lean ====
/-
  The output-projection reference over the extended reals: its result array is the projection (`OutSpec.out`) of the
  arguments.
-/
module

public import proofs.«01_k».proof.Proof.Gen.OutRefIdeal.Value
public import proofs.«01_k».proof.Proof.OutSpec
public import Idealize.ShloMosaic.Lib.Pipeline.ValueKit

@[expose] public section

set_option maxRecDepth 16384

noncomputable section

namespace Cert.OutRefIdeal.Block

open Cert.OutRefIdeal Cert.OutRefIdeal.Gen Cert.OutRefIdeal.Value Idealize.ShloMosaic Idealize.ShloMosaic.TcCoe Idealize.SL.Sem
open Idealize.ShloMosaic.Pointwise Cert.Fp4
open Idealize.ShloMosaic.Pipeline (Dat)

/-- The weights the reference decodes, at an index. -/
theorem w_apply (v0 : Vec Ideal S3584x7168 .i8) (v1 : Vec Ideal S448x7168 .fp8e4m3) (k j : Fin 7168) :
    k0_pay2 (F := Ideal) v0 v1 (ix2 k j) = wt v0 v1 k j := by
  refine Eq.trans ?_ (ref_wt v0 v1 k j (by omega) (by omega))
  pointwise [k0_pay2]
  rfl

/-- The reference's result at an index. -/
theorem p1_apply (w : Vec Ideal S7168x7168 .bf16) (a : Vec Ideal S1920x7168 .bf16) (t0 t1 : Elt Ideal .f32) (b : Vec Ideal S1x7168 .f32)
    (x : Vec Ideal S1920x7168 .bf16) (i : S1920x7168.Idx) :
    k0_pay1 (F := Ideal) w a t0 t1 b x i
      = OutSpec.elem (fun k => a (ix2 (i 0) k)) (fun k => w (ix2 k (i 1))) (t0 * t1) (b (ix2 0 (i 1))) (x i) := by
  idx_vars i
  pointwise [k0_pay1, OutSpec.elem]
  rw [mul_assoc]

variable (m : (ℓ : Loc nD τ sig) → Buf (Elt Ideal) ℓ) (ρ : Dev nD → PrngReg)

/-- The arguments the call reads. -/
abbrev aM (c : Dev nD) : Vec Ideal S1920x7168 .bf16 := m ((c : Thread nD τ).loc main_arg0)
abbrev cM (c : Dev nD) : Vec Ideal S3584x7168 .i8 := m ((c : Thread nD τ).loc main_arg1)
abbrev sM (c : Dev nD) : Vec Ideal S448x7168 .fp8e4m3 := m ((c : Thread nD τ).loc main_arg2)
abbrev tM (c : Dev nD) : Vec Ideal S2 .f32 := m ((c : Thread nD τ).loc main_arg3)
abbrev bM (c : Dev nD) : Vec Ideal S1x7168 .f32 := m ((c : Thread nD τ).loc main_arg4)
abbrev xM (c : Dev nD) : Vec Ideal S1920x7168 .bf16 := m ((c : Thread nD τ).loc main_arg5)

/-- A scalar load of the scales reads its element. -/
theorem ts_ld (T : Vec Ideal S2 .f32) (n : Fin 2) (h) (p) : View.ld T (Rect.unit (s := S2) ![n.val] ![1] h) (Shape.Idx.first p) = T (ix1 n) :=
  View.ld_unit_apply_of T _ _ h _ (ix1 n) fun a => by
    obtain rfl : a = 0 := Subsingleton.elim _ _
    rfl

/-- The one point's index maps are all zero. -/
theorem idx : ∀ t : Fin cfg0.N, win0_0.index t = ![0, 0] ∧ win0_1.index t = ![0, 0] ∧ win0_2.index t = ![0, 0]
    ∧ win0_3.index t = ![0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0] ∧ win0_4.index t = ![0, 0] ∧ win0_5.index t = ![0, 0])

/-- The whole-array blocks are the arguments. -/
theorem blk0 (c : Dev nD) (t : Fin cfg0.N) : iblk m c 0 t = aM m c := by blk_ext! [iblk, V, (idx t).1]
theorem blk1 (c : Dev nD) (t : Fin cfg0.N) : iblk m c 1 t = cM m c := by blk_ext! [iblk, V, (idx t).2.1]
theorem blk2 (c : Dev nD) (t : Fin cfg0.N) : iblk m c 2 t = sM m c := by blk_ext! [iblk, V, (idx t).2.2.1]
theorem blk3 (c : Dev nD) (t : Fin cfg0.N) : iblk m c 3 t = tM m c := by blk_ext! [iblk, V, (idx t).2.2.2.1]
theorem blk4 (c : Dev nD) (t : Fin cfg0.N) : iblk m c 4 t = bM m c := by blk_ext! [iblk, V, (idx t).2.2.2.2.1]
theorem blk5 (c : Dev nD) (t : Fin cfg0.N) : iblk m c 5 t = xM m c := by blk_ext! [iblk, V, (idx t).2.2.2.2.2]

/-- The result array after the run is the output projection of the arguments. -/
theorem final (c : Dev nD) : (dats m 0 c).arrAt 6 cfg0.N
    = OutSpec.out (aM m c) (cM m c) (sM m c) (tM m c) (bM m c) (xM m c) := by
  refine (dats m 0 c).arrAt_eq_of_after_last 6 t0_0 (by decide +kernel) _ fun j => ?_
  blk_simp
  rw [after0_6]
  unfold outsAt0
  frame_out
  simp only [(hs0_0 t0_0).read_unread, (hs0_1 t0_0).read_unread, (hs0_2 t0_0).read_unread, (hs0_3 t0_0).read_unread,
    (hs0_4 t0_0).read_unread, (hs0_5 t0_0).read_unread, blk0, blk1, blk2, blk3, blk4, blk5]
  refine (p1_apply _ (aM m c) _ _ (bM m c) (xM m c) j).trans ?_
  have hw : ∀ k, k0_pay2 (F := Ideal) (cM m c) (sM m c) (ix2 k (j 1)) = wt (cM m c) (sM m c) k (j 1) := fun k => w_apply _ _ k (j 1)
  rw [funext hw]
  exact congrArg₂ (fun u v => OutSpec.elem _ _ (u * v) _ _) (ts_ld (tM m c) 0 inb_S2_S1_0 (by decide)) (ts_ld (tM m c) 1 inb_S2_S1_1 (by decide))

/-- The reference's run: the result cell ends at the projection, the argument cells keep. -/
theorem runR : θ_run defs (onTc (τ := τ) (main (F := Ideal))) ⟨m, fun _ => 0, ρ⟩ (fun r => ∀ c : Dev nD,
    r.2.mem ((c : Thread nD τ).loc main_v0) = OutSpec.out (aM m c) (cM m c) (sM m c) (tM m c) (bM m c) (xM m c)
    ∧ (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun _ h c => ⟨(h c).1.trans (final m c), (h c).2⟩) (run_blocks m ρ)

end Cert.OutRefIdeal.Block
end
-- ==== Proof.OutEq.lean ====
/-
  The output-projection kernel and its reference compute the same array over the extended reals: both runs end holding
  `OutSpec.out` of the arguments.
-/
module

public import proofs.«01_k».proof.Defs
public import proofs.«01_k».proof.Proof.OutKernel
public import proofs.«01_k».proof.Proof.OutReference

@[expose] public section

noncomputable section

namespace Cert.OutEq

open Idealize.ShloMosaic Idealize.ShloMosaic.TcCoe Idealize.SL.Sem

/-- From memories agreeing on the arguments the kernel and the reference both run, end with equal results and keep the
    arguments. -/
theorem algebraic : algebraic_OutIdeal_OutRefIdeal (hOutIdeal := Cert.OutIdeal.Gen.facts) (hOutRefIdeal := Cert.OutRefIdeal.Gen.facts) :=
  fun m ρ m' ρ' _ hag =>
    ⟨fun c => OutSpec.out (OutIdeal.Block.aM m c) (OutIdeal.Block.cM m c) (OutIdeal.Block.sM m c) (OutIdeal.Block.tM m c)
        (OutIdeal.Block.bM m c) (OutIdeal.Block.xM m c),
      OutIdeal.Block.runP m ρ,
      (θ_run _ _ _).mono (fun _ h c => ⟨(h c).1.trans (by
          obtain ⟨e0, e1, e2, e3, e4, e5⟩ := hag c
          unfold OutRefIdeal.Block.aM OutRefIdeal.Block.cM OutRefIdeal.Block.sM OutRefIdeal.Block.tM OutRefIdeal.Block.bM OutRefIdeal.Block.xM
          exact congr (congr (congr (congr (congr (congrArg OutSpec.out e0) e1) e2) e3) e4) e5), (h c).2⟩)
        (OutRefIdeal.Block.runR m' ρ')⟩

end Cert.OutEq
end
-- ==== Proof.Qkv.Runs.lean ====
/- What the runs of the QKV kernel's body share: the branch conditions in closed form over the grid's points,
   where each output window is idle or fresh, and the staging buffers' names. -/
module

public import proofs.«01_k».proof.Proof.Gen.QkvIdeal.Frame
public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- The condition of the body's `scf.if` 1 (`k0_h2`), from the grid coordinates (the skeleton's scalar
    chain substituted). -/
abbrev cond0_1 (i : grid0.Coords) : Prop := k0_cond2 i = 1#1
/-- It holds at the points before point 28 — decided over the grid. -/
theorem hcond0_1 : ∀ t : Fin cfg0.N, cond0_1 (grid0.coords t) ↔ t.val < 28 :=
  (by decide +kernel : ∀ t : Fin grid0.N, cond0_1 (grid0.coords t) ↔ t.val < 28)

/-- The condition of the body's `scf.if` 2 (`k0_h3`), from the grid coordinates (the skeleton's scalar
    chain substituted). -/
abbrev cond0_2 (i : grid0.Coords) : Prop := k0_cond3 i = 1#1
/-- It holds at the points whose coordinates have 28 ≤ i0 and i0 ≤ 31 — decided over the grid. -/
theorem hcond0_2 : ∀ t : Fin cfg0.N, cond0_2 (grid0.coords t) ↔ (28 ≤ t.val % 36 ∧ t.val % 36 ≤ 31) :=
  (by decide +kernel : ∀ t : Fin grid0.N, cond0_2 (grid0.coords t) ↔ (28 ≤ t.val % 36 ∧ t.val % 36 ≤ 31))

/-- The condition of the body's `scf.if` 3 (`k0_h4`), from the grid coordinates (the skeleton's scalar
    chain substituted). -/
abbrev cond0_3 (i : grid0.Coords) : Prop := k0_cond4 i = 1#1
/-- It holds at the points from point 32 on — decided over the grid. -/
theorem hcond0_3 : ∀ t : Fin cfg0.N, cond0_3 (grid0.coords t) ↔ 32 ≤ t.val :=
  (by decide +kernel : ∀ t : Fin grid0.N, cond0_3 (grid0.coords t) ↔ 32 ≤ t.val)

/-- The condition of the body's `scf.if` 4 (`k0_h5`), from the grid coordinates (the skeleton's scalar
    chain substituted). -/
abbrev cond0_4 (i : grid0.Coords) : Prop := k0_cond5 i = 1#1
/-- It holds at the points before point 28 — decided over the grid. -/
theorem hcond0_4 : ∀ t : Fin cfg0.N, cond0_4 (grid0.coords t) ↔ t.val < 28 :=
  (by decide +kernel : ∀ t : Fin grid0.N, cond0_4 (grid0.coords t) ↔ t.val < 28)

/-- The condition of the body's `scf.if` 5 (`k0_h6`), from the grid coordinates (the skeleton's scalar
    chain substituted). -/
abbrev cond0_5 (i : grid0.Coords) : Prop := k0_cond6 i = 1#1
/-- It holds at the points whose coordinates have 28 ≤ i0 and i0 ≤ 31 — decided over the grid. -/
theorem hcond0_5 : ∀ t : Fin cfg0.N, cond0_5 (grid0.coords t) ↔ (28 ≤ t.val % 36 ∧ t.val % 36 ≤ 31) :=
  (by decide +kernel : ∀ t : Fin grid0.N, cond0_5 (grid0.coords t) ↔ (28 ≤ t.val % 36 ∧ t.val % 36 ≤ 31))

/-- The condition of the body's `scf.if` 6 (`k0_h7`), from the grid coordinates (the skeleton's scalar
    chain substituted). -/
abbrev cond0_6 (i : grid0.Coords) : Prop := k0_cond7 i = 1#1
/-- It holds at the points from point 32 on — decided over the grid. -/
theorem hcond0_6 : ∀ t : Fin cfg0.N, cond0_6 (grid0.coords t) ↔ 32 ≤ t.val :=
  (by decide +kernel : ∀ t : Fin grid0.N, cond0_6 (grid0.coords t) ↔ 32 ≤ t.val)

/-- The condition of the body's `scf.if` 7 (`k0_h8`), from the grid coordinates (the skeleton's scalar
    chain substituted). -/
abbrev cond0_7 (i : grid0.Coords) : Prop := k0_cond8 i = 1#1
/-- It holds at the points before point 28 — decided over the grid. -/
theorem hcond0_7 : ∀ t : Fin cfg0.N, cond0_7 (grid0.coords t) ↔ t.val < 28 :=
  (by decide +kernel : ∀ t : Fin grid0.N, cond0_7 (grid0.coords t) ↔ t.val < 28)

/-- The condition of the body's `scf.if` 8 (`k0_h9`), from the grid coordinates (the skeleton's scalar
    chain substituted). -/
abbrev cond0_8 (i : grid0.Coords) : Prop := k0_cond9 i = 1#1
/-- It holds at the points whose coordinates have 28 ≤ i0 and i0 ≤ 31 — decided over the grid. -/
theorem hcond0_8 : ∀ t : Fin cfg0.N, cond0_8 (grid0.coords t) ↔ (28 ≤ t.val % 36 ∧ t.val % 36 ≤ 31) :=
  (by decide +kernel : ∀ t : Fin grid0.N, cond0_8 (grid0.coords t) ↔ (28 ≤ t.val % 36 ∧ t.val % 36 ≤ 31))

/-- The condition of the body's `scf.if` 9 (`k0_h10`), from the grid coordinates (the skeleton's scalar
    chain substituted). -/
abbrev cond0_9 (i : grid0.Coords) : Prop := k0_cond10 i = 1#1
/-- It holds at the points from point 32 on — decided over the grid. -/
theorem hcond0_9 : ∀ t : Fin cfg0.N, cond0_9 (grid0.coords t) ↔ 32 ≤ t.val :=
  (by decide +kernel : ∀ t : Fin grid0.N, cond0_9 (grid0.coords t) ↔ 32 ≤ t.val)

/-- The condition of the body's `scf.if` 10 (`k0_h11`), from the grid coordinates (the skeleton's scalar
    chain substituted). -/
abbrev cond0_10 (i : grid0.Coords) : Prop := k0_cond11 i = 1#1
/-- It holds at the points before point 28 — decided over the grid. -/
theorem hcond0_10 : ∀ t : Fin cfg0.N, cond0_10 (grid0.coords t) ↔ t.val < 28 :=
  (by decide +kernel : ∀ t : Fin grid0.N, cond0_10 (grid0.coords t) ↔ t.val < 28)

/-- The condition of the body's `scf.if` 11 (`k0_h12`), from the grid coordinates (the skeleton's scalar
    chain substituted). -/
abbrev cond0_11 (i : grid0.Coords) : Prop := k0_cond12 i = 1#1
/-- It holds at the points whose coordinates have 28 ≤ i0 and i0 ≤ 31 — decided over the grid. -/
theorem hcond0_11 : ∀ t : Fin cfg0.N, cond0_11 (grid0.coords t) ↔ (28 ≤ t.val % 36 ∧ t.val % 36 ≤ 31) :=
  (by decide +kernel : ∀ t : Fin grid0.N, cond0_11 (grid0.coords t) ↔ (28 ≤ t.val % 36 ∧ t.val % 36 ≤ 31))

/-- The condition of the body's `scf.if` 12 (`k0_h13`), from the grid coordinates (the skeleton's scalar
    chain substituted). -/
abbrev cond0_12 (i : grid0.Coords) : Prop := k0_cond13 i = 1#1
/-- It holds at the points from point 32 on — decided over the grid. -/
theorem hcond0_12 : ∀ t : Fin cfg0.N, cond0_12 (grid0.coords t) ↔ 32 ≤ t.val :=
  (by decide +kernel : ∀ t : Fin grid0.N, cond0_12 (grid0.coords t) ↔ 32 ≤ t.val)

/-- The condition of the body's `scf.if` 13 (`k0_h14`), from the grid coordinates (the skeleton's scalar
    chain substituted). -/
abbrev cond0_13 (i : grid0.Coords) : Prop := k0_cond14 i = 1#1
/-- It holds at the points before point 28 — decided over the grid. -/
theorem hcond0_13 : ∀ t : Fin cfg0.N, cond0_13 (grid0.coords t) ↔ t.val < 28 :=
  (by decide +kernel : ∀ t : Fin grid0.N, cond0_13 (grid0.coords t) ↔ t.val < 28)

/-- The condition of the body's `scf.if` 14 (`k0_h15`), from the grid coordinates (the skeleton's scalar
    chain substituted). -/
abbrev cond0_14 (i : grid0.Coords) : Prop := k0_cond15 i = 1#1
/-- It holds at the points whose coordinates have 28 ≤ i0 and i0 ≤ 31 — decided over the grid. -/
theorem hcond0_14 : ∀ t : Fin cfg0.N, cond0_14 (grid0.coords t) ↔ (28 ≤ t.val % 36 ∧ t.val % 36 ≤ 31) :=
  (by decide +kernel : ∀ t : Fin grid0.N, cond0_14 (grid0.coords t) ↔ (28 ≤ t.val % 36 ∧ t.val % 36 ≤ 31))

/-- The condition of the body's `scf.if` 15 (`k0_h16`), from the grid coordinates (the skeleton's scalar
    chain substituted). -/
abbrev cond0_15 (i : grid0.Coords) : Prop := k0_cond16 i = 1#1
/-- It holds at the points from point 32 on — decided over the grid. -/
theorem hcond0_15 : ∀ t : Fin cfg0.N, cond0_15 (grid0.coords t) ↔ 32 ≤ t.val :=
  (by decide +kernel : ∀ t : Fin grid0.N, cond0_15 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i ∧ cond0_4 i ∧ ¬cond0_5 i ∧ ¬cond0_6 i ∧ cond0_7 i ∧ ¬cond0_8 i ∧ ¬cond0_9 i ∧ cond0_10 i ∧ ¬cond0_11 i ∧ ¬cond0_12 i ∧ cond0_13 i ∧ ¬cond0_14 i ∧ ¬cond0_15 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))))))
/-- Case B's branch conditions on the grid, as one proposition. -/
abbrev conds0_B (i : grid0.Coords) : Prop := ¬cond0_0 i ∧ cond0_1 i ∧ ¬cond0_2 i ∧ ¬cond0_3 i ∧ cond0_4 i ∧ ¬cond0_5 i ∧ ¬cond0_6 i ∧ cond0_7 i ∧ ¬cond0_8 i ∧ ¬cond0_9 i ∧ cond0_10 i ∧ ¬cond0_11 i ∧ ¬cond0_12 i ∧ cond0_13 i ∧ ¬cond0_14 i ∧ ¬cond0_15 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))))))
/-- Case C's branch conditions on the grid, as one proposition. -/
abbrev conds0_C (i : grid0.Coords) : Prop := ¬cond0_0 i ∧ ¬cond0_1 i ∧ cond0_2 i ∧ ¬cond0_3 i ∧ ¬cond0_4 i ∧ cond0_5 i ∧ ¬cond0_6 i ∧ ¬cond0_7 i ∧ cond0_8 i ∧ ¬cond0_9 i ∧ ¬cond0_10 i ∧ cond0_11 i ∧ ¬cond0_12 i ∧ ¬cond0_13 i ∧ cond0_14 i ∧ ¬cond0_15 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))))))
/-- Case D's branch conditions on the grid, as one proposition. -/
abbrev conds0_D (i : grid0.Coords) : Prop := ¬cond0_0 i ∧ ¬cond0_1 i ∧ ¬cond0_2 i ∧ cond0_3 i ∧ ¬cond0_4 i ∧ ¬cond0_5 i ∧ cond0_6 i ∧ ¬cond0_7 i ∧ ¬cond0_8 i ∧ cond0_9 i ∧ ¬cond0_10 i ∧ ¬cond0_11 i ∧ cond0_12 i ∧ ¬cond0_13 i ∧ ¬cond0_14 i ∧ cond0_15 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance inferInstance))))))))))))))
/-- Whether output 7's buffer is FRESH at each position `1 ‥ N` — holds nothing the body stored since the region's entry or the
    last write-back (written back at the point before, or idle there and fresh before it) —, as a bitmask
    (bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x807ffffff : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 7 (grid0.coords t) = false :=
  fun t h0 h1 h2 h3 h4 h5 h6 h7 h8 h9 h10 h11 h12 h13 h14 h15 => (by decide +kernel : ∀ t : Fin cfg0.N, conds0_A (grid0.coords t) → cfg0.idle 7 (grid0.coords t) = false) t ⟨h0, h1, h2, h3, h4, h5, h6, h7, h8, h9, h10, h11, h12, h13, h14, h15⟩
/-- At the points of case B the printed configuration (`Cfg.idle`) calls output 7 live: the case stores into it. -/
theorem liveAt0_7_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 7 (grid0.coords t) = false :=
  fun t h0 h1 h2 h3 h4 h5 h6 h7 h8 h9 h10 h11 h12 h13 h14 h15 => (by decide +kernel : ∀ t : Fin cfg0.N, conds0_B (grid0.coords t) → cfg0.idle 7 (grid0.coords t) = false) t ⟨h0, h1, h2, h3, h4, h5, h6, h7, h8, h9, h10, h11, h12, h13, h14, h15⟩
/-- At the points of case C the printed configuration (`Cfg.idle`) calls output 7 idle: the case stores nothing into it. -/
theorem idleAt0_7_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.idle 7 (grid0.coords t) = true :=
  fun t h0 h1 h2 h3 h4 h5 h6 h7 h8 h9 h10 h11 h12 h13 h14 h15 => (by decide +kernel : ∀ t : Fin cfg0.N, conds0_C (grid0.coords t) → cfg0.idle 7 (grid0.coords t) = true) t ⟨h0, h1, h2, h3, h4, h5, h6, h7, h8, h9, h10, h11, h12, h13, h14, h15⟩
/-- At the points of case C the pipeline does not write output 7's block back. -/
theorem noFlush0_7_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → (cfg0.win 7).flush t = false :=
  fun t h0 h1 h2 h3 h4 h5 h6 h7 h8 h9 h10 h11 h12 h13 h14 h15 => (by decide +kernel : ∀ t : Fin cfg0.N, conds0_C (grid0.coords t) → (cfg0.win 7).flush t = false) t ⟨h0, h1, h2, h3, h4, h5, h6, h7, h8, h9, h10, h11, h12, h13, h14, h15⟩
/-- At the points of case D the printed configuration (`Cfg.idle`) calls output 7 idle: the case stores nothing into it. -/
theorem idleAt0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.idle 7 (grid0.coords t) = true :=
  fun t h0 h1 h2 h3 h4 h5 h6 h7 h8 h9 h10 h11 h12 h13 h14 h15 => (by decide +kernel : ∀ t : Fin cfg0.N, conds0_D (grid0.coords t) → cfg0.idle 7 (grid0.coords t) = true) t ⟨h0, h1, h2, h3, h4, h5, h6, h7, h8, h9, h10, h11, h12, h13, h14, h15⟩
/-- Whether output 8's buffer is FRESH at each position `1 ‥ N` — holds nothing the body stored since the region's entry or the
    last write-back (written back at the point before, or idle there and fresh before it) —, as a bitmask
    (bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x87fffffff : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 8 (grid0.coords t) = true :=
  fun t h0 h1 h2 h3 h4 h5 h6 h7 h8 h9 h10 h11 h12 h13 h14 h15 => (by decide +kernel : ∀ t : Fin cfg0.N, conds0_A (grid0.coords t) → cfg0.idle 8 (grid0.coords t) = true) t ⟨h0, h1, h2, h3, h4, h5, h6, h7, h8, h9, h10, h11, h12, h13, h14, h15⟩
/-- At the points of case A the pipeline does not write output 8's block back. -/
theorem noFlush0_8_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 8).flush t = false :=
  fun t h0 h1 h2 h3 h4 h5 h6 h7 h8 h9 h10 h11 h12 h13 h14 h15 => (by decide +kernel : ∀ t : Fin cfg0.N, conds0_A (grid0.coords t) → (cfg0.win 8).flush t = false) t ⟨h0, h1, h2, h3, h4, h5, h6, h7, h8, h9, h10, h11, h12, h13, h14, h15⟩
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 8 (grid0.coords t) = true :=
  fun t h0 h1 h2 h3 h4 h5 h6 h7 h8 h9 h10 h11 h12 h13 h14 h15 => (by decide +kernel : ∀ t : Fin cfg0.N, conds0_B (grid0.coords t) → cfg0.idle 8 (grid0.coords t) = true) t ⟨h0, h1, h2, h3, h4, h5, h6, h7, h8, h9, h10, h11, h12, h13, h14, h15⟩
/-- At the points of case B the pipeline does not write output 8's block back. -/
theorem noFlush0_8_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 8).flush t = false :=
  fun t h0 h1 h2 h3 h4 h5 h6 h7 h8 h9 h10 h11 h12 h13 h14 h15 => (by decide +kernel : ∀ t : Fin cfg0.N, conds0_B (grid0.coords t) → (cfg0.win 8).flush t = false) t ⟨h0, h1, h2, h3, h4, h5, h6, h7, h8, h9, h10, h11, h12, h13, h14, h15⟩
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.idle 8 (grid0.coords t) = false :=
  fun t h0 h1 h2 h3 h4 h5 h6 h7 h8 h9 h10 h11 h12 h13 h14 h15 => (by decide +kernel : ∀ t : Fin cfg0.N, conds0_C (grid0.coords t) → cfg0.idle 8 (grid0.coords t) = false) t ⟨h0, h1, h2, h3, h4, h5, h6, h7, h8, h9, h10, h11, h12, h13, h14, h15⟩
/-- At the points of case D the printed configuration (`Cfg.idle`) calls output 8 idle: the case stores nothing into it. -/
theorem idleAt0_8_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.idle 8 (grid0.coords t) = true :=
  fun t h0 h1 h2 h3 h4 h5 h6 h7 h8 h9 h10 h11 h12 h13 h14 h15 => (by decide +kernel : ∀ t : Fin cfg0.N, conds0_D (grid0.coords t) → cfg0.idle 8 (grid0.coords t) = true) t ⟨h0, h1, h2, h3, h4, h5, h6, h7, h8, h9, h10, h11, h12, h13, h14, h15⟩
/-- At the points of case A the printed configuration (`Cfg.idle`) calls output 9 idle: the case stores nothing into it. -/
theorem idleAt0_9_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 9 (grid0.coords t) = true :=
  fun t h0 h1 h2 h3 h4 h5 h6 h7 h8 h9 h10 h11 h12 h13 h14 h15 => (by decide +kernel : ∀ t : Fin cfg0.N, conds0_A (grid0.coords t) → cfg0.idle 9 (grid0.coords t) = true) t ⟨h0, h1, h2, h3, h4, h5, h6, h7, h8, h9, h10, h11, h12, h13, h14, h15⟩
/-- At the points of case A the pipeline does not write output 9's block back. -/
theorem noFlush0_9_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 9).flush t = false :=
  fun t h0 h1 h2 h3 h4 h5 h6 h7 h8 h9 h10 h11 h12 h13 h14 h15 => (by decide +kernel : ∀ t : Fin cfg0.N, conds0_A (grid0.coords t) → (cfg0.win 9).flush t = false) t ⟨h0, h1, h2, h3, h4, h5, h6, h7, h8, h9, h10, h11, h12, h13, h14, h15⟩
/-- At the points of case B the printed configuration (`Cfg.idle`) calls output 9 idle: the case stores nothing into it. -/
theorem idleAt0_9_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 9 (grid0.coords t) = true :=
  fun t h0 h1 h2 h3 h4 h5 h6 h7 h8 h9 h10 h11 h12 h13 h14 h15 => (by decide +kernel : ∀ t : Fin cfg0.N, conds0_B (grid0.coords t) → cfg0.idle 9 (grid0.coords t) = true) t ⟨h0, h1, h2, h3, h4, h5, h6, h7, h8, h9, h10, h11, h12, h13, h14, h15⟩
/-- At the points of case B the pipeline does not write output 9's block back. -/
theorem noFlush0_9_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 9).flush t = false :=
  fun t h0 h1 h2 h3 h4 h5 h6 h7 h8 h9 h10 h11 h12 h13 h14 h15 => (by decide +kernel : ∀ t : Fin cfg0.N, conds0_B (grid0.coords t) → (cfg0.win 9).flush t = false) t ⟨h0, h1, h2, h3, h4, h5, h6, h7, h8, h9, h10, h11, h12, h13, h14, h15⟩
/-- At the points of case C the printed configuration (`Cfg.idle`) calls output 9 idle: the case stores nothing into it. -/
theorem idleAt0_9_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.idle 9 (grid0.coords t) = true :=
  fun t h0 h1 h2 h3 h4 h5 h6 h7 h8 h9 h10 h11 h12 h13 h14 h15 => (by decide +kernel : ∀ t : Fin cfg0.N, conds0_C (grid0.coords t) → cfg0.idle 9 (grid0.coords t) = true) t ⟨h0, h1, h2, h3, h4, h5, h6, h7, h8, h9, h10, h11, h12, h13, h14, h15⟩
/-- At the points of case C the pipeline does not write output 9's block back. -/
theorem noFlush0_9_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → (cfg0.win 9).flush t = false :=
  fun t h0 h1 h2 h3 h4 h5 h6 h7 h8 h9 h10 h11 h12 h13 h14 h15 => (by decide +kernel : ∀ t : Fin cfg0.N, conds0_C (grid0.coords t) → (cfg0.win 9).flush t = false) t ⟨h0, h1, h2, h3, h4, h5, h6, h7, h8, h9, h10, h11, h12, h13, h14, h15⟩
/-- At the points of case D the printed configuration (`Cfg.idle`) calls output 9 live: the case stores into it. -/
theorem liveAt0_9_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.idle 9 (grid0.coords t) = false :=
  fun t h0 h1 h2 h3 h4 h5 h6 h7 h8 h9 h10 h11 h12 h13 h14 h15 => (by decide +kernel : ∀ t : Fin cfg0.N, conds0_D (grid0.coords t) → cfg0.idle 9 (grid0.coords t) = false) t ⟨h0, h1, h2, h3, h4, h5, h6, h7, h8, h9, h10, h11, h12, h13, h14, h15⟩
/-- Whether output 10's buffer is FRESH at each position `1 ‥ N` — holds nothing the body stored since the region's entry or the
    last write-back (written back at the point before, or idle there and fresh before it) —, as a bitmask
    (bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x800000000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 10 (grid0.coords t) = false :=
  fun t h0 h1 h2 h3 h4 h5 h6 h7 h8 h9 h10 h11 h12 h13 h14 h15 => (by decide +kernel : ∀ t : Fin cfg0.N, conds0_A (grid0.coords t) → cfg0.idle 10 (grid0.coords t) = false) t ⟨h0, h1, h2, h3, h4, h5, h6, h7, h8, h9, h10, h11, h12, h13, h14, h15⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 10 (grid0.coords t) = true :=
  fun t h0 h1 h2 h3 h4 h5 h6 h7 h8 h9 h10 h11 h12 h13 h14 h15 => (by decide +kernel : ∀ t : Fin cfg0.N, conds0_B (grid0.coords t) → cfg0.idle 10 (grid0.coords t) = true) t ⟨h0, h1, h2, h3, h4, h5, h6, h7, h8, h9, h10, h11, h12, h13, h14, h15⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 10).flush t = false :=
  fun t h0 h1 h2 h3 h4 h5 h6 h7 h8 h9 h10 h11 h12 h13 h14 h15 => (by decide +kernel : ∀ t : Fin cfg0.N, conds0_B (grid0.coords t) → (cfg0.win 10).flush t = false) t ⟨h0, h1, h2, h3, h4, h5, h6, h7, h8, h9, h10, h11, h12, h13, h14, h15⟩
/-- At the points of case C the printed configuration (`Cfg.idle`) calls output 10 live: the case stores into it. -/
theorem liveAt0_10_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.idle 10 (grid0.coords t) = false :=
  fun t h0 h1 h2 h3 h4 h5 h6 h7 h8 h9 h10 h11 h12 h13 h14 h15 => (by decide +kernel : ∀ t : Fin cfg0.N, conds0_C (grid0.coords t) → cfg0.idle 10 (grid0.coords t) = false) t ⟨h0, h1, h2, h3, h4, h5, h6, h7, h8, h9, h10, h11, h12, h13, h14, h15⟩
/-- At the points of case C, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.fresh 10 t.val = false :=
  fun t h0 h1 h2 h3 h4 h5 h6 h7 h8 h9 h10 h11 h12 h13 h14 h15 => (by intro t; rw [fresh0_10_eq t]; revert t; decide +kernel : ∀ t : Fin cfg0.N, conds0_C (grid0.coords t) → cfg0.fresh 10 t.val = false) t ⟨h0, h1, h2, h3, h4, h5, h6, h7, h8, h9, h10, h11, h12, h13, h14, h15⟩
/-- At the points of case D the printed configuration (`Cfg.idle`) calls output 10 idle: the case stores nothing into it. -/
theorem idleAt0_10_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.idle 10 (grid0.coords t) = true :=
  fun t h0 h1 h2 h3 h4 h5 h6 h7 h8 h9 h10 h11 h12 h13 h14 h15 => (by decide +kernel : ∀ t : Fin cfg0.N, conds0_D (grid0.coords t) → cfg0.idle 10 (grid0.coords t) = true) t ⟨h0, h1, h2, h3, h4, h5, h6, h7, h8, h9, h10, h11, h12, h13, h14, h15⟩
/-- Whether output 11's buffer is FRESH at each position `1 ‥ N` — holds nothing the body stored since the region's entry or the
    last write-back (written back at the point before, or idle there and fresh before it) —, as a bitmask
    (bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x800000000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 11 (grid0.coords t) = false :=
  fun t h0 h1 h2 h3 h4 h5 h6 h7 h8 h9 h10 h11 h12 h13 h14 h15 => (by decide +kernel : ∀ t : Fin cfg0.N, conds0_A (grid0.coords t) → cfg0.idle 11 (grid0.coords t) = false) t ⟨h0, h1, h2, h3, h4, h5, h6, h7, h8, h9, h10, h11, h12, h13, h14, h15⟩
/-- At the points of case B the printed configuration (`Cfg.idle`) calls output 11 idle: the case stores nothing into it. -/
theorem idleAt0_11_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → cfg0.idle 11 (grid0.coords t) = true :=
  fun t h0 h1 h2 h3 h4 h5 h6 h7 h8 h9 h10 h11 h12 h13 h14 h15 => (by decide +kernel : ∀ t : Fin cfg0.N, conds0_B (grid0.coords t) → cfg0.idle 11 (grid0.coords t) = true) t ⟨h0, h1, h2, h3, h4, h5, h6, h7, h8, h9, h10, h11, h12, h13, h14, h15⟩
/-- At the points of case B the pipeline does not write output 11's block back. -/
theorem noFlush0_11_B : ∀ t : Fin cfg0.N, ¬cond0_0 (grid0.coords t) → cond0_1 (grid0.coords t) → ¬cond0_2 (grid0.coords t) → ¬cond0_3 (grid0.coords t) → cond0_4 (grid0.coords t) → ¬cond0_5 (grid0.coords t) → ¬cond0_6 (grid0.coords t) → cond0_7 (grid0.coords t) → ¬cond0_8 (grid0.coords t) → ¬cond0_9 (grid0.coords t) → cond0_10 (grid0.coords t) → ¬cond0_11 (grid0.coords t) → ¬cond0_12 (grid0.coords t) → cond0_13 (grid0.coords t) → ¬cond0_14 (grid0.coords t) → ¬cond0_15 (grid0.coords t) → (cfg0.win 11).flush t = false :=
  fun t h0 h1 h2 h3 h4 h5 h6 h7 h8 h9 h10 h11 h12 h13 h14 h15 => (by decide +kernel : ∀ t : Fin cfg0.N, conds0_B (grid0.coords t) → (cfg0.win 11).flush t = false) t ⟨h0, h1, h2, h3, h4, h5, h6, h7, h8, h9, h10, h11, h12, h13, h14, h15⟩
/-- At the points of case C the printed configuration (`Cfg.idle`) calls output 11 idle: the case stores nothing into it. -/
theorem idleAt0_11_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → cfg0.idle 11 (grid0.coords t) = true :=
  fun t h0 h1 h2 h3 h4 h5 h6 h7 h8 h9 h10 h11 h12 h13 h14 h15 => (by decide +kernel : ∀ t : Fin cfg0.N, conds0_C (grid0.coords t) → cfg0.idle 11 (grid0.coords t) = true) t ⟨h0, h1, h2, h3, h4, h5, h6, h7, h8, h9, h10, h11, h12, h13, h14, h15⟩
/-- At the points of case C the pipeline does not write output 11's block back. -/
theorem noFlush0_11_C : ∀ t : Fin cfg0.N, ¬cond0_0 (grid0.coords t) → ¬cond0_1 (grid0.coords t) → cond0_2 (grid0.coords t) → ¬cond0_3 (grid0.coords t) → ¬cond0_4 (grid0.coords t) → cond0_5 (grid0.coords t) → ¬cond0_6 (grid0.coords t) → ¬cond0_7 (grid0.coords t) → cond0_8 (grid0.coords t) → ¬cond0_9 (grid0.coords t) → ¬cond0_10 (grid0.coords t) → cond0_11 (grid0.coords t) → ¬cond0_12 (grid0.coords t) → ¬cond0_13 (grid0.coords t) → cond0_14 (grid0.coords t) → ¬cond0_15 (grid0.coords t) → (cfg0.win 11).flush t = false :=
  fun t h0 h1 h2 h3 h4 h5 h6 h7 h8 h9 h10 h11 h12 h13 h14 h15 => (by decide +kernel : ∀ t : Fin cfg0.N, conds0_C (grid0.coords t) → (cfg0.win 11).flush t = false) t ⟨h0, h1, h2, h3, h4, h5, h6, h7, h8, h9, h10, h11, h12, h13, h14, h15⟩
/-- At the points of case D the printed configuration (`Cfg.idle`) calls output 11 live: the case stores into it. -/
theorem liveAt0_11_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.idle 11 (grid0.coords t) = false :=
  fun t h0 h1 h2 h3 h4 h5 h6 h7 h8 h9 h10 h11 h12 h13 h14 h15 => (by decide +kernel : ∀ t : Fin cfg0.N, conds0_D (grid0.coords t) → cfg0.idle 11 (grid0.coords t) = false) t ⟨h0, h1, h2, h3, h4, h5, h6, h7, h8, h9, h10, h11, h12, h13, h14, h15⟩
/-- At the points of case D, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.fresh 11 t.val = false :=
  fun t h0 h1 h2 h3 h4 h5 h6 h7 h8 h9 h10 h11 h12 h13 h14 h15 => (by intro t; rw [fresh0_11_eq t]; revert t; decide +kernel : ∀ t : Fin cfg0.N, conds0_D (grid0.coords t) → cfg0.fresh 11 t.val = false) t ⟨h0, h1, h2, h3, h4, h5, h6, h7, h8, h9, h10, h11, h12, h13, h14, h15⟩

/-- At the points of case D, which leaves output 7 idle, its buffer is not fresh. -/
theorem notFresh0_7_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.fresh 7 t.val = false :=
  fun t h0 h1 h2 h3 h4 h5 h6 h7 h8 h9 h10 h11 h12 h13 h14 h15 => (by intro t; rw [fresh0_7_eq t]; revert t; decide +kernel : ∀ t : Fin cfg0.N, conds0_D (grid0.coords t) → cfg0.fresh 7 t.val = false) t ⟨h0, h1, h2, h3, h4, h5, h6, h7, h8, h9, h10, h11, h12, h13, h14, h15⟩

/-- At the points of case D, which leaves output 8 idle, its buffer is not fresh. -/
theorem notFresh0_8_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.fresh 8 t.val = false :=
  fun t h0 h1 h2 h3 h4 h5 h6 h7 h8 h9 h10 h11 h12 h13 h14 h15 => (by intro t; rw [fresh0_8_eq t]; revert t; decide +kernel : ∀ t : Fin cfg0.N, conds0_D (grid0.coords t) → cfg0.fresh 8 t.val = false) t ⟨h0, h1, h2, h3, h4, h5, h6, h7, h8, h9, h10, h11, h12, h13, h14, h15⟩

/-- At the points of case D, which leaves output 10 idle, its buffer is not fresh. -/
theorem notFresh0_10_D : ∀ t : Fin cfg0.N, ¬cond0_0 (grid0.coords t) → ¬cond0_1 (grid0.coords t) → ¬cond0_2 (grid0.coords t) → cond0_3 (grid0.coords t) → ¬cond0_4 (grid0.coords t) → ¬cond0_5 (grid0.coords t) → cond0_6 (grid0.coords t) → ¬cond0_7 (grid0.coords t) → ¬cond0_8 (grid0.coords t) → cond0_9 (grid0.coords t) → ¬cond0_10 (grid0.coords t) → ¬cond0_11 (grid0.coords t) → cond0_12 (grid0.coords t) → ¬cond0_13 (grid0.coords t) → ¬cond0_14 (grid0.coords t) → cond0_15 (grid0.coords t) → cfg0.fresh 10 t.val = false :=
  fun t h0 h1 h2 h3 h4 h5 h6 h7 h8 h9 h10 h11 h12 h13 h14 h15 => (by intro t; rw [fresh0_10_eq t]; revert t; decide +kernel : ∀ t : Fin cfg0.N, conds0_D (grid0.coords t) → cfg0.fresh 10 t.val = false) t ⟨h0, h1, h2, h3, h4, h5, h6, h7, h8, h9, h10, h11, h12, h13, h14, h15⟩

/-! ## The kernel body on any staging memrefs: a subtype the run finds -/

/-- One staging buffer of output window 7, through which its contents are stated (`View.read_writes_of_cover`: the
    choice does not matter). -/
abbrev VO0_7 : View sig .tc .vmem S256x1920 .bf16 := (Memref.whole cc0_stg7_0 : Memref sig .tc .vmem S256x1920 .bf16).view
/-- One staging buffer of output window 8, through which its contents are stated (`View.read_writes_of_cover`: the
    choice does not matter). -/
abbrev VO0_8 : View sig .tc .vmem S256x1920 .f32 := (Memref.whole cc0_stg8_0 : Memref sig .tc .vmem S256x1920 .f32).view
/-- One staging buffer of output window 9, through which its contents are stated (`View.read_writes_of_cover`: the
    choice does not matter). -/
abbrev VO0_9 : View sig .tc .vmem S256x1920 .f32 := (Memref.whole cc0_stg9_0 : Memref sig .tc .vmem S256x1920 .f32).view
/-- One staging buffer of output window 10, through which its contents are stated (`View.read_writes_of_cover`: the
    choice does not matter). -/
abbrev VO0_10 : View sig .tc .vmem S8x128 .f32 := (Memref.whole cc0_stg10_0 : Memref sig .tc .vmem S8x128 .f32).view
/-- One staging buffer of output window 11, through which its contents are stated (`View.read_writes_of_cover`: the
    choice does not matter). -/
abbrev VO0_11 : View sig .tc .vmem S8x128 .f32 := (Memref.whole cc0_stg11_0 : Memref sig .tc .vmem S8x128 .f32).view
/-- Each window's current staging memref at point `t`, spelled as the pipeline passes it (`bodyAt0`), and its wholeness. -/
abbrev ms0_0 (t : Fin cfg0.N) : Memref sig .tc .vmem S1920x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1920 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1920 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1920 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1920 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1920 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S7168x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.QkvIdeal.Gen

end
-- ==== Proof.Qkv.RunA.lean ====
/- The run of the QKV kernel's body in case A of its conditionals: the pieces each buffer ends with are its witness. -/
module

public import proofs.«01_k».proof.Proof.Qkv.Runs

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken, `scf.if` 4 taken, `scf.if` 5 not taken, `scf.if` 6 not taken, `scf.if` 7 taken, `scf.if` 8 not taken, `scf.if` 9 not taken, `scf.if` 10 taken, `scf.if` 11 not taken, `scf.if` 12 not taken, `scf.if` 13 taken, `scf.if` 14 not taken, `scf.if` 15 not taken: points 0), WITH the
    proof that on whole staging memrefs — the inputs' at their contents, the outputs it leaves idle (8, 9: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) :
    Σ' (L7 : List (View.Piece (Elt F) S256x1920 .bf16)), Σ' (L8 : List (View.Piece (Elt F) S256x1920 .f32)), Σ' (L9 : List (View.Piece (Elt F) S256x1920 .f32)), Σ' (L10 : List (View.Piece (Elt F) S8x128 .f32)), Σ' (L11 : List (View.Piece (Elt F) S8x128 .f32)), { LT0 : List (View.Piece (Elt F) S7168x256 .bf16) //
      ∀ (xi8 : Vec F S256x1920 .f32) (xi9 : Vec F S256x1920 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨?_, [], [], ?_, ?_, ?_, fun xi8 xi9 E K => ?run⟩
  case run =>
    simp only [cc0_qkv_eq_skeleton]; unfold cc0_qkv_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; iexact HS0

end Cert.QkvIdeal.Gen

end
-- ==== Proof.Qkv.RunB.lean ====
/- The run of the QKV kernel's body in case B of its conditionals: the pieces each buffer ends with are its witness. -/
module

public import proofs.«01_k».proof.Proof.Qkv.RunA

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken, `scf.if` 4 taken, `scf.if` 5 not taken, `scf.if` 6 not taken, `scf.if` 7 taken, `scf.if` 8 not taken, `scf.if` 9 not taken, `scf.if` 10 taken, `scf.if` 11 not taken, `scf.if` 12 not taken, `scf.if` 13 taken, `scf.if` 14 not taken, `scf.if` 15 not taken: points 1, 2, … 27: 27 of 36), WITH the
    proof that on whole staging memrefs — the inputs' at their contents, the outputs it leaves idle (8, 9, 10, 11: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) :
    Σ' (L7 : List (View.Piece (Elt F) S256x1920 .bf16)), Σ' (L8 : List (View.Piece (Elt F) S256x1920 .f32)), Σ' (L9 : List (View.Piece (Elt F) S256x1920 .f32)), Σ' (L10 : List (View.Piece (Elt F) S8x128 .f32)), Σ' (L11 : List (View.Piece (Elt F) S8x128 .f32)), { LT0 : List (View.Piece (Elt F) S7168x256 .bf16) //
      ∀ (xi8 : Vec F S256x1920 .f32) (xi9 : Vec F S256x1920 .f32) (xi10 : Vec F S8x128 .f32) (xi11 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xi10 ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xi10 ∗ owns (c : Thread nD τ) arg12 fullShare xi11 ∗ (∃ f, arg13.view.loc (c : Thread nD τ) ↦[arg13.view.set]{fullShare} arg13.view.writes (Elt F) f LT0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], [], ?_, fun xi8 xi9 xi10 xi11 E K => ?run⟩
  case run =>
    simp only [cc0_qkv_eq_skeleton]; unfold cc0_qkv_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hf11
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    iexists _; iexact HS0

end Cert.QkvIdeal.Gen

end
-- ==== Proof.Qkv.RunC.lean ====
/- The run of the QKV kernel's body in case C of its conditionals: the pieces each buffer ends with are its witness. -/
module

public import proofs.«01_k».proof.Proof.Qkv.RunB

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken, `scf.if` 4 not taken, `scf.if` 5 taken, `scf.if` 6 not taken, `scf.if` 7 not taken, `scf.if` 8 taken, `scf.if` 9 not taken, `scf.if` 10 not taken, `scf.if` 11 taken, `scf.if` 12 not taken, `scf.if` 13 not taken, `scf.if` 14 taken, `scf.if` 15 not taken: points 28, 29, 30, 31), WITH the
    proof that on whole staging memrefs — the inputs' at their contents, the outputs it reads before covering (10) at their running contents `xo·`, the outputs it leaves idle (7, 9, 11: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) :
    Σ' (L7 : List (View.Piece (Elt F) S256x1920 .bf16)), Σ' (L8 : List (View.Piece (Elt F) S256x1920 .f32)), Σ' (L9 : List (View.Piece (Elt F) S256x1920 .f32)), Σ' (L10 : List (View.Piece (Elt F) S8x128 .f32)), Σ' (L11 : List (View.Piece (Elt F) S8x128 .f32)), { LT0 : List (View.Piece (Elt F) S7168x256 .bf16) //
      ∀ (xi7 : Vec F S256x1920 .bf16) (xi9 : Vec F S256x1920 .f32) (xi11 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ owns (c : Thread nD τ) arg10 fullShare xi9 ∗ owns (c : Thread nD τ) arg11 fullShare xo10 ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LT0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨[], ?_, [], ?_, [], ?_, fun xi7 xi9 xi11 E K => ?run⟩
  case run =>
    simp only [cc0_qkv_eq_skeleton]; unfold cc0_qkv_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hf11
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    iexists _; iexact HS0

end Cert.QkvIdeal.Gen

end
-- ==== Proof.Qkv.RunD.lean ====
/- The run of the QKV kernel's body in case D of its conditionals: the pieces each buffer ends with are its witness. -/
module

public import proofs.«01_k».proof.Proof.Qkv.RunC

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken, `scf.if` 4 not taken, `scf.if` 5 not taken, `scf.if` 6 taken, `scf.if` 7 not taken, `scf.if` 8 not taken, `scf.if` 9 taken, `scf.if` 10 not taken, `scf.if` 11 not taken, `scf.if` 12 taken, `scf.if` 13 not taken, `scf.if` 14 not taken, `scf.if` 15 taken: points 32, 33, 34, 35), WITH the
    proof that on whole staging memrefs — the inputs' at their contents, the outputs it reads before covering (11) at their running contents `xo·`, the outputs it leaves idle (7, 8, 10: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) :
    Σ' (L7 : List (View.Piece (Elt F) S256x1920 .bf16)), Σ' (L8 : List (View.Piece (Elt F) S256x1920 .f32)), Σ' (L9 : List (View.Piece (Elt F) S256x1920 .f32)), Σ' (L10 : List (View.Piece (Elt F) S8x128 .f32)), Σ' (L11 : List (View.Piece (Elt F) S8x128 .f32)), { LT0 : List (View.Piece (Elt F) S7168x256 .bf16) //
      ∀ (xi7 : Vec F S256x1920 .bf16) (xi8 : Vec F S256x1920 .f32) (xi10 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ d, owns (c : Thread nD τ) arg10 fullShare d) ∗ owns (c : Thread nD τ) arg11 fullShare xi10 ∗ owns (c : Thread nD τ) arg12 fullShare xo11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f L9) ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LT0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, [], ?_, ?_, fun xi7 xi8 xi10 E K => ?run⟩
  case run =>
    simp only [cc0_qkv_eq_skeleton]; unfold cc0_qkv_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]; · iexists _; iexact H11
    iexists _; iexact HS0

end Cert.QkvIdeal.Gen

end
-- ==== Proof.Qkv.Terms.lean ====
/- What each case of the QKV kernel's body leaves in each output's staging buffer. -/
module

public import proofs.«01_k».proof.Proof.Qkv.RunD

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (5 stores of `S256x384`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (y : S256x1920.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1 S256x384.size (by sl_kernel_rfl) y

/-- What case A leaves in output 7's staging buffer: its pieces read back over junk. -/
def out0_A_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S256x1920 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1)

/-- Case A stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_A_8 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo8 : Vec F S256x1920 .f32) : Vec F S256x1920 .f32 := xo8

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S256x1920 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.1)

/-- Case A's pieces for output 10 tile its block (1 store of `S8x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.1 S8x128.size (by sl_kernel_rfl) y

/-- What case A leaves in output 10's staging buffer: its pieces read back over junk. -/
def out0_A_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S8x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.1)

/-- Case A's pieces for output 11 tile its block (1 store of `S8x128`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.2.1 S8x128.size (by sl_kernel_rfl) y

/-- What case A leaves in output 11's staging buffer: its pieces read back over junk. -/
def out0_A_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S8x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.2.2.1)

/-- Case B's pieces for output 7 tile its block (5 stores of `S256x384`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (y : S256x1920.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1 S256x384.size (by sl_kernel_rfl) y

/-- What case B leaves in output 7's staging buffer: its pieces read back over junk. -/
def out0_B_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S256x1920 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).1)

/-- Case B stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_8 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo8 : Vec F S256x1920 .f32) : Vec F S256x1920 .f32 := xo8

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) : Vec F S256x1920 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6).2.2.1)

/-- Case B stores nothing into output 10 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) : Vec F S8x128 .f32 := xo10

/-- Case B stores nothing into output 11 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : cond0_7 i) (hc8 : ¬cond0_8 i) (hc9 : ¬cond0_9 i) (hc10 : cond0_10 i) (hc11 : ¬cond0_11 i) (hc12 : ¬cond0_12 i) (hc13 : cond0_13 i) (hc14 : ¬cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) : Vec F S8x128 .f32 := xo11

/-- Case C stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_C_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) (xo7 : Vec F S256x1920 .bf16) : Vec F S256x1920 .bf16 := xo7

/-- Case C's pieces for output 8 tile its block (5 stores of `S256x384`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) (y : S256x1920.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.1 S256x384.size (by sl_kernel_rfl) y

/-- What case C leaves in output 8's staging buffer: its pieces read back over junk. -/
def out0_C_8 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) : Vec F S256x1920 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.1)

/-- Case C stores nothing into output 9 (the window is idle at its points and not written back there):
    no pieces — a placeholder (junk read back) that nothing consults, since at these points the window is neither
    written back nor read at the next point (Lib/Pipeline.lean "Idle points"). -/
def out0_C_9 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) : Vec F S256x1920 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.2.1)

/-- Case C's pieces for output 10 tile its block (5 stores of `S8x128`, checked by the kernel's evaluation: Lib/Ring.lean `Piece.tiledL`, linear in the pieces, through a loop's `@[irreducible]` trip theorem too), so they cover it. -/
theorem cover0_C_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) (y : S8x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.2.2.1 S8x128.size (by sl_kernel_rfl) y

/-- What case C leaves in output 10's staging buffer: its pieces read back over junk. -/
def out0_C_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) : Vec F S8x128 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo10).2.2.2.1)

/-- Case C stores nothing into output 11 (the window is idle at its points and not written back there) and another
    case keeps its prior contents (reads it before covering, or covers it in part): what its buffer holds after the body is what the
    point before left, CARRIED — an argument of this term alone, which the run does not take (Lib/Pipeline/TableIdle.lean `Dat.before_out_traj`). -/
def out0_C_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : cond0_2 i) (hc3 : ¬cond0_3 i) (hc4 : ¬cond0_4 i) (hc5 : cond0_5 i) (hc6 : ¬cond0_6 i) (hc7 : ¬cond0_7 i) (hc8 : cond0_8 i) (hc9 : ¬cond0_9 i) (hc10 : ¬cond0_10 i) (hc11 : cond0_11 i) (hc12 : ¬cond0_12 i) (hc13 : ¬cond0_13 i) (hc14 : cond0_14 i) (hc15 : ¬cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo10 : Vec F S8x128 .f32) (xo11 : Vec F S8x128 .f32) : Vec F S8x128 .f32 := xo11

/-- Case D stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_D_7 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) (xo7 : Vec F S256x1920 .bf16) : Vec F S256x1920 .bf16 := xo7

/-- Case D stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_D_8 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) (xo8 : Vec F S256x1920 .f32) : Vec F S256x1920 .f32 := xo8

/-- Case D's pieces for output 9 tile its block (5 stores of `S256x384`, checked by the kernel's evaluation: Lib/Ring.lean `Piece.tiledL`, linear in the pieces, through a loop's `@[irreducible]` trip theorem too), so they cover it. -/
theorem cover0_D_9 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) (y : S256x1920.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.1 S256x384.size (by sl_kernel_rfl) y

/-- What case D leaves in output 9's staging buffer: its pieces read back over junk. -/
def out0_D_9 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) : Vec F S256x1920 .f32 :=
  VO0_9.read (Elt F) (VO0_9.writes (Elt F) VO0_9.junk (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.1)

/-- Case D stores nothing into output 10 (the window is idle at its points and not written back there) and another
    case keeps its prior contents (reads it before covering, or covers it in part): what its buffer holds after the body is what the
    point before left, CARRIED — an argument of this term alone, which the run does not take (Lib/Pipeline/TableIdle.lean `Dat.before_out_traj`). -/
def out0_D_10 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) (xo10 : Vec F S8x128 .f32) : Vec F S8x128 .f32 := xo10

/-- Case D's pieces for output 11 tile its block (5 stores of `S8x128`, checked by the kernel's evaluation: Lib/Ring.lean `Piece.tiledL`, linear in the pieces, through a loop's `@[irreducible]` trip theorem too), so they cover it. -/
theorem cover0_D_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) (y : S8x128.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.2.2.1 S8x128.size (by sl_kernel_rfl) y

/-- What case D leaves in output 11's staging buffer: its pieces read back over junk. -/
def out0_D_11 (c : Dev nD) (i : grid0.Coords) (arg1 : Memref sig .tc .vmem S1920x7168 .bf16) (harg1 : arg1.IsWhole) (arg2 : Memref sig .tc .vmem S3584x256 .i8) (harg2 : arg2.IsWhole) (arg3 : Memref sig .tc .vmem S448x256 .fp8e4m3) (harg3 : arg3.IsWhole) (arg4 : Memref sig .tc .smem S2 .f32) (harg4 : arg4.IsWhole) (arg5 : Memref sig .tc .vmem S1x256 .f32) (harg5 : arg5.IsWhole) (arg6 : Memref sig .tc .vmem S32x1920 .f32) (harg6 : arg6.IsWhole) (arg7 : Memref sig .tc .vmem S32x1920 .f32) (harg7 : arg7.IsWhole) (arg8 : Memref sig .tc .vmem S256x1920 .bf16) (harg8 : arg8.IsWhole) (arg9 : Memref sig .tc .vmem S256x1920 .f32) (harg9 : arg9.IsWhole) (arg10 : Memref sig .tc .vmem S256x1920 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S7168x256 .bf16) (harg13 : arg13.IsWhole) (hc0 : ¬cond0_0 i) (hc1 : ¬cond0_1 i) (hc2 : ¬cond0_2 i) (hc3 : cond0_3 i) (hc4 : ¬cond0_4 i) (hc5 : ¬cond0_5 i) (hc6 : cond0_6 i) (hc7 : ¬cond0_7 i) (hc8 : ¬cond0_8 i) (hc9 : cond0_9 i) (hc10 : ¬cond0_10 i) (hc11 : ¬cond0_11 i) (hc12 : cond0_12 i) (hc13 : ¬cond0_13 i) (hc14 : ¬cond0_14 i) (hc15 : cond0_15 i)
    (x0 : Vec F S1920x7168 .bf16) (x1 : Vec F S3584x256 .i8) (x2 : Vec F S448x256 .fp8e4m3) (x3 : Vec F S2 .f32) (x4 : Vec F S1x256 .f32) (x5 : Vec F S32x1920 .f32) (x6 : Vec F S32x1920 .f32) (xo11 : Vec F S8x128 .f32) : Vec F S8x128 .f32 :=
  VO0_11.read (Elt F) (VO0_11.writes (Elt F) VO0_11.junk (kernelRun0_D c i arg1 harg1 arg2 harg2 arg3 harg3 arg4 harg4 arg5 harg5 arg6 harg6 arg7 harg7 arg8 harg8 arg9 harg9 arg10 harg10 arg11 harg11 arg12 harg12 arg13 harg13 hc0 hc1 hc2 hc3 hc4 hc5 hc6 hc7 hc8 hc9 hc10 hc11 hc12 hc13 hc14 hc15 x0 x1 x2 x3 x4 x5 x6 xo11).2.2.2.2.1)

end Cert.QkvIdeal.Gen

end
-- ==== Proof.Qkv.Outs.lean ====
/- What the outputs of the QKV kernel hold after each point of the grid. -/
module

public import proofs.«01_k».proof.Proof.Qkv.Terms

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1920 .bf16 × Vec F S256x1920 .f32 × Vec F S256x1920 .f32 × Vec F S8x128 .f32 × Vec F S8x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (fun h => (fun h => by (try dsimp only at h); omega) ((hcond0_5 ⟨0, hn⟩).mp h)) (fun h => (fun h => by (try dsimp only at h); omega) ((hcond0_6 ⟨0, hn⟩).mp h)) ((hcond0_7 ⟨0, hn⟩).mpr (by (try dsimp only); omega)) (fun h => (fun h => by (try dsimp only at h); omega) ((hcond0_8 ⟨0, hn⟩).mp h)) (fun h => (fun h => by (try dsimp only at h); omega) ((hcond0_9 ⟨0, hn⟩).mp h)) ((hcond0_10 ⟨0, hn⟩).mpr (by (try dsimp only); omega)) (fun h => (fun h => by (try dsimp only at h); omega) ((hcond0_11 ⟨0, hn⟩).mp h)) (fun h => (fun h => by (try dsimp only at h); omega) ((hcond0_12 ⟨0, hn⟩).mp h)) ((hcond0_13 ⟨0, hn⟩).mpr (by (try dsimp only); omega)) (fun h => (fun h => by (try dsimp only at h); omega) ((hcond0_14 ⟨0, hn⟩).mp h)) (fun h => (fun h => by (try dsimp only at h); omega) ((hcond0_15 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (fun h => (fun h => by (try dsimp only at h); omega) ((hcond0_5 ⟨0, hn⟩).mp h)) (fun h => (fun h => by (try dsimp only at h); omega) ((hcond0_6 ⟨0, hn⟩).mp h)) ((hcond0_7 ⟨0, hn⟩).mpr (by (try dsimp only); omega)) (fun h => (fun h => by (try dsimp only at h); omega) ((hcond0_8 ⟨0, hn⟩).mp h)) (fun h => (fun h => by (try dsimp only at h); omega) ((hcond0_9 ⟨0, hn⟩).mp h)) ((hcond0_10 ⟨0, hn⟩).mpr (by (try dsimp only); omega)) (fun h => (fun h => by (try dsimp only at h); omega) ((hcond0_11 ⟨0, hn⟩).mp h)) (fun h => (fun h => by (try dsimp only at h); omega) ((hcond0_12 ⟨0, hn⟩).mp h)) ((hcond0_13 ⟨0, hn⟩).mpr (by (try dsimp only); omega)) (fun h => (fun h => by (try dsimp only at h); omega) ((hcond0_14 ⟨0, hn⟩).mp h)) (fun h => (fun h => by (try dsimp only at h); omega) ((hcond0_15 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) ((VO0_7.read (Elt F) VO0_7.junk, VO0_8.read (Elt F) VO0_8.junk, VO0_9.read (Elt F) VO0_9.junk, VO0_10.read (Elt F) VO0_10.junk, VO0_11.read (Elt F) VO0_11.junk) : Vec F S256x1920 .bf16 × Vec F S256x1920 .f32 × Vec F S256x1920 .f32 × Vec F S8x128 .f32 × Vec F S8x128 .f32).2.1, out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (fun h => (fun h => by (try dsimp only at h); omega) ((hcond0_5 ⟨0, hn⟩).mp h)) (fun h => (fun h => by (try dsimp only at h); omega) ((hcond0_6 ⟨0, hn⟩).mp h)) ((hcond0_7 ⟨0, hn⟩).mpr (by (try dsimp only); omega)) (fun h => (fun h => by (try dsimp only at h); omega) ((hcond0_8 ⟨0, hn⟩).mp h)) (fun h => (fun h => by (try dsimp only at h); omega) ((hcond0_9 ⟨0, hn⟩).mp h)) ((hcond0_10 ⟨0, hn⟩).mpr (by (try dsimp only); omega)) (fun h => (fun h => by (try dsimp only at h); omega) ((hcond0_11 ⟨0, hn⟩).mp h)) (fun h => (fun h => by (try dsimp only at h); omega) ((hcond0_12 ⟨0, hn⟩).mp h)) ((hcond0_13 ⟨0, hn⟩).mpr (by (try dsimp only); omega)) (fun h => (fun h => by (try dsimp only at h); omega) ((hcond0_14 ⟨0, hn⟩).mp h)) (fun h => (fun h => by (try dsimp only at h); omega) ((hcond0_15 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (fun h => (fun h => by (try dsimp only at h); omega) ((hcond0_5 ⟨0, hn⟩).mp h)) (fun h => (fun h => by (try dsimp only at h); omega) ((hcond0_6 ⟨0, hn⟩).mp h)) ((hcond0_7 ⟨0, hn⟩).mpr (by (try dsimp only); omega)) (fun h => (fun h => by (try dsimp only at h); omega) ((hcond0_8 ⟨0, hn⟩).mp h)) (fun h => (fun h => by (try dsimp only at h); omega) ((hcond0_9 ⟨0, hn⟩).mp h)) ((hcond0_10 ⟨0, hn⟩).mpr (by (try dsimp only); omega)) (fun h => (fun h => by (try dsimp only at h); omega) ((hcond0_11 ⟨0, hn⟩).mp h)) (fun h => (fun h => by (try dsimp only at h); omega) ((hcond0_12 ⟨0, hn⟩).mp h)) ((hcond0_13 ⟨0, hn⟩).mpr (by (try dsimp only); omega)) (fun h => (fun h => by (try dsimp only at h); omega) ((hcond0_14 ⟨0, hn⟩).mp h)) (fun h => (fun h => by (try dsimp only at h); omega) ((hcond0_15 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) ((hcond0_4 ⟨0, hn⟩).mpr (by (try dsimp only); omega)) (fun h => (fun h => by (try dsimp only at h); omega) ((hcond0_5 ⟨0, hn⟩).mp h)) (fun h => (fun h => by (try dsimp only at h); omega) ((hcond0_6 ⟨0, hn⟩).mp h)) ((hcond0_7 ⟨0, hn⟩).mpr (by (try dsimp only); omega)) (fun h => (fun h => by (try dsimp only at h); omega) ((hcond0_8 ⟨0, hn⟩).mp h)) (fun h => (fun h => by (try dsimp only at h); omega) ((hcond0_9 ⟨0, hn⟩).mp h)) ((hcond0_10 ⟨0, hn⟩).mpr (by (try dsimp only); omega)) (fun h => (fun h => by (try dsimp only at h); omega) ((hcond0_11 ⟨0, hn⟩).mp h)) (fun h => (fun h => by (try dsimp only at h); omega) ((hcond0_12 ⟨0, hn⟩).mp h)) ((hcond0_13 ⟨0, hn⟩).mpr (by (try dsimp only); omega)) (fun h => (fun h => by (try dsimp only at h); omega) ((hcond0_14 ⟨0, hn⟩).mp h)) (fun h => (fun h => by (try dsimp only at h); omega) ((hcond0_15 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 36 = 0 then
      if h1 : (n + 1) < 28 then
        if h2 : (28 ≤ (n + 1) % 36 ∧ (n + 1) % 36 ≤ 31) then
          False.elim (by have hN : n + 1 < 36 := lt_of_lt_of_eq hn (show cfg0.N = 36 from N_0); omega)
        else
          if h3 : 32 ≤ (n + 1) then
            False.elim (by have hN : n + 1 < 36 := lt_of_lt_of_eq hn (show cfg0.N = 36 from N_0); omega)
          else
            if h4 : (n + 1) < 28 then
              if h5 : (28 ≤ (n + 1) % 36 ∧ (n + 1) % 36 ≤ 31) then
                False.elim (by have hN : n + 1 < 36 := lt_of_lt_of_eq hn (show cfg0.N = 36 from N_0); omega)
              else
                if h6 : 32 ≤ (n + 1) then
                  False.elim (by have hN : n + 1 < 36 := lt_of_lt_of_eq hn (show cfg0.N = 36 from N_0); omega)
                else
                  if h7 : (n + 1) < 28 then
                    if h8 : (28 ≤ (n + 1) % 36 ∧ (n + 1) % 36 ≤ 31) then
                      False.elim (by have hN : n + 1 < 36 := lt_of_lt_of_eq hn (show cfg0.N = 36 from N_0); omega)
                    else
                      if h9 : 32 ≤ (n + 1) then
                        False.elim (by have hN : n + 1 < 36 := lt_of_lt_of_eq hn (show cfg0.N = 36 from N_0); omega)
                      else
                        if h10 : (n + 1) < 28 then
                          if h11 : (28 ≤ (n + 1) % 36 ∧ (n + 1) % 36 ≤ 31) then
                            False.elim (by have hN : n + 1 < 36 := lt_of_lt_of_eq hn (show cfg0.N = 36 from N_0); omega)
                          else
                            if h12 : 32 ≤ (n + 1) then
                              False.elim (by have hN : n + 1 < 36 := lt_of_lt_of_eq hn (show cfg0.N = 36 from N_0); omega)
                            else
                              if h13 : (n + 1) < 28 then
                                if h14 : (28 ≤ (n + 1) % 36 ∧ (n + 1) % 36 ≤ 31) then
                                  False.elim (by have hN : n + 1 < 36 := lt_of_lt_of_eq hn (show cfg0.N = 36 from N_0); omega)
                                else
                                  if h15 : 32 ≤ (n + 1) then
                                    False.elim (by have hN : n + 1 < 36 := lt_of_lt_of_eq hn (show cfg0.N = 36 from N_0); omega)
                                  else
                                    (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
                              else
                                False.elim (by have hN : n + 1 < 36 := lt_of_lt_of_eq hn (show cfg0.N = 36 from N_0); omega)
                        else
                          False.elim (by have hN : n + 1 < 36 := lt_of_lt_of_eq hn (show cfg0.N = 36 from N_0); omega)
                  else
                    False.elim (by have hN : n + 1 < 36 := lt_of_lt_of_eq hn (show cfg0.N = 36 from N_0); omega)
            else
              False.elim (by have hN : n + 1 < 36 := lt_of_lt_of_eq hn (show cfg0.N = 36 from N_0); omega)
      else
        False.elim (by have hN : n + 1 < 36 := lt_of_lt_of_eq hn (show cfg0.N = 36 from N_0); omega)
    else
      if h1 : (n + 1) < 28 then
        if h2 : (28 ≤ (n + 1) % 36 ∧ (n + 1) % 36 ≤ 31) then
          False.elim (by have hN : n + 1 < 36 := lt_of_lt_of_eq hn (show cfg0.N = 36 from N_0); omega)
        else
          if h3 : 32 ≤ (n + 1) then
            False.elim (by have hN : n + 1 < 36 := lt_of_lt_of_eq hn (show cfg0.N = 36 from N_0); omega)
          else
            if h4 : (n + 1) < 28 then
              if h5 : (28 ≤ (n + 1) % 36 ∧ (n + 1) % 36 ≤ 31) then
                False.elim (by have hN : n + 1 < 36 := lt_of_lt_of_eq hn (show cfg0.N = 36 from N_0); omega)
              else
                if h6 : 32 ≤ (n + 1) then
                  False.elim (by have hN : n + 1 < 36 := lt_of_lt_of_eq hn (show cfg0.N = 36 from N_0); omega)
                else
                  if h7 : (n + 1) < 28 then
                    if h8 : (28 ≤ (n + 1) % 36 ∧ (n + 1) % 36 ≤ 31) then
                      False.elim (by have hN : n + 1 < 36 := lt_of_lt_of_eq hn (show cfg0.N = 36 from N_0); omega)
                    else
                      if h9 : 32 ≤ (n + 1) then
                        False.elim (by have hN : n + 1 < 36 := lt_of_lt_of_eq hn (show cfg0.N = 36 from N_0); omega)
                      else
                        if h10 : (n + 1) < 28 then
                          if h11 : (28 ≤ (n + 1) % 36 ∧ (n + 1) % 36 ≤ 31) then
                            False.elim (by have hN : n + 1 < 36 := lt_of_lt_of_eq hn (show cfg0.N = 36 from N_0); omega)
                          else
                            if h12 : 32 ≤ (n + 1) then
                              False.elim (by have hN : n + 1 < 36 := lt_of_lt_of_eq hn (show cfg0.N = 36 from N_0); omega)
                            else
                              if h13 : (n + 1) < 28 then
                                if h14 : (28 ≤ (n + 1) % 36 ∧ (n + 1) % 36 ≤ 31) then
                                  False.elim (by have hN : n + 1 < 36 := lt_of_lt_of_eq hn (show cfg0.N = 36 from N_0); omega)
                                else
                                  if h15 : 32 ≤ (n + 1) then
                                    False.elim (by have hN : n + 1 < 36 := lt_of_lt_of_eq hn (show cfg0.N = 36 from N_0); omega)
                                  else
                                    (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (fun h => h9 ((hcond0_9 ⟨n + 1, hn⟩).mp h)) ((hcond0_10 ⟨n + 1, hn⟩).mpr h10) (fun h => h11 ((hcond0_11 ⟨n + 1, hn⟩).mp h)) (fun h => h12 ((hcond0_12 ⟨n + 1, hn⟩).mp h)) ((hcond0_13 ⟨n + 1, hn⟩).mpr h13) (fun h => h14 ((hcond0_14 ⟨n + 1, hn⟩).mp h)) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2)
                              else
                                False.elim (by have hN : n + 1 < 36 := lt_of_lt_of_eq hn (show cfg0.N = 36 from N_0); omega)
                        else
                          False.elim (by have hN : n + 1 < 36 := lt_of_lt_of_eq hn (show cfg0.N = 36 from N_0); omega)
                  else
                    False.elim (by have hN : n + 1 < 36 := lt_of_lt_of_eq hn (show cfg0.N = 36 from N_0); omega)
            else
              False.elim (by have hN : n + 1 < 36 := lt_of_lt_of_eq hn (show cfg0.N = 36 from N_0); omega)
      else
        if h2 : (28 ≤ (n + 1) % 36 ∧ (n + 1) % 36 ≤ 31) then
          if h3 : 32 ≤ (n + 1) then
            False.elim (by have hN : n + 1 < 36 := lt_of_lt_of_eq hn (show cfg0.N = 36 from N_0); omega)
          else
            if h4 : (n + 1) < 28 then
              False.elim (by have hN : n + 1 < 36 := lt_of_lt_of_eq hn (show cfg0.N = 36 from N_0); omega)
            else
              if h5 : (28 ≤ (n + 1) % 36 ∧ (n + 1) % 36 ≤ 31) then
                if h6 : 32 ≤ (n + 1) then
                  False.elim (by have hN : n + 1 < 36 := lt_of_lt_of_eq hn (show cfg0.N = 36 from N_0); omega)
                else
                  if h7 : (n + 1) < 28 then
                    False.elim (by have hN : n + 1 < 36 := lt_of_lt_of_eq hn (show cfg0.N = 36 from N_0); omega)
                  else
                    if h8 : (28 ≤ (n + 1) % 36 ∧ (n + 1) % 36 ≤ 31) then
                      if h9 : 32 ≤ (n + 1) then
                        False.elim (by have hN : n + 1 < 36 := lt_of_lt_of_eq hn (show cfg0.N = 36 from N_0); omega)
                      else
                        if h10 : (n + 1) < 28 then
                          False.elim (by have hN : n + 1 < 36 := lt_of_lt_of_eq hn (show cfg0.N = 36 from N_0); omega)
                        else
                          if h11 : (28 ≤ (n + 1) % 36 ∧ (n + 1) % 36 ≤ 31) then
                            if h12 : 32 ≤ (n + 1) then
                              False.elim (by have hN : n + 1 < 36 := lt_of_lt_of_eq hn (show cfg0.N = 36 from N_0); omega)
                            else
                              if h13 : (n + 1) < 28 then
                                False.elim (by have hN : n + 1 < 36 := lt_of_lt_of_eq hn (show cfg0.N = 36 from N_0); omega)
                              else
                                if h14 : (28 ≤ (n + 1) % 36 ∧ (n + 1) % 36 ≤ 31) then
                                  if h15 : 32 ≤ (n + 1) then
                                    False.elim (by have hN : n + 1 < 36 := lt_of_lt_of_eq hn (show cfg0.N = 36 from N_0); omega)
                                  else
                                    (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) ((hcond0_8 ⟨n + 1, hn⟩).mpr h8) (fun h => h9 ((hcond0_9 ⟨n + 1, hn⟩).mp h)) (fun h => h10 ((hcond0_10 ⟨n + 1, hn⟩).mp h)) ((hcond0_11 ⟨n + 1, hn⟩).mpr h11) (fun h => h12 ((hcond0_12 ⟨n + 1, hn⟩).mp h)) (fun h => h13 ((hcond0_13 ⟨n + 1, hn⟩).mp h)) ((hcond0_14 ⟨n + 1, hn⟩).mpr h14) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).1, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) ((hcond0_8 ⟨n + 1, hn⟩).mpr h8) (fun h => h9 ((hcond0_9 ⟨n + 1, hn⟩).mp h)) (fun h => h10 ((hcond0_10 ⟨n + 1, hn⟩).mp h)) ((hcond0_11 ⟨n + 1, hn⟩).mpr h11) (fun h => h12 ((hcond0_12 ⟨n + 1, hn⟩).mp h)) (fun h => h13 ((hcond0_13 ⟨n + 1, hn⟩).mp h)) ((hcond0_14 ⟨n + 1, hn⟩).mpr h14) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) ((hcond0_8 ⟨n + 1, hn⟩).mpr h8) (fun h => h9 ((hcond0_9 ⟨n + 1, hn⟩).mp h)) (fun h => h10 ((hcond0_10 ⟨n + 1, hn⟩).mp h)) ((hcond0_11 ⟨n + 1, hn⟩).mpr h11) (fun h => h12 ((hcond0_12 ⟨n + 1, hn⟩).mp h)) (fun h => h13 ((hcond0_13 ⟨n + 1, hn⟩).mp h)) ((hcond0_14 ⟨n + 1, hn⟩).mpr h14) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) ((hcond0_8 ⟨n + 1, hn⟩).mpr h8) (fun h => h9 ((hcond0_9 ⟨n + 1, hn⟩).mp h)) (fun h => h10 ((hcond0_10 ⟨n + 1, hn⟩).mp h)) ((hcond0_11 ⟨n + 1, hn⟩).mpr h11) (fun h => h12 ((hcond0_12 ⟨n + 1, hn⟩).mp h)) (fun h => h13 ((hcond0_13 ⟨n + 1, hn⟩).mp h)) ((hcond0_14 ⟨n + 1, hn⟩).mpr h14) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) ((hcond0_8 ⟨n + 1, hn⟩).mpr h8) (fun h => h9 ((hcond0_9 ⟨n + 1, hn⟩).mp h)) (fun h => h10 ((hcond0_10 ⟨n + 1, hn⟩).mp h)) ((hcond0_11 ⟨n + 1, hn⟩).mpr h11) (fun h => h12 ((hcond0_12 ⟨n + 1, hn⟩).mp h)) (fun h => h13 ((hcond0_13 ⟨n + 1, hn⟩).mp h)) ((hcond0_14 ⟨n + 1, hn⟩).mpr h14) (fun h => h15 ((hcond0_15 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2)
                                else
                                  False.elim (by have hN : n + 1 < 36 := lt_of_lt_of_eq hn (show cfg0.N = 36 from N_0); omega)
                          else
                            False.elim (by have hN : n + 1 < 36 := lt_of_lt_of_eq hn (show cfg0.N = 36 from N_0); omega)
                    else
                      False.elim (by have hN : n + 1 < 36 := lt_of_lt_of_eq hn (show cfg0.N = 36 from N_0); omega)
              else
                False.elim (by have hN : n + 1 < 36 := lt_of_lt_of_eq hn (show cfg0.N = 36 from N_0); omega)
        else
          if h3 : 32 ≤ (n + 1) then
            if h4 : (n + 1) < 28 then
              False.elim (by have hN : n + 1 < 36 := lt_of_lt_of_eq hn (show cfg0.N = 36 from N_0); omega)
            else
              if h5 : (28 ≤ (n + 1) % 36 ∧ (n + 1) % 36 ≤ 31) then
                False.elim (by have hN : n + 1 < 36 := lt_of_lt_of_eq hn (show cfg0.N = 36 from N_0); omega)
              else
                if h6 : 32 ≤ (n + 1) then
                  if h7 : (n + 1) < 28 then
                    False.elim (by have hN : n + 1 < 36 := lt_of_lt_of_eq hn (show cfg0.N = 36 from N_0); omega)
                  else
                    if h8 : (28 ≤ (n + 1) % 36 ∧ (n + 1) % 36 ≤ 31) then
                      False.elim (by have hN : n + 1 < 36 := lt_of_lt_of_eq hn (show cfg0.N = 36 from N_0); omega)
                    else
                      if h9 : 32 ≤ (n + 1) then
                        if h10 : (n + 1) < 28 then
                          False.elim (by have hN : n + 1 < 36 := lt_of_lt_of_eq hn (show cfg0.N = 36 from N_0); omega)
                        else
                          if h11 : (28 ≤ (n + 1) % 36 ∧ (n + 1) % 36 ≤ 31) then
                            False.elim (by have hN : n + 1 < 36 := lt_of_lt_of_eq hn (show cfg0.N = 36 from N_0); omega)
                          else
                            if h12 : 32 ≤ (n + 1) then
                              if h13 : (n + 1) < 28 then
                                False.elim (by have hN : n + 1 < 36 := lt_of_lt_of_eq hn (show cfg0.N = 36 from N_0); omega)
                              else
                                if h14 : (28 ≤ (n + 1) % 36 ∧ (n + 1) % 36 ≤ 31) then
                                  False.elim (by have hN : n + 1 < 36 := lt_of_lt_of_eq hn (show cfg0.N = 36 from N_0); omega)
                                else
                                  if h15 : 32 ≤ (n + 1) then
                                    (out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) ((hcond0_9 ⟨n + 1, hn⟩).mpr h9) (fun h => h10 ((hcond0_10 ⟨n + 1, hn⟩).mp h)) (fun h => h11 ((hcond0_11 ⟨n + 1, hn⟩).mp h)) ((hcond0_12 ⟨n + 1, hn⟩).mpr h12) (fun h => h13 ((hcond0_13 ⟨n + 1, hn⟩).mp h)) (fun h => h14 ((hcond0_14 ⟨n + 1, hn⟩).mp h)) ((hcond0_15 ⟨n + 1, hn⟩).mpr h15) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2 (outsAt0 c n (Nat.lt_of_succ_lt hn)).1, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) ((hcond0_9 ⟨n + 1, hn⟩).mpr h9) (fun h => h10 ((hcond0_10 ⟨n + 1, hn⟩).mp h)) (fun h => h11 ((hcond0_11 ⟨n + 1, hn⟩).mp h)) ((hcond0_12 ⟨n + 1, hn⟩).mpr h12) (fun h => h13 ((hcond0_13 ⟨n + 1, hn⟩).mp h)) (fun h => h14 ((hcond0_14 ⟨n + 1, hn⟩).mp h)) ((hcond0_15 ⟨n + 1, hn⟩).mpr h15) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2 (outsAt0 c n (Nat.lt_of_succ_lt hn)).2.1, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) ((hcond0_9 ⟨n + 1, hn⟩).mpr h9) (fun h => h10 ((hcond0_10 ⟨n + 1, hn⟩).mp h)) (fun h => h11 ((hcond0_11 ⟨n + 1, hn⟩).mp h)) ((hcond0_12 ⟨n + 1, hn⟩).mpr h12) (fun h => h13 ((hcond0_13 ⟨n + 1, hn⟩).mp h)) (fun h => h14 ((hcond0_14 ⟨n + 1, hn⟩).mp h)) ((hcond0_15 ⟨n + 1, hn⟩).mpr h15) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) ((hcond0_9 ⟨n + 1, hn⟩).mpr h9) (fun h => h10 ((hcond0_10 ⟨n + 1, hn⟩).mp h)) (fun h => h11 ((hcond0_11 ⟨n + 1, hn⟩).mp h)) ((hcond0_12 ⟨n + 1, hn⟩).mpr h12) (fun h => h13 ((hcond0_13 ⟨n + 1, hn⟩).mp h)) (fun h => h14 ((hcond0_14 ⟨n + 1, hn⟩).mp h)) ((hcond0_15 ⟨n + 1, hn⟩).mpr h15) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2 (outsAt0 c n (Nat.lt_of_succ_lt hn)).2.2.2.1, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) ((hcond0_9 ⟨n + 1, hn⟩).mpr h9) (fun h => h10 ((hcond0_10 ⟨n + 1, hn⟩).mp h)) (fun h => h11 ((hcond0_11 ⟨n + 1, hn⟩).mp h)) ((hcond0_12 ⟨n + 1, hn⟩).mpr h12) (fun h => h13 ((hcond0_13 ⟨n + 1, hn⟩).mp h)) (fun h => h14 ((hcond0_14 ⟨n + 1, hn⟩).mp h)) ((hcond0_15 ⟨n + 1, hn⟩).mpr h15) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2)
                                  else
                                    False.elim (by have hN : n + 1 < 36 := lt_of_lt_of_eq hn (show cfg0.N = 36 from N_0); omega)
                            else
                              False.elim (by have hN : n + 1 < 36 := lt_of_lt_of_eq hn (show cfg0.N = 36 from N_0); omega)
                      else
                        False.elim (by have hN : n + 1 < 36 := lt_of_lt_of_eq hn (show cfg0.N = 36 from N_0); omega)
                else
                  False.elim (by have hN : n + 1 < 36 := lt_of_lt_of_eq hn (show cfg0.N = 36 from N_0); omega)
          else
            False.elim (by have hN : n + 1 < 36 := lt_of_lt_of_eq hn (show cfg0.N = 36 from N_0); omega)

/-- `outsAt0` at a point of case A: that case's contents, over what the point before left. -/
theorem outsAt0_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans ((dif_neg h2).trans ((dif_neg h3).trans ((dif_pos h4).trans ((dif_neg h5).trans ((dif_neg h6).trans ((dif_pos h7).trans ((dif_neg h8).trans ((dif_neg h9).trans ((dif_pos h10).trans ((dif_neg h11).trans ((dif_neg h12).trans ((dif_pos h13).trans ((dif_neg h14).trans ((dif_neg h15).trans rfl)))))))))))))))

/-- `outsAt0` at a point of case B: that case's contents, over what the point before left. -/
theorem outsAt0_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_pos h4).trans ((dif_neg h5).trans ((dif_neg h6).trans ((dif_pos h7).trans ((dif_neg h8).trans ((dif_neg h9).trans ((dif_pos h10).trans ((dif_neg h11).trans ((dif_neg h12).trans ((dif_pos h13).trans ((dif_neg h14).trans ((dif_neg h15).trans rfl)))))))))))))))

/-- `outsAt0` at a point of case C: that case's contents, over what the point before left. -/
theorem outsAt0_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).1, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_pos h5).trans ((dif_neg h6).trans ((dif_neg h7).trans ((dif_pos h8).trans ((dif_neg h9).trans ((dif_neg h10).trans ((dif_pos h11).trans ((dif_neg h12).trans ((dif_neg h13).trans ((dif_pos h14).trans ((dif_neg h15).trans rfl)))))))))))))))

/-- `outsAt0` at a point of case D: that case's contents, over what the point before left. -/
theorem outsAt0_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    outsAt0 m c t.val t.isLt = (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).1, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).2.1, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).2.2.2.1, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans ((dif_pos h6).trans ((dif_neg h7).trans ((dif_neg h8).trans ((dif_pos h9).trans ((dif_neg h10).trans ((dif_neg h11).trans ((dif_pos h12).trans ((dif_neg h13).trans ((dif_neg h14).trans ((dif_pos h15).trans rfl)))))))))))))))

end Cert.QkvIdeal.Gen

end
-- ==== Proof.Qkv.Frame.lean ====
/- The frame of the QKV kernel with every output named: the pipeline's proof data, the body obligation at a generic
   point, and the run. -/
module

public import proofs.«01_k».proof.Proof.Qkv.Outs
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 36 := lt_of_lt_of_eq t.isLt (show cfg0.N = 36 from N_0)
  rw [after0_7, after0_7]
  by_cases h0 : t.val % 36 = 0
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [liveAt0_7_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))] at hi
                                  exact absurd hi Bool.false_ne_true
                            · exfalso; omega
                      · exfalso; omega
                · exfalso; omega
          · exfalso; omega
    · exfalso; omega
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [liveAt0_7_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))] at hi
                                  exact absurd hi Bool.false_ne_true
                            · exfalso; omega
                      · exfalso; omega
                · exfalso; omega
          · exfalso; omega
    · by_cases h2 : (28 ≤ t.val % 36 ∧ t.val % 36 ≤ 31)
      · by_cases h3 : 32 ≤ t.val
        · exfalso; omega
        · by_cases h4 : t.val < 28
          · exfalso; omega
          · by_cases h5 : (28 ≤ t.val % 36 ∧ t.val % 36 ≤ 31)
            · by_cases h6 : 32 ≤ t.val
              · exfalso; omega
              · by_cases h7 : t.val < 28
                · exfalso; omega
                · by_cases h8 : (28 ≤ t.val % 36 ∧ t.val % 36 ≤ 31)
                  · by_cases h9 : 32 ≤ t.val
                    · exfalso; omega
                    · by_cases h10 : t.val < 28
                      · exfalso; omega
                      · by_cases h11 : (28 ≤ t.val % 36 ∧ t.val % 36 ≤ 31)
                        · by_cases h12 : 32 ≤ t.val
                          · exfalso; omega
                          · by_cases h13 : t.val < 28
                            · exfalso; omega
                            · by_cases h14 : (28 ≤ t.val % 36 ∧ t.val % 36 ≤ 31)
                              · by_cases h15 : 32 ≤ t.val
                                · exfalso; omega
                                · rw [outsAt0_C m c t h0 h1 h2 h3 h4 h5 h6 h7 h8 h9 h10 h11 h12 h13 h14 h15]
                                  dsimp only
                                  unfold out0_C_7
                                  rfl
                              · exfalso; omega
                        · exfalso; omega
                  · exfalso; omega
            · exfalso; omega
      · by_cases h3 : 32 ≤ t.val
        · by_cases h4 : t.val < 28
          · exfalso; omega
          · by_cases h5 : (28 ≤ t.val % 36 ∧ t.val % 36 ≤ 31)
            · exfalso; omega
            · by_cases h6 : 32 ≤ t.val
              · by_cases h7 : t.val < 28
                · exfalso; omega
                · by_cases h8 : (28 ≤ t.val % 36 ∧ t.val % 36 ≤ 31)
                  · exfalso; omega
                  · by_cases h9 : 32 ≤ t.val
                    · by_cases h10 : t.val < 28
                      · exfalso; omega
                      · by_cases h11 : (28 ≤ t.val % 36 ∧ t.val % 36 ≤ 31)
                        · exfalso; omega
                        · by_cases h12 : 32 ≤ t.val
                          · by_cases h13 : t.val < 28
                            · exfalso; omega
                            · by_cases h14 : (28 ≤ t.val % 36 ∧ t.val % 36 ≤ 31)
                              · exfalso; omega
                              · by_cases h15 : 32 ≤ t.val
                                · rw [outsAt0_D m c t h0 h1 h2 h3 h4 h5 h6 h7 h8 h9 h10 h11 h12 h13 h14 h15]
                                  dsimp only
                                  unfold out0_D_7
                                  rfl
                                · exfalso; omega
                          · exfalso; omega
                    · exfalso; omega
              · exfalso; omega
        · exfalso; omega

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 36 := lt_of_lt_of_eq t.isLt (show cfg0.N = 36 from N_0)
  rw [after0_8, after0_8]
  by_cases h0 : t.val % 36 = 0
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [outsAt0_A m c t h0 h1 h2 h3 h4 h5 h6 h7 h8 h9 h10 h11 h12 h13 h14 h15]
                                  dsimp only
                                  unfold out0_A_8
                                  rfl
                            · exfalso; omega
                      · exfalso; omega
                · exfalso; omega
          · exfalso; omega
    · exfalso; omega
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [outsAt0_B m c t h0 h1 h2 h3 h4 h5 h6 h7 h8 h9 h10 h11 h12 h13 h14 h15]
                                  dsimp only
                                  unfold out0_B_8
                                  rfl
                            · exfalso; omega
                      · exfalso; omega
                · exfalso; omega
          · exfalso; omega
    · by_cases h2 : (28 ≤ t.val % 36 ∧ t.val % 36 ≤ 31)
      · by_cases h3 : 32 ≤ t.val
        · exfalso; omega
        · by_cases h4 : t.val < 28
          · exfalso; omega
          · by_cases h5 : (28 ≤ t.val % 36 ∧ t.val % 36 ≤ 31)
            · by_cases h6 : 32 ≤ t.val
              · exfalso; omega
              · by_cases h7 : t.val < 28
                · exfalso; omega
                · by_cases h8 : (28 ≤ t.val % 36 ∧ t.val % 36 ≤ 31)
                  · by_cases h9 : 32 ≤ t.val
                    · exfalso; omega
                    · by_cases h10 : t.val < 28
                      · exfalso; omega
                      · by_cases h11 : (28 ≤ t.val % 36 ∧ t.val % 36 ≤ 31)
                        · by_cases h12 : 32 ≤ t.val
                          · exfalso; omega
                          · by_cases h13 : t.val < 28
                            · exfalso; omega
                            · by_cases h14 : (28 ≤ t.val % 36 ∧ t.val % 36 ≤ 31)
                              · by_cases h15 : 32 ≤ t.val
                                · exfalso; omega
                                · rw [liveAt0_8_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))] at hi
                                  exact absurd hi Bool.false_ne_true
                              · exfalso; omega
                        · exfalso; omega
                  · exfalso; omega
            · exfalso; omega
      · by_cases h3 : 32 ≤ t.val
        · by_cases h4 : t.val < 28
          · exfalso; omega
          · by_cases h5 : (28 ≤ t.val % 36 ∧ t.val % 36 ≤ 31)
            · exfalso; omega
            · by_cases h6 : 32 ≤ t.val
              · by_cases h7 : t.val < 28
                · exfalso; omega
                · by_cases h8 : (28 ≤ t.val % 36 ∧ t.val % 36 ≤ 31)
                  · exfalso; omega
                  · by_cases h9 : 32 ≤ t.val
                    · by_cases h10 : t.val < 28
                      · exfalso; omega
                      · by_cases h11 : (28 ≤ t.val % 36 ∧ t.val % 36 ≤ 31)
                        · exfalso; omega
                        · by_cases h12 : 32 ≤ t.val
                          · by_cases h13 : t.val < 28
                            · exfalso; omega
                            · by_cases h14 : (28 ≤ t.val % 36 ∧ t.val % 36 ≤ 31)
                              · exfalso; omega
                              · by_cases h15 : 32 ≤ t.val
                                · rw [outsAt0_D m c t h0 h1 h2 h3 h4 h5 h6 h7 h8 h9 h10 h11 h12 h13 h14 h15]
                                  dsimp only
                                  unfold out0_D_8
                                  rfl
                                · exfalso; omega
                          · exfalso; omega
                    · exfalso; omega
              · exfalso; omega
        · exfalso; omega

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 36 := lt_of_lt_of_eq t.isLt (show cfg0.N = 36 from N_0)
  rw [after0_10, after0_10]
  by_cases h0 : t.val % 36 = 0
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [liveAt0_10_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))] at hi
                                  exact absurd hi Bool.false_ne_true
                            · exfalso; omega
                      · exfalso; omega
                · exfalso; omega
          · exfalso; omega
    · exfalso; omega
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [outsAt0_B m c t h0 h1 h2 h3 h4 h5 h6 h7 h8 h9 h10 h11 h12 h13 h14 h15]
                                  dsimp only
                                  unfold out0_B_10
                                  rfl
                            · exfalso; omega
                      · exfalso; omega
                · exfalso; omega
          · exfalso; omega
    · by_cases h2 : (28 ≤ t.val % 36 ∧ t.val % 36 ≤ 31)
      · by_cases h3 : 32 ≤ t.val
        · exfalso; omega
        · by_cases h4 : t.val < 28
          · exfalso; omega
          · by_cases h5 : (28 ≤ t.val % 36 ∧ t.val % 36 ≤ 31)
            · by_cases h6 : 32 ≤ t.val
              · exfalso; omega
              · by_cases h7 : t.val < 28
                · exfalso; omega
                · by_cases h8 : (28 ≤ t.val % 36 ∧ t.val % 36 ≤ 31)
                  · by_cases h9 : 32 ≤ t.val
                    · exfalso; omega
                    · by_cases h10 : t.val < 28
                      · exfalso; omega
                      · by_cases h11 : (28 ≤ t.val % 36 ∧ t.val % 36 ≤ 31)
                        · by_cases h12 : 32 ≤ t.val
                          · exfalso; omega
                          · by_cases h13 : t.val < 28
                            · exfalso; omega
                            · by_cases h14 : (28 ≤ t.val % 36 ∧ t.val % 36 ≤ 31)
                              · by_cases h15 : 32 ≤ t.val
                                · exfalso; omega
                                · rw [liveAt0_10_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))] at hi
                                  exact absurd hi Bool.false_ne_true
                              · exfalso; omega
                        · exfalso; omega
                  · exfalso; omega
            · exfalso; omega
      · by_cases h3 : 32 ≤ t.val
        · by_cases h4 : t.val < 28
          · exfalso; omega
          · by_cases h5 : (28 ≤ t.val % 36 ∧ t.val % 36 ≤ 31)
            · exfalso; omega
            · by_cases h6 : 32 ≤ t.val
              · by_cases h7 : t.val < 28
                · exfalso; omega
                · by_cases h8 : (28 ≤ t.val % 36 ∧ t.val % 36 ≤ 31)
                  · exfalso; omega
                  · by_cases h9 : 32 ≤ t.val
                    · by_cases h10 : t.val < 28
                      · exfalso; omega
                      · by_cases h11 : (28 ≤ t.val % 36 ∧ t.val % 36 ≤ 31)
                        · exfalso; omega
                        · by_cases h12 : 32 ≤ t.val
                          · by_cases h13 : t.val < 28
                            · exfalso; omega
                            · by_cases h14 : (28 ≤ t.val % 36 ∧ t.val % 36 ≤ 31)
                              · exfalso; omega
                              · by_cases h15 : 32 ≤ t.val
                                · rw [outsAt0_D m c t h0 h1 h2 h3 h4 h5 h6 h7 h8 h9 h10 h11 h12 h13 h14 h15]
                                  dsimp only
                                  unfold out0_D_10
                                  rfl
                                · exfalso; omega
                          · exfalso; omega
                    · exfalso; omega
              · exfalso; omega
        · exfalso; omega

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 36 := lt_of_lt_of_eq t.isLt (show cfg0.N = 36 from N_0)
  rw [after0_11, after0_11]
  by_cases h0 : t.val % 36 = 0
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [liveAt0_11_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))] at hi
                                  exact absurd hi Bool.false_ne_true
                            · exfalso; omega
                      · exfalso; omega
                · exfalso; omega
          · exfalso; omega
    · exfalso; omega
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [outsAt0_B m c t h0 h1 h2 h3 h4 h5 h6 h7 h8 h9 h10 h11 h12 h13 h14 h15]
                                  dsimp only
                                  unfold out0_B_11
                                  rfl
                            · exfalso; omega
                      · exfalso; omega
                · exfalso; omega
          · exfalso; omega
    · by_cases h2 : (28 ≤ t.val % 36 ∧ t.val % 36 ≤ 31)
      · by_cases h3 : 32 ≤ t.val
        · exfalso; omega
        · by_cases h4 : t.val < 28
          · exfalso; omega
          · by_cases h5 : (28 ≤ t.val % 36 ∧ t.val % 36 ≤ 31)
            · by_cases h6 : 32 ≤ t.val
              · exfalso; omega
              · by_cases h7 : t.val < 28
                · exfalso; omega
                · by_cases h8 : (28 ≤ t.val % 36 ∧ t.val % 36 ≤ 31)
                  · by_cases h9 : 32 ≤ t.val
                    · exfalso; omega
                    · by_cases h10 : t.val < 28
                      · exfalso; omega
                      · by_cases h11 : (28 ≤ t.val % 36 ∧ t.val % 36 ≤ 31)
                        · by_cases h12 : 32 ≤ t.val
                          · exfalso; omega
                          · by_cases h13 : t.val < 28
                            · exfalso; omega
                            · by_cases h14 : (28 ≤ t.val % 36 ∧ t.val % 36 ≤ 31)
                              · by_cases h15 : 32 ≤ t.val
                                · exfalso; omega
                                · rw [outsAt0_C m c t h0 h1 h2 h3 h4 h5 h6 h7 h8 h9 h10 h11 h12 h13 h14 h15]
                                  dsimp only
                                  unfold out0_C_11
                                  rfl
                              · exfalso; omega
                        · exfalso; omega
                  · exfalso; omega
            · exfalso; omega
      · by_cases h3 : 32 ≤ t.val
        · by_cases h4 : t.val < 28
          · exfalso; omega
          · by_cases h5 : (28 ≤ t.val % 36 ∧ t.val % 36 ≤ 31)
            · exfalso; omega
            · by_cases h6 : 32 ≤ t.val
              · by_cases h7 : t.val < 28
                · exfalso; omega
                · by_cases h8 : (28 ≤ t.val % 36 ∧ t.val % 36 ≤ 31)
                  · exfalso; omega
                  · by_cases h9 : 32 ≤ t.val
                    · by_cases h10 : t.val < 28
                      · exfalso; omega
                      · by_cases h11 : (28 ≤ t.val % 36 ∧ t.val % 36 ≤ 31)
                        · exfalso; omega
                        · by_cases h12 : 32 ≤ t.val
                          · by_cases h13 : t.val < 28
                            · exfalso; omega
                            · by_cases h14 : (28 ≤ t.val % 36 ∧ t.val % 36 ≤ 31)
                              · exfalso; omega
                              · by_cases h15 : 32 ≤ t.val
                                · rw [liveAt0_11_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)] at hi
                                  exact absurd hi Bool.false_ne_true
                                · exfalso; omega
                          · exfalso; omega
                    · exfalso; omega
              · exfalso; omega
        · exfalso; omega
/-- At a point of case C output 10's current staging buffer holds what the point before left: the buffer is not fresh
    there (`notFresh0_10_C`: stored into since the region's entry or the last write-back, carried through the points that
    leave it idle by `hcarry0_10`; Lib/Pipeline/TableIdle.lean `Dat.before_out_traj`). -/
theorem before0_10_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) (d) :
    (dats m 0 c).before 10 t d = (outsAt0 m c (t.val - 1) (Nat.lt_of_le_of_lt (Nat.sub_le _ _) t.isLt)).2.2.2.1 := by
  rw [Dat.before_out_traj _ 10 rfl (fun _ _ => rfl) (hcarry0_10 m c) t.val t rfl d,
    if_neg (by rw [notFresh0_10_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))]; exact Bool.false_ne_true)]
  dsimp only [dats]
/-- At a point of case D output 11's current staging buffer holds what the point before left: the buffer is not fresh
    there (`notFresh0_11_D`: stored into since the region's entry or the last write-back, carried through the points that
    leave it idle by `hcarry0_11`; Lib/Pipeline/TableIdle.lean `Dat.before_out_traj`). -/
theorem before0_11_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) (d) :
    (dats m 0 c).before 11 t d = (outsAt0 m c (t.val - 1) (Nat.lt_of_le_of_lt (Nat.sub_le _ _) t.isLt)).2.2.2.2 := by
  rw [Dat.before_out_traj _ 11 rfl (fun _ _ => rfl) (hcarry0_11 m c) t.val t rfl d,
    if_neg (by rw [notFresh0_11_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)]; exact Bool.false_ne_true)]
  dsimp only [dats]

/-- A window idle at a point and not fresh there keeps what the point before left: the buffer as the point found it is what
    the proof data state of the window after the point, written back there or not. -/
theorem leaves_kept (c : Dev nD) (w : Fin cfg0.W) (t : Fin cfg0.N) (hw : (cfg0.win w).isOut = true)
    (hclip : ∀ (i : cfg0.grid.Coords) a, (cfg0.win w).clip i a = none)
    (hcarry : ∀ (t : Fin cfg0.N) (_ : t.val ≠ 0), cfg0.idle w (cfg0.grid.coords t) = true → cfg0.fresh w t.val = false →
      (dats m 0 c).after w t = (dats m 0 c).after w ⟨t.val - 1, by omega⟩)
    (h0 : t.val ≠ 0) (hi : cfg0.idle w (cfg0.grid.coords t) = true) (hfr : cfg0.fresh w t.val = false) (d) :
    (owns (c : Thread nD τ) ((cfg0.win w).stage (cfg0.slots t w)) fullShare ((dats m 0 c).before w t d) : sProp 𝕄) ⊢ (dats m 0 c).leavesExact w t := by
  have hb : (dats m 0 c).before w t d = (dats m 0 c).after w t := by
    rw [Dat.before_out_traj _ w hw hclip hcarry t.val t rfl d, if_neg (by rw [hfr]; exact Bool.false_ne_true), ← hcarry t h0 hi hfr]
  unfold Dat.leavesExact
  rw [hi]
  cases hf : (cfg0.win w).flush t
  · iintro H
    iexists d
    iexact H
  · rw [hb]

/-- Case D keeps output 7's buffer as the point before left it. -/
theorem leaves0_7_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) (d) :
    (owns (c : Thread nD τ) (ms0_7 t) fullShare ((dats m 0 c).before 7 t d) : sProp 𝕄) ⊢ (dats m 0 c).leavesExact 7 t :=
  leaves_kept m c 7 t rfl (fun _ _ => rfl) (hcarry0_7 m c) (by omega)
    (idleAt0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15))
    (notFresh0_7_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)) d

/-- Case D keeps output 8's buffer as the point before left it. -/
theorem leaves0_8_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) (d) :
    (owns (c : Thread nD τ) (ms0_8 t) fullShare ((dats m 0 c).before 8 t d) : sProp 𝕄) ⊢ (dats m 0 c).leavesExact 8 t :=
  leaves_kept m c 8 t rfl (fun _ _ => rfl) (hcarry0_8 m c) (by omega)
    (idleAt0_8_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15))
    (notFresh0_8_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)) d

/-- Case D keeps output 10's buffer as the point before left it. -/
theorem leaves0_10_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) (d) :
    (owns (c : Thread nD τ) (ms0_10 t) fullShare ((dats m 0 c).before 10 t d) : sProp 𝕄) ⊢ (dats m 0 c).leavesExact 10 t :=
  leaves_kept m c 10 t rfl (fun _ _ => rfl) (hcarry0_10 m c) (by omega)
    (idleAt0_10_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15))
    (notFresh0_10_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)) d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 36 := lt_of_lt_of_eq t.isLt (show cfg0.N = 36 from N_0)
  by_cases h0 : t.val % 36 = 0
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [show (dats m 0 c).leavesExact 0 t = owns (c : Thread nD τ) (ms0_0 t) fullShare ((dats m 0 c).after 0 t) from by
      unfold Dat.leavesExact; rw [liveAt0_0 t], after0_0]
                                  rw [show (dats m 0 c).leavesExact 1 t = owns (c : Thread nD τ) (ms0_1 t) fullShare ((dats m 0 c).after 1 t) from by
      unfold Dat.leavesExact; rw [liveAt0_1 t], after0_1]
                                  rw [show (dats m 0 c).leavesExact 2 t = owns (c : Thread nD τ) (ms0_2 t) fullShare ((dats m 0 c).after 2 t) from by
      unfold Dat.leavesExact; rw [liveAt0_2 t], after0_2]
                                  rw [show (dats m 0 c).leavesExact 3 t = owns (c : Thread nD τ) (ms0_3 t) fullShare ((dats m 0 c).after 3 t) from by
      unfold Dat.leavesExact; rw [liveAt0_3 t], after0_3]
                                  rw [show (dats m 0 c).leavesExact 4 t = owns (c : Thread nD τ) (ms0_4 t) fullShare ((dats m 0 c).after 4 t) from by
      unfold Dat.leavesExact; rw [liveAt0_4 t], after0_4]
                                  rw [show (dats m 0 c).leavesExact 5 t = owns (c : Thread nD τ) (ms0_5 t) fullShare ((dats m 0 c).after 5 t) from by
      unfold Dat.leavesExact; rw [liveAt0_5 t], after0_5]
                                  rw [show (dats m 0 c).leavesExact 6 t = owns (c : Thread nD τ) (ms0_6 t) fullShare ((dats m 0 c).after 6 t) from by
      unfold Dat.leavesExact; rw [liveAt0_6 t], after0_6]
                                  rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))], after0_7]
                                  rw [Dat.leavesExact_idle (dats m 0 c) 8 t (idleAt0_8_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_8_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [Dat.leavesExact_idle (dats m 0 c) 9 t (idleAt0_9_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_9_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))], after0_10]
                                  rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))], after0_11]
                                  rw [outsAt0_A m c t h0 h1 h2 h3 h4 h5 h6 h7 h8 h9 h10 h11 h12 h13 h14 h15]
                                  unfold out0_A_7 out0_A_10 out0_A_11; (try dsimp only)
                                  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                                  iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)).2.2.2.2.2.2 _ _ Set.univ _)
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iexists _; iexact H7
                                  isplitl [H8]; · iexact H8
                                  isplitl [H9]; · iexact H9
                                  isplitl [H10]; · iexists _; iexact H10
                                  isplitl [H11]; · iexists _; iexact H11
                                  isplitl [HS0]; · iexact HS0
                                  iintro ⟨H0, H1, H2, H3, H4, H5, H6, ⟨%e7, H7⟩, H8, H9, ⟨%e10, H10⟩, ⟨%e11, H11⟩, ⟨%fT0, HS0⟩⟩
                                  isplitl [HS0 Hg]
                                  · isplitl [HS0]
                                    · iexists _; unfold owns; iexists _; isplitr
                                      swap; · iexact HS0
                                      ipureintro; rfl
                                    iexact Hg
                                  isplitl [Ho]; · iexact Ho
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]
                                  · unfold owns; iexists _; isplitr
                                    swap; · iexact H7
                                    ipureintro; exact View.read_writes_of_cover _ _ _ _ _ (cover0_A_7 c _ _ _ _ _ _ _ _ _ _ _ _ _ _ _ _ _ _ _ _ _ _ _ _ _ _ _ _ _ _ _ _ _ _ _ _ _ _ _ _ _ _ _ _ _ _ _ _ _ _)
                                  isplitl [H8]; · iexists _; iexact H8
                                  isplitl [H9]; · iexists _; iexact H9
                                  isplitl [H10]
                                  · unfold owns; iexists _; isplitr
                                    swap; · iexact H10
                                    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _)
                                  unfold owns; iexists _; isplitr
                                  swap; · iexact H11
                                  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _)
                            · exfalso; omega
                      · exfalso; omega
                · exfalso; omega
          · exfalso; omega
    · exfalso; omega
  · by_cases h1 : t.val < 28
    · by_cases h2 : (28 ≤ t.val % 36 ∧ t.val % 36 ≤ 31)
      · exfalso; omega
      · by_cases h3 : 32 ≤ t.val
        · exfalso; omega
        · by_cases h4 : t.val < 28
          · by_cases h5 : (28 ≤ t.val % 36 ∧ t.val % 36 ≤ 31)
            · exfalso; omega
            · by_cases h6 : 32 ≤ t.val
              · exfalso; omega
              · by_cases h7 : t.val < 28
                · by_cases h8 : (28 ≤ t.val % 36 ∧ t.val % 36 ≤ 31)
                  · exfalso; omega
                  · by_cases h9 : 32 ≤ t.val
                    · exfalso; omega
                    · by_cases h10 : t.val < 28
                      · by_cases h11 : (28 ≤ t.val % 36 ∧ t.val % 36 ≤ 31)
                        · exfalso; omega
                        · by_cases h12 : 32 ≤ t.val
                          · exfalso; omega
                          · by_cases h13 : t.val < 28
                            · by_cases h14 : (28 ≤ t.val % 36 ∧ t.val % 36 ≤ 31)
                              · exfalso; omega
                              · by_cases h15 : 32 ≤ t.val
                                · exfalso; omega
                                · rw [show (dats m 0 c).leavesExact 0 t = owns (c : Thread nD τ) (ms0_0 t) fullShare ((dats m 0 c).after 0 t) from by
      unfold Dat.leavesExact; rw [liveAt0_0 t], after0_0]
                                  rw [show (dats m 0 c).leavesExact 1 t = owns (c : Thread nD τ) (ms0_1 t) fullShare ((dats m 0 c).after 1 t) from by
      unfold Dat.leavesExact; rw [liveAt0_1 t], after0_1]
                                  rw [show (dats m 0 c).leavesExact 2 t = owns (c : Thread nD τ) (ms0_2 t) fullShare ((dats m 0 c).after 2 t) from by
      unfold Dat.leavesExact; rw [liveAt0_2 t], after0_2]
                                  rw [show (dats m 0 c).leavesExact 3 t = owns (c : Thread nD τ) (ms0_3 t) fullShare ((dats m 0 c).after 3 t) from by
      unfold Dat.leavesExact; rw [liveAt0_3 t], after0_3]
                                  rw [show (dats m 0 c).leavesExact 4 t = owns (c : Thread nD τ) (ms0_4 t) fullShare ((dats m 0 c).after 4 t) from by
      unfold Dat.leavesExact; rw [liveAt0_4 t], after0_4]
                                  rw [show (dats m 0 c).leavesExact 5 t = owns (c : Thread nD τ) (ms0_5 t) fullShare ((dats m 0 c).after 5 t) from by
      unfold Dat.leavesExact; rw [liveAt0_5 t], after0_5]
                                  rw [show (dats m 0 c).leavesExact 6 t = owns (c : Thread nD τ) (ms0_6 t) fullShare ((dats m 0 c).after 6 t) from by
      unfold Dat.leavesExact; rw [liveAt0_6 t], after0_6]
                                  rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))], after0_7]
                                  rw [Dat.leavesExact_idle (dats m 0 c) 8 t (idleAt0_8_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_8_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [Dat.leavesExact_idle (dats m 0 c) 9 t (idleAt0_9_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_9_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [Dat.leavesExact_idle (dats m 0 c) 10 t (idleAt0_10_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_10_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [Dat.leavesExact_idle (dats m 0 c) 11 t (idleAt0_11_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h))) (noFlush0_11_B t (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)))]
                                  rw [outsAt0_B m c t h0 h1 h2 h3 h4 h5 h6 h7 h8 h9 h10 h11 h12 h13 h14 h15]
                                  unfold out0_B_7; (try dsimp only)
                                  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                                  iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)).2.2.2.2.2.2 _ _ _ _ Set.univ _)
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iexists _; iexact H7
                                  isplitl [H8]; · iexact H8
                                  isplitl [H9]; · iexact H9
                                  isplitl [H10]; · iexact H10
                                  isplitl [H11]; · iexact H11
                                  isplitl [HS0]; · iexact HS0
                                  iintro ⟨H0, H1, H2, H3, H4, H5, H6, ⟨%e7, H7⟩, H8, H9, H10, H11, ⟨%fT0, HS0⟩⟩
                                  isplitl [HS0 Hg]
                                  · isplitl [HS0]
                                    · iexists _; unfold owns; iexists _; isplitr
                                      swap; · iexact HS0
                                      ipureintro; rfl
                                    iexact Hg
                                  isplitl [Ho]; · iexact Ho
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]
                                  · unfold owns; iexists _; isplitr
                                    swap; · iexact H7
                                    ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ _ _ _ _ _ _)
                                  isplitl [H8]; · iexists _; iexact H8
                                  isplitl [H9]; · iexists _; iexact H9
                                  isplitl [H10]; · iexists _; iexact H10
                                  iexists _; iexact H11
                            · exfalso; omega
                      · exfalso; omega
                · exfalso; omega
          · exfalso; omega
    · by_cases h2 : (28 ≤ t.val % 36 ∧ t.val % 36 ≤ 31)
      · by_cases h3 : 32 ≤ t.val
        · exfalso; omega
        · by_cases h4 : t.val < 28
          · exfalso; omega
          · by_cases h5 : (28 ≤ t.val % 36 ∧ t.val % 36 ≤ 31)
            · by_cases h6 : 32 ≤ t.val
              · exfalso; omega
              · by_cases h7 : t.val < 28
                · exfalso; omega
                · by_cases h8 : (28 ≤ t.val % 36 ∧ t.val % 36 ≤ 31)
                  · by_cases h9 : 32 ≤ t.val
                    · exfalso; omega
                    · by_cases h10 : t.val < 28
                      · exfalso; omega
                      · by_cases h11 : (28 ≤ t.val % 36 ∧ t.val % 36 ≤ 31)
                        · by_cases h12 : 32 ≤ t.val
                          · exfalso; omega
                          · by_cases h13 : t.val < 28
                            · exfalso; omega
                            · by_cases h14 : (28 ≤ t.val % 36 ∧ t.val % 36 ≤ 31)
                              · by_cases h15 : 32 ≤ t.val
                                · exfalso; omega
                                · rw [show (dats m 0 c).leavesExact 0 t = owns (c : Thread nD τ) (ms0_0 t) fullShare ((dats m 0 c).after 0 t) from by
      unfold Dat.leavesExact; rw [liveAt0_0 t], after0_0]
                                  rw [show (dats m 0 c).leavesExact 1 t = owns (c : Thread nD τ) (ms0_1 t) fullShare ((dats m 0 c).after 1 t) from by
      unfold Dat.leavesExact; rw [liveAt0_1 t], after0_1]
                                  rw [show (dats m 0 c).leavesExact 2 t = owns (c : Thread nD τ) (ms0_2 t) fullShare ((dats m 0 c).after 2 t) from by
      unfold Dat.leavesExact; rw [liveAt0_2 t], after0_2]
                                  rw [show (dats m 0 c).leavesExact 3 t = owns (c : Thread nD τ) (ms0_3 t) fullShare ((dats m 0 c).after 3 t) from by
      unfold Dat.leavesExact; rw [liveAt0_3 t], after0_3]
                                  rw [show (dats m 0 c).leavesExact 4 t = owns (c : Thread nD τ) (ms0_4 t) fullShare ((dats m 0 c).after 4 t) from by
      unfold Dat.leavesExact; rw [liveAt0_4 t], after0_4]
                                  rw [show (dats m 0 c).leavesExact 5 t = owns (c : Thread nD τ) (ms0_5 t) fullShare ((dats m 0 c).after 5 t) from by
      unfold Dat.leavesExact; rw [liveAt0_5 t], after0_5]
                                  rw [show (dats m 0 c).leavesExact 6 t = owns (c : Thread nD τ) (ms0_6 t) fullShare ((dats m 0 c).after 6 t) from by
      unfold Dat.leavesExact; rw [liveAt0_6 t], after0_6]
                                  rw [Dat.leavesExact_idle (dats m 0 c) 7 t (idleAt0_7_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))) (noFlush0_7_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)))]
                                  rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))], after0_8]
                                  rw [Dat.leavesExact_idle (dats m 0 c) 9 t (idleAt0_9_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))) (noFlush0_9_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)))]
                                  rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))], after0_10]
                                  rw [Dat.leavesExact_idle (dats m 0 c) 11 t (idleAt0_11_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h))) (noFlush0_11_C t (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)))]
                                  rw [outsAt0_C m c t h0 h1 h2 h3 h4 h5 h6 h7 h8 h9 h10 h11 h12 h13 h14 h15]
                                  simp only [before0_10_C m c t h0 h1 h2 h3 h4 h5 h6 h7 h8 h9 h10 h11 h12 h13 h14 h15]
                                  unfold out0_C_8 out0_C_10; (try dsimp only)
                                  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                                  iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) _).2.2.2.2.2.2 _ _ _ Set.univ _)
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iexact H7
                                  isplitl [H8]; · iexists _; iexact H8
                                  isplitl [H9]; · iexact H9
                                  isplitl [H10]; · iexact H10
                                  isplitl [H11]; · iexact H11
                                  isplitl [HS0]; · iexact HS0
                                  iintro ⟨H0, H1, H2, H3, H4, H5, H6, H7, ⟨%e8, H8⟩, H9, ⟨%e10, H10⟩, H11, ⟨%fT0, HS0⟩⟩
                                  isplitl [HS0 Hg]
                                  · isplitl [HS0]
                                    · iexists _; unfold owns; iexists _; isplitr
                                      swap; · iexact HS0
                                      ipureintro; rfl
                                    iexact Hg
                                  isplitl [Ho]; · iexact Ho
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iexists _; iexact H7
                                  isplitl [H8]
                                  · unfold owns; iexists _; isplitr
                                    swap; · iexact H8
                                    ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _ _ _ _)
                                  isplitl [H9]; · iexists _; iexact H9
                                  isplitl [H10]
                                  · unfold owns; iexists _; isplitr
                                    swap; · iexact H10
                                    ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _)
                                  iexists _; iexact H11
                              · exfalso; omega
                        · exfalso; omega
                  · exfalso; omega
            · exfalso; omega
      · by_cases h3 : 32 ≤ t.val
        · by_cases h4 : t.val < 28
          · exfalso; omega
          · by_cases h5 : (28 ≤ t.val % 36 ∧ t.val % 36 ≤ 31)
            · exfalso; omega
            · by_cases h6 : 32 ≤ t.val
              · by_cases h7 : t.val < 28
                · exfalso; omega
                · by_cases h8 : (28 ≤ t.val % 36 ∧ t.val % 36 ≤ 31)
                  · exfalso; omega
                  · by_cases h9 : 32 ≤ t.val
                    · by_cases h10 : t.val < 28
                      · exfalso; omega
                      · by_cases h11 : (28 ≤ t.val % 36 ∧ t.val % 36 ≤ 31)
                        · exfalso; omega
                        · by_cases h12 : 32 ≤ t.val
                          · by_cases h13 : t.val < 28
                            · exfalso; omega
                            · by_cases h14 : (28 ≤ t.val % 36 ∧ t.val % 36 ≤ 31)
                              · exfalso; omega
                              · by_cases h15 : 32 ≤ t.val
                                · rw [show (dats m 0 c).leavesExact 0 t = owns (c : Thread nD τ) (ms0_0 t) fullShare ((dats m 0 c).after 0 t) from by
      unfold Dat.leavesExact; rw [liveAt0_0 t], after0_0]
                                  rw [show (dats m 0 c).leavesExact 1 t = owns (c : Thread nD τ) (ms0_1 t) fullShare ((dats m 0 c).after 1 t) from by
      unfold Dat.leavesExact; rw [liveAt0_1 t], after0_1]
                                  rw [show (dats m 0 c).leavesExact 2 t = owns (c : Thread nD τ) (ms0_2 t) fullShare ((dats m 0 c).after 2 t) from by
      unfold Dat.leavesExact; rw [liveAt0_2 t], after0_2]
                                  rw [show (dats m 0 c).leavesExact 3 t = owns (c : Thread nD τ) (ms0_3 t) fullShare ((dats m 0 c).after 3 t) from by
      unfold Dat.leavesExact; rw [liveAt0_3 t], after0_3]
                                  rw [show (dats m 0 c).leavesExact 4 t = owns (c : Thread nD τ) (ms0_4 t) fullShare ((dats m 0 c).after 4 t) from by
      unfold Dat.leavesExact; rw [liveAt0_4 t], after0_4]
                                  rw [show (dats m 0 c).leavesExact 5 t = owns (c : Thread nD τ) (ms0_5 t) fullShare ((dats m 0 c).after 5 t) from by
      unfold Dat.leavesExact; rw [liveAt0_5 t], after0_5]
                                  rw [show (dats m 0 c).leavesExact 6 t = owns (c : Thread nD τ) (ms0_6 t) fullShare ((dats m 0 c).after 6 t) from by
      unfold Dat.leavesExact; rw [liveAt0_6 t], after0_6]
                                  rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)], after0_9]
                                  rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15)], after0_11]
                                  rw [outsAt0_D m c t h0 h1 h2 h3 h4 h5 h6 h7 h8 h9 h10 h11 h12 h13 h14 h15]
                                  simp only [before0_11_D m c t h0 h1 h2 h3 h4 h5 h6 h7 h8 h9 h10 h11 h12 h13 h14 h15]
                                  unfold out0_D_9 out0_D_11; (try dsimp only)
                                  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
                                  iapply ((kernelRun0_D c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) _).2.2.2.2.2.2 _ _ _ Set.univ _)
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iexact H7
                                  isplitl [H8]; · iexact H8
                                  isplitl [H9]; · iexists _; iexact H9
                                  isplitl [H10]; · iexact H10
                                  isplitl [H11]; · iexact H11
                                  isplitl [HS0]; · iexact HS0
                                  iintro ⟨H0, H1, H2, H3, H4, H5, H6, H7, H8, ⟨%e9, H9⟩, H10, ⟨%e11, H11⟩, ⟨%fT0, HS0⟩⟩
                                  isplitl [HS0 Hg]
                                  · isplitl [HS0]
                                    · iexists _; unfold owns; iexists _; isplitr
                                      swap; · iexact HS0
                                      ipureintro; rfl
                                    iexact Hg
                                  isplitl [Ho]; · iexact Ho
                                  isplitl [H0]; · iexact H0
                                  isplitl [H1]; · iexact H1
                                  isplitl [H2]; · iexact H2
                                  isplitl [H3]; · iexact H3
                                  isplitl [H4]; · iexact H4
                                  isplitl [H5]; · iexact H5
                                  isplitl [H6]; · iexact H6
                                  isplitl [H7]; · iapply (leaves0_7_D m c t h0 h1 h2 h3 h4 h5 h6 h7 h8 h9 h10 h11 h12 h13 h14 h15 d7); iexact H7
                                  isplitl [H8]; · iapply (leaves0_8_D m c t h0 h1 h2 h3 h4 h5 h6 h7 h8 h9 h10 h11 h12 h13 h14 h15 d8); iexact H8
                                  isplitl [H9]
                                  · unfold owns; iexists _; isplitr
                                    swap; · iexact H9
                                    ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _ _ _ _ _ _)
                                  isplitl [H10]; · iapply (leaves0_10_D m c t h0 h1 h2 h3 h4 h5 h6 h7 h8 h9 h10 h11 h12 h13 h14 h15 d10); iexact H10
                                  unfold owns; iexists _; isplitr
                                  swap; · iexact H11
                                  ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _ _)
                                · exfalso; omega
                          · exfalso; omega
                    · exfalso; omega
              · exfalso; omega
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.QkvIdeal.Gen

end
-- ==== Proof.Qkv.Blocks.lean ====
/- What each point of the QKV kernel's grid writes back, and the final arrays block by block. -/
module

public import proofs.«01_k».proof.Proof.Qkv.Frame
public import Idealize.ShloMosaic.Lib.Pipeline.Value

@[expose] public section

noncomputable section

namespace Cert.QkvIdeal.Value

open Cert.QkvIdeal Cert.QkvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed7, outsAt0_A m c t h0 h1 h2 h3 h4 h5 h6 h7 h8 h9 h10 h11 h12 h13 h14 h15]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed7, outsAt0_B m c t h0 h1 h2 h3 h4 h5 h6 h7 h8 h9 h10 h11 h12 h13 h14 h15]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).1) := by
  simp only [flushed7, outsAt0_C m c t h0 h1 h2 h3 h4 h5 h6 h7 h8 h9 h10 h11 h12 h13 h14 h15]

/-- … so at a point where case D runs, what its write-back would write is that case's NAMED TERM for the window (`Gen.out0_D_7`: the pieces
    its run found, read back) at the point's memrefs and input blocks, and for an output the case reads back what the point before left (`Gen.outsAt0` at `t - 1`) — by the frame's rewriting lemma for the case. -/
theorem flushed7_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).1) := by
  simp only [flushed7, outsAt0_D m c t h0 h1 h2 h3 h4 h5 h6 h7 h8 h9 h10 h11 h12 h13 h14 h15]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S7168x1920.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1) := by
  simp only [flushed8, outsAt0_A m c t h0 h1 h2 h3 h4 h5 h6 h7 h8 h9 h10 h11 h12 h13 h14 h15]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1) := by
  simp only [flushed8, outsAt0_B m c t h0 h1 h2 h3 h4 h5 h6 h7 h8 h9 h10 h11 h12 h13 h14 h15]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1) := by
  simp only [flushed8, outsAt0_C m c t h0 h1 h2 h3 h4 h5 h6 h7 h8 h9 h10 h11 h12 h13 h14 h15]

/-- … so at a point where case D runs, what its write-back would write is that case's NAMED TERM for the window (`Gen.out0_D_8`: the pieces
    its run found, read back) at the point's memrefs and input blocks, and for an output the case reads back what the point before left (`Gen.outsAt0` at `t - 1`) — by the frame's rewriting lemma for the case. -/
theorem flushed8_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).2.1) := by
  simp only [flushed8, outsAt0_D m c t h0 h1 h2 h3 h4 h5 h6 h7 h8 h9 h10 h11 h12 h13 h14 h15]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1024x1920.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed9, outsAt0_A m c t h0 h1 h2 h3 h4 h5 h6 h7 h8 h9 h10 h11 h12 h13 h14 h15]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed9, outsAt0_B m c t h0 h1 h2 h3 h4 h5 h6 h7 h8 h9 h10 h11 h12 h13 h14 h15]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1) := by
  simp only [flushed9, outsAt0_C m c t h0 h1 h2 h3 h4 h5 h6 h7 h8 h9 h10 h11 h12 h13 h14 h15]

/-- … so at a point where case D runs, what its write-back would write is that case's NAMED TERM for the window (`Gen.out0_D_9`: the pieces
    its run found, read back) at the point's memrefs and input blocks, and for an output the case reads back what the point before left (`Gen.outsAt0` at `t - 1`) — by the frame's rewriting lemma for the case. -/
theorem flushed9_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed9, outsAt0_D m c t h0 h1 h2 h3 h4 h5 h6 h7 h8 h9 h10 h11 h12 h13 h14 h15]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1024x1920.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t.val t.isLt).2.2.2.1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed10, outsAt0_A m c t h0 h1 h2 h3 h4 h5 h6 h7 h8 h9 h10 h11 h12 h13 h14 h15]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1) := by
  simp only [flushed10, outsAt0_B m c t h0 h1 h2 h3 h4 h5 h6 h7 h8 h9 h10 h11 h12 h13 h14 h15]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1) := by
  simp only [flushed10, outsAt0_C m c t h0 h1 h2 h3 h4 h5 h6 h7 h8 h9 h10 h11 h12 h13 h14 h15]

/-- … so at a point where case D runs, what its write-back would write is that case's NAMED TERM for the window (`Gen.out0_D_10`: the pieces
    its run found, read back) at the point's memrefs and input blocks, and for an output the case reads back what the point before left (`Gen.outsAt0` at `t - 1`) — by the frame's rewriting lemma for the case. -/
theorem flushed10_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    (dats m 0 c).flushed 10 t = (cfg0.win 10).cut (grid0.coords t) (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2 (outsAt0 m c (t.val - 1) (Nat.lt_of_le_of_lt (Nat.sub_le _ _) t.isLt)).2.2.2.1) := by
  simp only [flushed10, outsAt0_D m c t h0 h1 h2 h3 h4 h5 h6 h7 h8 h9 h10 h11 h12 h13 h14 h15]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S8x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 4), read through the window's block. -/
theorem flushed11 (c : Dev nD) (t : Fin cfg0.N) :
    (dats m 0 c).flushed 11 t = (cfg0.win 11).cut (grid0.coords t) ((outsAt0 m c t.val t.isLt).2.2.2.2) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t)) := by
  simp only [flushed11, outsAt0_A m c t h0 h1 h2 h3 h4 h5 h6 h7 h8 h9 h10 h11 h12 h13 h14 h15]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 36 = 0) (h1 : t.val < 28) (h2 : ¬(28 ≤ t.val % 36 ∧ t.val % 36 ≤ 31)) (h3 : ¬32 ≤ t.val) (h4 : t.val < 28) (h5 : ¬(28 ≤ t.val % 36 ∧ t.val % 36 ≤ 31)) (h6 : ¬32 ≤ t.val) (h7 : t.val < 28) (h8 : ¬(28 ≤ t.val % 36 ∧ t.val % 36 ≤ 31)) (h9 : ¬32 ≤ t.val) (h10 : t.val < 28) (h11 : ¬(28 ≤ t.val % 36 ∧ t.val % 36 ≤ 31)) (h12 : ¬32 ≤ t.val) (h13 : t.val < 28) (h14 : ¬(28 ≤ t.val % 36 ∧ t.val % 36 ≤ 31)) (h15 : ¬32 ≤ t.val) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) ((hcond0_4 t).mpr h4) (fun h => h5 ((hcond0_5 t).mp h)) (fun h => h6 ((hcond0_6 t).mp h)) ((hcond0_7 t).mpr h7) (fun h => h8 ((hcond0_8 t).mp h)) (fun h => h9 ((hcond0_9 t).mp h)) ((hcond0_10 t).mpr h10) (fun h => h11 ((hcond0_11 t).mp h)) (fun h => h12 ((hcond0_12 t).mp h)) ((hcond0_13 t).mpr h13) (fun h => h14 ((hcond0_14 t).mp h)) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed11, outsAt0_B m c t h0 h1 h2 h3 h4 h5 h6 h7 h8 h9 h10 h11 h12 h13 h14 h15]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 36 = 0) (h1 : ¬t.val < 28) (h2 : (28 ≤ t.val % 36 ∧ t.val % 36 ≤ 31)) (h3 : ¬32 ≤ t.val) (h4 : ¬t.val < 28) (h5 : (28 ≤ t.val % 36 ∧ t.val % 36 ≤ 31)) (h6 : ¬32 ≤ t.val) (h7 : ¬t.val < 28) (h8 : (28 ≤ t.val % 36 ∧ t.val % 36 ≤ 31)) (h9 : ¬32 ≤ t.val) (h10 : ¬t.val < 28) (h11 : (28 ≤ t.val % 36 ∧ t.val % 36 ≤ 31)) (h12 : ¬32 ≤ t.val) (h13 : ¬t.val < 28) (h14 : (28 ≤ t.val % 36 ∧ t.val % 36 ≤ 31)) (h15 : ¬32 ≤ t.val) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) ((hcond0_5 t).mpr h5) (fun h => h6 ((hcond0_6 t).mp h)) (fun h => h7 ((hcond0_7 t).mp h)) ((hcond0_8 t).mpr h8) (fun h => h9 ((hcond0_9 t).mp h)) (fun h => h10 ((hcond0_10 t).mp h)) ((hcond0_11 t).mpr h11) (fun h => h12 ((hcond0_12 t).mp h)) (fun h => h13 ((hcond0_13 t).mp h)) ((hcond0_14 t).mpr h14) (fun h => h15 ((hcond0_15 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed11, outsAt0_C m c t h0 h1 h2 h3 h4 h5 h6 h7 h8 h9 h10 h11 h12 h13 h14 h15]

/-- … so at a point where case D runs, what its write-back would write is that case's NAMED TERM for the window (`Gen.out0_D_11`: the pieces
    its run found, read back) at the point's memrefs and input blocks, and for an output the case reads back what the point before left (`Gen.outsAt0` at `t - 1`) — by the frame's rewriting lemma for the case. -/
theorem flushed11_D (c : Dev nD) (t : Fin cfg0.N) (h0 : ¬t.val % 36 = 0) (h1 : ¬t.val < 28) (h2 : ¬(28 ≤ t.val % 36 ∧ t.val % 36 ≤ 31)) (h3 : 32 ≤ t.val) (h4 : ¬t.val < 28) (h5 : ¬(28 ≤ t.val % 36 ∧ t.val % 36 ≤ 31)) (h6 : 32 ≤ t.val) (h7 : ¬t.val < 28) (h8 : ¬(28 ≤ t.val % 36 ∧ t.val % 36 ≤ 31)) (h9 : 32 ≤ t.val) (h10 : ¬t.val < 28) (h11 : ¬(28 ≤ t.val % 36 ∧ t.val % 36 ≤ 31)) (h12 : 32 ≤ t.val) (h13 : ¬t.val < 28) (h14 : ¬(28 ≤ t.val % 36 ∧ t.val % 36 ≤ 31)) (h15 : 32 ≤ t.val) :
    (dats m 0 c).flushed 11 t = (cfg0.win 11).cut (grid0.coords t) (out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) ((hcond0_6 t).mpr h6) (fun h => h7 ((hcond0_7 t).mp h)) (fun h => h8 ((hcond0_8 t).mp h)) ((hcond0_9 t).mpr h9) (fun h => h10 ((hcond0_10 t).mp h)) (fun h => h11 ((hcond0_11 t).mp h)) ((hcond0_12 t).mpr h12) (fun h => h13 ((hcond0_13 t).mp h)) (fun h => h14 ((hcond0_14 t).mp h)) ((hcond0_15 t).mpr h15) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2) := by
  simp only [flushed11, outsAt0_D m c t h0 h1 h2 h3 h4 h5 h6 h7 h8 h9 h10 h11 h12 h13 h14 h15]

-- no `blocks11`: window 11's index map revisits a block index, or its points could not be enumerated here;
-- the final array is still the frame's `arrAt`, to read with Lib/Pipeline/Value.lean's lemmas by hand

/-- An index that no flushing point's block covers keeps output window 11's array contents at region entry. -/
theorem entry11 (c : Dev nD) (i : S8x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_3) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_4) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N
      ∧ r.2.mem ((c : Thread nD τ).loc main_v0_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.QkvIdeal.Value

end
-- ==== Proof.QkvSpec.lean ====
/-
  The fused query/key/value projection as functions of its seven arguments over the extended reals: the projection of one
  row at one channel, the rotation of the query and key channels by the position's cosines and sines, and the largest
  magnitude of an array.
-/
module

public import proofs.«01_k».proof.Proof.Fp4

@[expose] public section

noncomputable section

namespace Cert.QkvSpec

open Idealize.ShloMosaic Cert.Fp4

/-- One element of the projection, from a row of activations, a column of weights, the product of the two tensor scales
    and the column's bias. -/
def elem (a : Fin 7168 → EReal) (w : Fin 7168 → EReal) (s b : EReal) : EReal := (∑ k, a k * w k) * s + b

/-- One rotated channel of a head of 64 channels: channel `d` and channel `d + 32` (`d < 32`) turn together by the angle
    whose cosine and sine are `c` and `s`; `j` is the channel asked for, `lo` and `hi` the pair it belongs to. -/
def turn (lo hi c s : EReal) (j : ℕ) : EReal := if j % 64 < 32 then lo * c - hi * s else hi * c + lo * s

/-- The first channel of the pair channel `j` belongs to. -/
abbrev loCh (j : ℕ) : ℕ := j / 64 * 64 + j % 32
/-- The second channel of the pair channel `j` belongs to. -/
abbrev hiCh (j : ℕ) : ℕ := j / 64 * 64 + 32 + j % 32

/-- Both channels of a pair lie among the channels. -/
theorem loCh_lt {n j : ℕ} (h : j < 64 * n) : loCh j < 64 * n := by unfold loCh; omega
theorem hiCh_lt {n j : ℕ} (h : j < 64 * n) : hiCh j < 64 * n := by unfold hiCh; omega

/-- The largest magnitude of an array. -/
def maxAbs {n m : ℕ} (x : (⟨2, ![n, m]⟩ : Shape).Idx → EReal) : EReal := ⨆ p : Fin n × Fin m, max (x (ix2 p.1 p.2)) (-x (ix2 p.1 p.2))

/-- The largest magnitude lies under a bound exactly when every magnitude does. -/
theorem maxAbs_le {n m : ℕ} {x : (⟨2, ![n, m]⟩ : Shape).Idx → EReal} {z : EReal} :
    maxAbs x ≤ z ↔ ∀ i j, max (x (ix2 i j)) (-x (ix2 i j)) ≤ z :=
  iSup_le_iff.trans ⟨fun h i j => h (i, j), fun h p => h p.1 p.2⟩

/-- Minus infinity's word. -/
theorem c_bot : Ideal.ofBits FTy.f32 4286578688#32 = (⊥ : EReal) := by
  simp [Ideal.ofBits, Ideal.ieee]

/-- A maximum taken from minus infinity over all magnitudes is the largest magnitude. -/
theorem fold_maxAbs {n m : ℕ} (x : (⟨2, ![n, m]⟩ : Shape).Idx → EReal) :
    Finset.fold max (Ideal.ofBits FTy.f32 4286578688#32) (fun p : Fin n × Fin m => FloatOps.absf (F := Ideal) (φ := .f32) (x (ix2 p.1 p.2))) Finset.univ
      = maxAbs x := by
  refine eq_of_forall_ge_iff fun z => ?_
  rw [Finset.fold_max_le, c_bot, maxAbs_le]
  exact ⟨fun h i j => h.2 (i, j) (Finset.mem_univ _), fun h => ⟨bot_le, fun p _ => h p.1 p.2⟩⟩

variable (a : Vec Ideal ⟨2, ![1920, 7168]⟩ .bf16) (codes : Vec Ideal ⟨2, ![3584, 9216]⟩ .i8) (scale : Vec Ideal ⟨2, ![448, 9216]⟩ .fp8e4m3)
  (ts : Vec Ideal ⟨1, ![2]⟩ .f32) (b : Vec Ideal ⟨2, ![1, 9216]⟩ .f32) (cos sin : Vec Ideal ⟨2, ![32, 1920]⟩ .f32)

/-- The projection at channel `j` of row `r`. -/
def y (j : Fin 9216) (r : Fin 1920) : EReal :=
  elem (fun k => a (ix2 r k)) (fun k => wt codes scale k j) (ts (ix1 0) * ts (ix1 1)) (b (ix2 0 j))

/-- The rotated projection at channel `j` of row `r`. -/
def rot (j : Fin 9216) (r : Fin 1920) : EReal :=
  turn (y a codes scale ts b ⟨loCh j, loCh_lt (n := 144) j.isLt⟩ r) (y a codes scale ts b ⟨hiCh j, hiCh_lt (n := 144) j.isLt⟩ r)
    (cos (ix2 (⟨j % 32, by omega⟩ : Fin 32) r)) (sin (ix2 (⟨j % 32, by omega⟩ : Fin 32) r)) j

/-- The queries: the first 7168 channels, rotated. -/
def qAt (j : Fin 7168) (r : Fin 1920) : EReal := rot a codes scale ts b cos sin ⟨j, by omega⟩ r
/-- The keys: the next 1024 channels, rotated. -/
def kAt (j : Fin 1024) (r : Fin 1920) : EReal := rot a codes scale ts b cos sin ⟨7168 + j, by omega⟩ r
/-- The values: the last 1024 channels. -/
def vAt (j : Fin 1024) (r : Fin 1920) : EReal := y a codes scale ts b ⟨8192 + j, by omega⟩ r

/-- The arrays of the queries, the keys and the values, channels first. -/
def q : Vec Ideal ⟨2, ![7168, 1920]⟩ .bf16 := fun i => qAt a codes scale ts b cos sin (i 0) (i 1)
def k : Vec Ideal ⟨2, ![1024, 1920]⟩ .f32 := fun i => kAt a codes scale ts b cos sin (i 0) (i 1)
def v : Vec Ideal ⟨2, ![1024, 1920]⟩ .f32 := fun i => vAt a codes scale ts b (i 0) (i 1)

/-- The largest magnitude of the keys, in every place of a tile. -/
def kmax : Vec Ideal ⟨2, ![8, 128]⟩ .f32 := fun _ => maxAbs (k a codes scale ts b cos sin)

/-- The largest magnitude of the values, in every place of a tile. -/
def vmax : Vec Ideal ⟨2, ![8, 128]⟩ .f32 := fun _ => maxAbs (v a codes scale ts b)

end Cert.QkvSpec
end
-- ==== Proof.QkvSlab.lean ====
/-
  The query/key/value kernel over the extended reals, one slab of 384 rows by 256 channels: the projection, its rotation
  and its largest magnitude, at an index.
-/
module

public import proofs.«01_k».proof.Proof.Gen.QkvIdeal.Skeleton
public import proofs.«01_k».proof.Proof.QkvSpec
public import Idealize.ShloMosaic.Lib.Pipeline.ValueKit

@[expose] public section

set_option maxRecDepth 16384

noncomputable section

namespace Cert.QkvIdeal.Slab

open Cert.QkvIdeal Cert.QkvIdeal.Gen Idealize.ShloMosaic Idealize.ShloMosaic.TcCoe Idealize.SL.Sem Idealize.ShloMosaic.Pointwise
open Cert.Fp4

/-- The weight block the body dequantises, at an index. -/
theorem w_apply (v0 : Vec Ideal S3584x256 .i8) (v1 : Vec Ideal S448x256 .fp8e4m3) (k : Fin 7168) (j : Fin 256) :
    k0_pay2 (F := Ideal) v0 v1 (ix2 k j) = wt v0 v1 k j := by
  pointwise [k0_pay2]
  rfl

/-- One slab of the projection at an index, the first slab's spelling. -/
theorem p7_apply (t0 t1 : Elt Ideal .f32) (b : Vec Ideal S1x256 .f32) (a : Vec Ideal S384x7168 .bf16) (w : Vec Ideal S7168x256 .bf16)
    (i : S256x384.Idx) :
    k0_pay7 (F := Ideal) t0 t1 b a w i
      = QkvSpec.elem (fun k => a (ix2 (i 1) k)) (fun k => w (ix2 k (i 0))) (t0 * t1) (b (ix2 0 (i 0))) := by
  idx_vars i
  pointwise [k0_pay7, k0_pay4, QkvSpec.elem]

/-- One slab's rotation, the first slab's spelling over a projected slab. -/
def spun (y : FVec Ideal S256x384 .f32) (c s : Vec Ideal S32x384 .f32) : FVec Ideal S256x384 .f32 :=
  have v145 : FVec Ideal S4x2x32x384 .f32 := shapeCast S4x2x32x384 y shapeCasts_S256x384_S4x2x32x384
  have v148 : FVec Ideal S4x1x32x384 .f32 := extractStridedSlice S4x1x32x384 ![0, 0, 0, 0] v145 slices_S4x2x32x384_o0_0_0_0_S4x1x32x384
  have v149 : FVec Ideal S4x32x384 .f32 := shapeCast S4x32x384 v148 shapeCasts_S4x1x32x384_S4x32x384
  have v150 : FVec Ideal S4x1x32x384 .f32 := extractStridedSlice S4x1x32x384 ![0, 1, 0, 0] v145 slices_S4x2x32x384_o0_1_0_0_S4x1x32x384
  have v151 : FVec Ideal S4x32x384 .f32 := shapeCast S4x32x384 v150 shapeCasts_S4x1x32x384_S4x32x384
  have v152 : FVec Ideal S1x32x384 .f32 := shapeCast S1x32x384 c shapeCasts_S32x384_S1x32x384
  have v153 : FVec Ideal S4x32x384 .f32 := broadcastTo S4x32x384 v152 broadcasts_S1x32x384_S4x32x384
  have v155 : FVec Ideal S1x32x384 .f32 := shapeCast S1x32x384 s shapeCasts_S32x384_S1x32x384
  have v156 : FVec Ideal S4x32x384 .f32 := broadcastTo S4x32x384 v155 broadcasts_S1x32x384_S4x32x384
  have v158 : FVec Ideal S4x32x384 .f32 := subf (mulf v149 v153) (mulf v151 v156)
  have v165 : FVec Ideal S4x32x384 .f32 := addf (mulf v151 v153) (mulf v149 v156)
  have v166 : FVec Ideal S4x1x32x384 .f32 := shapeCast S4x1x32x384 v158 shapeCasts_S4x32x384_S4x1x32x384
  have v167 : FVec Ideal S4x1x32x384 .f32 := shapeCast S4x1x32x384 v165 shapeCasts_S4x32x384_S4x1x32x384
  have v168 : FVec Ideal S4x2x32x384 .f32 := concatenate S4x2x32x384 1 [⟨S4x1x32x384, v166⟩, ⟨S4x1x32x384, v167⟩] concatenates_S4x1x32x384_S4x1x32x384_S4x2x32x384_d1
  shapeCast S256x384 v168 shapeCasts_S4x2x32x384_S256x384

/-- The rotated slab at an index. -/
theorem spun_apply (y : FVec Ideal S256x384 .f32) (c s : Vec Ideal S32x384 .f32) (i : S256x384.Idx) :
    spun y c s i = QkvSpec.turn (y (ix2 (⟨QkvSpec.loCh (i 0).val, QkvSpec.loCh_lt (n := 4) (i 0).isLt⟩ : Fin 256) (i 1)))
      (y (ix2 (⟨QkvSpec.hiCh (i 0).val, QkvSpec.hiCh_lt (n := 4) (i 0).isLt⟩ : Fin 256) (i 1)))
      (c (ix2 (⟨(i 0).val % 32, Nat.mod_lt _ (by decide)⟩ : Fin 32) (i 1))) (s (ix2 (⟨(i 0).val % 32, Nat.mod_lt _ (by decide)⟩ : Fin 32) (i 1))) (i 0).val := by
  idx_vars i
  pointwise [spun, QkvSpec.turn]
  by_cases h : i0.val % 64 < 32
  · rw [if_pos h, dif_pos (by omega)]
  · rw [if_neg h, dif_neg (by omega)]

/-- A tile raised to the largest magnitude of a slab, the first slab's spelling. -/
theorem top_apply (y : FVec Ideal S256x384 .f32) (o : Vec Ideal S8x128 .f32) (i : S8x128.Idx) :
    k0_pay1 (F := Ideal) y o i = max (o i) (QkvSpec.maxAbs y) := by
  idx_vars i
  pointwise [k0_pay1]
  rw [← QkvSpec.fold_maxAbs]

/-! The other spellings of the same functions. -/

variable (t0 t1 : Elt Ideal .f32) (b : Vec Ideal S1x256 .f32) (a : Vec Ideal S384x7168 .bf16) (w : Vec Ideal S7168x256 .bf16)
  (c s : Vec Ideal S32x384 .f32) (o : Vec Ideal S8x128 .f32)

theorem p3_eq : k0_pay3 (F := Ideal) w = w := by
  unfold k0_pay3
  exact shapeCast_self _ _
theorem p8_eq : k0_pay8 (F := Ideal) t0 t1 b a w c s = spun (k0_pay7 t0 t1 b a w) c s := rfl
theorem p9_eq : k0_pay9 (F := Ideal) t0 t1 b a w c s = spun (k0_pay7 t0 t1 b a w) c s := rfl
theorem p10_eq : k0_pay10 (F := Ideal) t0 t1 b a w c s o = k0_pay1 (spun (k0_pay7 t0 t1 b a w) c s) o := rfl
theorem p11_eq : k0_pay11 (F := Ideal) t0 t1 b a w o = k0_pay1 (k0_pay7 t0 t1 b a w) o := rfl
theorem p13_eq : k0_pay13 (F := Ideal) b (k0_pay12 t0 t1 a w) = k0_pay7 t0 t1 b a w := rfl
theorem p14_eq : k0_pay14 (F := Ideal) b (k0_pay12 t0 t1 a w) c s = spun (k0_pay7 t0 t1 b a w) c s := rfl
theorem p15_eq : k0_pay15 (F := Ideal) b (k0_pay12 t0 t1 a w) c s = spun (k0_pay7 t0 t1 b a w) c s := rfl
theorem p16_eq : k0_pay16 (F := Ideal) b (k0_pay12 t0 t1 a w) c s o = k0_pay1 (spun (k0_pay7 t0 t1 b a w) c s) o := rfl
theorem p17_eq : k0_pay17 (F := Ideal) b (k0_pay12 t0 t1 a w) o = k0_pay1 (k0_pay7 t0 t1 b a w) o := rfl
theorem p18_eq : k0_pay18 (F := Ideal) (k0_pay4 t0 t1) b a w = k0_pay7 t0 t1 b a w := rfl
theorem p19_eq : k0_pay19 (F := Ideal) (k0_pay4 t0 t1) b a w c s = spun (k0_pay7 t0 t1 b a w) c s := rfl
theorem p20_eq : k0_pay20 (F := Ideal) (k0_pay4 t0 t1) b a w c s = spun (k0_pay7 t0 t1 b a w) c s := rfl
theorem p21_eq : k0_pay21 (F := Ideal) (k0_pay4 t0 t1) b a w c s o = k0_pay1 (spun (k0_pay7 t0 t1 b a w) c s) o := rfl
theorem p22_eq : k0_pay22 (F := Ideal) (k0_pay4 t0 t1) b a w o = k0_pay1 (k0_pay7 t0 t1 b a w) o := rfl
theorem p23_eq : k0_pay23 (F := Ideal) (k0_pay4 t0 t1) b a w = k0_pay7 t0 t1 b a w := rfl
theorem p24_eq : k0_pay24 (F := Ideal) (k0_pay4 t0 t1) b a w c s = spun (k0_pay7 t0 t1 b a w) c s := rfl
theorem p25_eq : k0_pay25 (F := Ideal) (k0_pay4 t0 t1) b a w c s = spun (k0_pay7 t0 t1 b a w) c s := rfl
theorem p26_eq : k0_pay26 (F := Ideal) (k0_pay4 t0 t1) b a w c s o = k0_pay1 (spun (k0_pay7 t0 t1 b a w) c s) o := rfl
theorem p27_eq : k0_pay27 (F := Ideal) (k0_pay4 t0 t1) b a w o = k0_pay1 (k0_pay7 t0 t1 b a w) o := rfl
theorem p28_eq : k0_pay28 (F := Ideal) (k0_pay4 t0 t1) b a w = k0_pay7 t0 t1 b a w := rfl
theorem p29_eq : k0_pay29 (F := Ideal) (k0_pay4 t0 t1) b a w c s = spun (k0_pay7 t0 t1 b a w) c s := rfl
theorem p30_eq : k0_pay30 (F := Ideal) (k0_pay4 t0 t1) b a w c s = spun (k0_pay7 t0 t1 b a w) c s := rfl
theorem p31_eq : k0_pay31 (F := Ideal) (k0_pay4 t0 t1) b a w c s o = k0_pay1 (spun (k0_pay7 t0 t1 b a w) c s) o := rfl

/-! Slabs read from the blocks of a point. -/

/-- The projection at channel `j` of a block's row `r`. -/
def yB (A : Vec Ideal S1920x7168 .bf16) (C : Vec Ideal S3584x256 .i8) (S : Vec Ideal S448x256 .fp8e4m3) (t0 t1 : Elt Ideal .f32)
    (B : Vec Ideal S1x256 .f32) (j : Fin 256) (r : Fin 1920) : EReal :=
  QkvSpec.elem (fun k => A (ix2 r k)) (fun k => wt C S k j) (t0 * t1) (B (ix2 0 j))

/-- The rotated projection at channel `j` of a block's row `r`. -/
def rotB (A : Vec Ideal S1920x7168 .bf16) (C : Vec Ideal S3584x256 .i8) (S : Vec Ideal S448x256 .fp8e4m3) (t0 t1 : Elt Ideal .f32)
    (B : Vec Ideal S1x256 .f32) (O I : Vec Ideal S32x1920 .f32) (j : Fin 256) (r : Fin 1920) : EReal :=
  QkvSpec.turn (yB A C S t0 t1 B ⟨QkvSpec.loCh j, QkvSpec.loCh_lt (n := 4) j.isLt⟩ r) (yB A C S t0 t1 B ⟨QkvSpec.hiCh j, QkvSpec.hiCh_lt (n := 4) j.isLt⟩ r)
    (O (ix2 (⟨j % 32, Nat.mod_lt _ (by decide)⟩ : Fin 32) r)) (I (ix2 (⟨j % 32, Nat.mod_lt _ (by decide)⟩ : Fin 32) r)) j

/-- One slab of the projection: the block's projection at the row the slab places. -/
theorem slabY (A : Vec Ideal S1920x7168 .bf16) (C : Vec Ideal S3584x256 .i8) (S : Vec Ideal S448x256 .fp8e4m3) (t0 t1 : Elt Ideal .f32)
    (B : Vec Ideal S1x256 .f32) (r0 : ℕ) (hA) (x : S256x384.Idx) (r : Fin 1920) (h : (r : ℕ) = r0 + (x 1).val) :
    k0_pay7 (F := Ideal) t0 t1 B (View.ld A (Rect.unit (s := S1920x7168) ![r0, 0] ![384, 7168] hA)) (k0_pay2 C S) x
      = yB A C S t0 t1 B (x 0) r := by
  refine (p7_apply t0 t1 B _ _ x).trans ?_
  have ha : ∀ k, View.ld A (Rect.unit (s := S1920x7168) ![r0, 0] ![384, 7168] hA) (ix2 (x 1) k) = A (ix2 r k) := fun k => by
    refine View.ld_unit_apply_of A _ _ hA _ _ fun a => ?_
    match a with
    | 0 => exact h
    | 1 => exact (Nat.zero_add _).symm
  have hw : ∀ k, k0_pay2 (F := Ideal) C S (ix2 k (x 0)) = wt C S k (x 0) := fun k => w_apply C S k _
  unfold yB
  rw [← funext ha, ← funext hw]

/-- One slab of the rotated projection: the block's rotated projection at the row the slab places. -/
theorem slabR (A : Vec Ideal S1920x7168 .bf16) (C : Vec Ideal S3584x256 .i8) (S : Vec Ideal S448x256 .fp8e4m3) (t0 t1 : Elt Ideal .f32)
    (B : Vec Ideal S1x256 .f32) (O I : Vec Ideal S32x1920 .f32) (r0 : ℕ) (hA hO) (x : S256x384.Idx) (r : Fin 1920) (h : (r : ℕ) = r0 + (x 1).val) :
    spun (k0_pay7 (F := Ideal) t0 t1 B (View.ld A (Rect.unit (s := S1920x7168) ![r0, 0] ![384, 7168] hA)) (k0_pay2 C S))
        (View.ld O (Rect.unit (s := S32x1920) ![0, r0] ![32, 384] hO)) (View.ld I (Rect.unit (s := S32x1920) ![0, r0] ![32, 384] hO)) x
      = rotB A C S t0 t1 B O I (x 0) r := by
  refine (spun_apply _ _ _ x).trans ?_
  have hT : ∀ (T : Vec Ideal S32x1920 .f32) (d : Fin 32), View.ld T (Rect.unit (s := S32x1920) ![0, r0] ![32, 384] hO) (ix2 d (x 1)) = T (ix2 d r) := fun T d => by
    refine View.ld_unit_apply_of T _ _ hO _ _ fun a => ?_
    match a with
    | 0 => exact (Nat.zero_add _).symm
    | 1 => exact h
  have hY : ∀ j : Fin 256, k0_pay7 (F := Ideal) t0 t1 B (View.ld A (Rect.unit (s := S1920x7168) ![r0, 0] ![384, 7168] hA)) (k0_pay2 C S) (ix2 j (x 1))
      = yB A C S t0 t1 B j r := fun j => slabY A C S t0 t1 B r0 hA (ix2 j (x 1)) r h
  rw [hY, hY, hT, hT]
  rfl

end Cert.QkvIdeal.Slab
end
-- ==== Proof.QkvPoints.lean ====
/-
  The query/key/value kernel over the extended reals, point by point: what each point of the grid leaves in the five result
  buffers. Points 0..27 compute a block of queries, 28..31 a block of keys, 32..35 a block of values; the buffers a point
  does not write keep what the point before left, and the two tiles of largest magnitudes start at zero and grow.
-/
module

public import proofs.«01_k».proof.Proof.Qkv.Blocks
public import proofs.«01_k».proof.Proof.QkvSlab

@[expose] public section

set_option maxRecDepth 16384

noncomputable section

namespace Cert.QkvIdeal.Block

open Cert.QkvIdeal Cert.QkvIdeal.Gen Cert.QkvIdeal.Value Cert.QkvIdeal.Slab Idealize.ShloMosaic Idealize.ShloMosaic.TcCoe Idealize.SL.Sem Idealize.ShloMosaic.Pointwise
open Idealize.ShloMosaic.Pipeline (Dat)
open Cert.Fp4

variable (m : (ℓ : Loc nD τ sig) → Buf (Elt Ideal) ℓ) (ρ : Dev nD → PrngReg)

/-- The index maps: the weights and the bias move along the columns with the point; the activations, the scales and the
    tables stay. -/
theorem idx : ∀ t : Fin cfg0.N, win0_0.index t = ![0, 0] ∧ win0_1.index t = ![0, t.val] ∧ win0_2.index t = ![0, t.val]
    ∧ win0_3.index t = ![0] ∧ win0_4.index t = ![0, t.val] ∧ win0_5.index t = ![0, 0] ∧ win0_6.index t = ![0, 0] :=
  (by decide +kernel : ∀ t : Fin grid0.N, win0_0.index t = ![0, 0] ∧ win0_1.index t = ![0, t.val] ∧ win0_2.index t = ![0, t.val]
    ∧ win0_3.index t = ![0] ∧ win0_4.index t = ![0, t.val] ∧ win0_5.index t = ![0, 0] ∧ win0_6.index t = ![0, 0])
/-- The index maps of the results: each stays at its nearest block outside its own points. -/
theorem idxO : ∀ t : Fin cfg0.N, win0_7.index t = ![min t.val 27, 0] ∧ win0_8.index t = ![min (t.val - 28) 3, 0]
    ∧ win0_9.index t = ![min (t.val - 32) 3, 0] ∧ win0_10.index t = ![0, 0] ∧ win0_11.index t = ![0, 0] :=
  (by decide +kernel : ∀ t : Fin grid0.N, win0_7.index t = ![min t.val 27, 0] ∧ win0_8.index t = ![min (t.val - 28) 3, 0]
    ∧ win0_9.index t = ![min (t.val - 32) 3, 0] ∧ win0_10.index t = ![0, 0] ∧ win0_11.index t = ![0, 0])

/-- The blocks point `t` reads. -/
abbrev aB (c : Dev nD) (t : Fin cfg0.N) : Vec Ideal S1920x7168 .bf16 := iblk m c 0 t
abbrev cB (c : Dev nD) (t : Fin cfg0.N) : Vec Ideal S3584x256 .i8 := iblk m c 1 t
abbrev sB (c : Dev nD) (t : Fin cfg0.N) : Vec Ideal S448x256 .fp8e4m3 := iblk m c 2 t
abbrev tB (c : Dev nD) (t : Fin cfg0.N) : Vec Ideal S2 .f32 := iblk m c 3 t
abbrev bB (c : Dev nD) (t : Fin cfg0.N) : Vec Ideal S1x256 .f32 := iblk m c 4 t
abbrev oB (c : Dev nD) (t : Fin cfg0.N) : Vec Ideal S32x1920 .f32 := iblk m c 5 t
abbrev iB (c : Dev nD) (t : Fin cfg0.N) : Vec Ideal S32x1920 .f32 := iblk m c 6 t

/-- A scalar load of the scales reads its element. -/
theorem ts_ld (T : Vec Ideal S2 .f32) (n : Fin 2) (h) (p) : View.ld T (Rect.unit (s := S2) ![n.val] ![1] h) (Shape.Idx.first p) = T (ix1 n) :=
  View.ld_unit_apply_of T _ _ h _ (ix1 n) fun a => by
    obtain rfl : a = 0 := Subsingleton.elim _ _
    rfl

/-- The projection and the rotated projection over the blocks of point `t`. -/
def yP (c : Dev nD) (t : Fin cfg0.N) : Fin 256 → Fin 1920 → EReal :=
  yB (aB m c t) (cB m c t) (sB m c t) (tB m c t (ix1 0)) (tB m c t (ix1 1)) (bB m c t)
def rotP (c : Dev nD) (t : Fin cfg0.N) : Fin 256 → Fin 1920 → EReal :=
  rotB (aB m c t) (cB m c t) (sB m c t) (tB m c t (ix1 0)) (tB m c t (ix1 1)) (bB m c t) (oB m c t) (iB m c t)

/-- A slab that is 384 rows of a block raises a tile to the largest magnitude of those rows. -/
theorem step (f : Fin 256 → Fin 1920 → EReal) (s : FVec Ideal S256x384 .f32) {r0 : ℕ} (e : ∀ x (r : Fin 1920), (r : ℕ) = r0 + (x 1).val → s x = f (x 0) r)
    (hr : r0 + 384 ≤ 1920 := by decide) {o : Vec Ideal S8x128 .f32} {i : S8x128.Idx} {z : EReal} :
    k0_pay1 s o i ≤ z ↔ o i ≤ z ∧ ∀ (j : Fin 256) (r : Fin 1920), r0 ≤ (r : ℕ) → (r : ℕ) < r0 + 384 → max (f j r) (-f j r) ≤ z := by
  rw [top_apply, max_le_iff, QkvSpec.maxAbs_le]
  refine and_congr Iff.rfl ⟨fun h j r h1 h2 => ?_, fun h j x => ?_⟩
  · have q := h j (⟨r - r0, by omega⟩ : Fin 384)
    rwa [e (ix2 j (⟨r - r0, by omega⟩ : Fin 384)) r (show (r : ℕ) = r0 + (r - r0) by omega)] at q
  · have q := h j (⟨r0 + x, by omega⟩ : Fin 1920) (Nat.le_add_right _ _) (Nat.add_lt_add_left x.isLt _)
    rwa [e (ix2 j x) (⟨r0 + x, by omega⟩ : Fin 1920) rfl]

/-- Five slabs that are the rows of one block raise a tile to the largest magnitude of the block. -/
theorem tops (f : Fin 256 → Fin 1920 → EReal) (s0 s1 s2 s3 s4 : FVec Ideal S256x384 .f32) (o : Vec Ideal S8x128 .f32)
    (e0 : ∀ x (r : Fin 1920), (r : ℕ) = 0 + (x 1).val → s0 x = f (x 0) r) (e1 : ∀ x (r : Fin 1920), (r : ℕ) = 384 + (x 1).val → s1 x = f (x 0) r)
    (e2 : ∀ x (r : Fin 1920), (r : ℕ) = 768 + (x 1).val → s2 x = f (x 0) r) (e3 : ∀ x (r : Fin 1920), (r : ℕ) = 1152 + (x 1).val → s3 x = f (x 0) r)
    (e4 : ∀ x (r : Fin 1920), (r : ℕ) = 1536 + (x 1).val → s4 x = f (x 0) r) (i : S8x128.Idx) (z : EReal) :
    k0_pay1 s4 (k0_pay1 s3 (k0_pay1 s2 (k0_pay1 s1 (k0_pay1 s0 o)))) i ≤ z ↔ o i ≤ z ∧ ∀ j r, max (f j r) (-f j r) ≤ z := by
  rw [step _ _ e4, step _ _ e3, step _ _ e2, step _ _ e1, step _ _ e0]
  constructor
  · rintro ⟨⟨⟨⟨⟨ho, h0⟩, h1⟩, h2⟩, h3⟩, h4⟩
    refine ⟨ho, fun j r => ?_⟩
    have hr := r.isLt
    by_cases c0 : (r : ℕ) < 384
    · exact h0 j r (by omega) (by omega)
    by_cases c1 : (r : ℕ) < 768
    · exact h1 j r (by omega) (by omega)
    by_cases c2 : (r : ℕ) < 1152
    · exact h2 j r (by omega) (by omega)
    by_cases c3 : (r : ℕ) < 1536
    · exact h3 j r (by omega) (by omega)
    · exact h4 j r (by omega) (by omega)
  · rintro ⟨ho, h⟩
    exact ⟨⟨⟨⟨⟨ho, fun j r _ _ => h j r⟩, fun j r _ _ => h j r⟩, fun j r _ _ => h j r⟩, fun j r _ _ => h j r⟩, fun j r _ _ => h j r⟩

set_option maxHeartbeats 2000000 in
/-- The first point leaves its block of queries. -/
theorem q_A (c : Dev nD) (t : Fin cfg0.N) (h : t.val = 0) (y : S256x1920.Idx) :
    (outsAt0 m c t.val t.isLt).1 y = rotP m c t (y 0) (y 1) := by
  have hN : t.val < 36 := t.isLt
  rw [outsAt0_A m c t (by omega) (by omega) (by omega) (by omega) (by omega) (by omega) (by omega) (by omega) (by omega) (by omega) (by omega) (by omega) (by omega) (by omega) (by omega) (by omega)]
  dsimp only
  unfold rotP
  rw [← ts_ld (tB m c t) 0 inb_S2_S1_0 (by decide), ← ts_ld (tB m c t) 1 inb_S2_S1_1 (by decide)]
  unfold out0_A_7
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  canon_tiles x h
  · exact (slabR (aB m c t) (cB m c t) (sB m c t) _ _ (bB m c t) (oB m c t) (iB m c t) 1536 inb_S1920x7168_S384x7168_1536_0 inb_S32x1920_S32x384_0_1536 x (y 1) h1).trans (congrArg (fun j => rotB _ _ _ _ _ _ _ _ j (y 1)) (Fin.ext h0.symm))
  · exact (slabR (aB m c t) (cB m c t) (sB m c t) _ _ (bB m c t) (oB m c t) (iB m c t) 1152 inb_S1920x7168_S384x7168_1152_0 inb_S32x1920_S32x384_0_1152 x (y 1) h1).trans (congrArg (fun j => rotB _ _ _ _ _ _ _ _ j (y 1)) (Fin.ext h0.symm))
  · exact (slabR (aB m c t) (cB m c t) (sB m c t) _ _ (bB m c t) (oB m c t) (iB m c t) 768 inb_S1920x7168_S384x7168_768_0 inb_S32x1920_S32x384_0_768 x (y 1) h1).trans (congrArg (fun j => rotB _ _ _ _ _ _ _ _ j (y 1)) (Fin.ext h0.symm))
  · exact (slabR (aB m c t) (cB m c t) (sB m c t) _ _ (bB m c t) (oB m c t) (iB m c t) 384 inb_S1920x7168_S384x7168_384_0 inb_S32x1920_S32x384_0_384 x (y 1) h1).trans (congrArg (fun j => rotB _ _ _ _ _ _ _ _ j (y 1)) (Fin.ext h0.symm))
  · exact (slabR (aB m c t) (cB m c t) (sB m c t) _ _ (bB m c t) (oB m c t) (iB m c t) 0 inb_S1920x7168_S384x7168_0_0 inb_S32x1920_S32x384_0_0 x (y 1) (h1.trans (Nat.zero_add _).symm)).trans (congrArg (fun j => rotB _ _ _ _ _ _ _ _ j (y 1)) (Fin.ext h0.symm))

set_option maxHeartbeats 2000000 in
/-- The other query points leave theirs. -/
theorem q_B (c : Dev nD) (t : Fin cfg0.N) (h : 0 < t.val) (h' : t.val < 28) (y : S256x1920.Idx) :
    (outsAt0 m c t.val t.isLt).1 y = rotP m c t (y 0) (y 1) := by
  have hN : t.val < 36 := t.isLt
  rw [outsAt0_B m c t (by omega) (by omega) (by omega) (by omega) (by omega) (by omega) (by omega) (by omega) (by omega) (by omega) (by omega) (by omega) (by omega) (by omega) (by omega) (by omega)]
  dsimp only
  unfold rotP
  rw [← ts_ld (tB m c t) 0 inb_S2_S1_0 (by decide), ← ts_ld (tB m c t) 1 inb_S2_S1_1 (by decide)]
  unfold out0_B_7
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  canon_tiles x h
  · exact (slabR (aB m c t) (cB m c t) (sB m c t) _ _ (bB m c t) (oB m c t) (iB m c t) 1536 inb_S1920x7168_S384x7168_1536_0 inb_S32x1920_S32x384_0_1536 x (y 1) h1).trans (congrArg (fun j => rotB _ _ _ _ _ _ _ _ j (y 1)) (Fin.ext h0.symm))
  · exact (slabR (aB m c t) (cB m c t) (sB m c t) _ _ (bB m c t) (oB m c t) (iB m c t) 1152 inb_S1920x7168_S384x7168_1152_0 inb_S32x1920_S32x384_0_1152 x (y 1) h1).trans (congrArg (fun j => rotB _ _ _ _ _ _ _ _ j (y 1)) (Fin.ext h0.symm))
  · exact (slabR (aB m c t) (cB m c t) (sB m c t) _ _ (bB m c t) (oB m c t) (iB m c t) 768 inb_S1920x7168_S384x7168_768_0 inb_S32x1920_S32x384_0_768 x (y 1) h1).trans (congrArg (fun j => rotB _ _ _ _ _ _ _ _ j (y 1)) (Fin.ext h0.symm))
  · exact (slabR (aB m c t) (cB m c t) (sB m c t) _ _ (bB m c t) (oB m c t) (iB m c t) 384 inb_S1920x7168_S384x7168_384_0 inb_S32x1920_S32x384_0_384 x (y 1) h1).trans (congrArg (fun j => rotB _ _ _ _ _ _ _ _ j (y 1)) (Fin.ext h0.symm))
  · exact (slabR (aB m c t) (cB m c t) (sB m c t) _ _ (bB m c t) (oB m c t) (iB m c t) 0 inb_S1920x7168_S384x7168_0_0 inb_S32x1920_S32x384_0_0 x (y 1) (h1.trans (Nat.zero_add _).symm)).trans (congrArg (fun j => rotB _ _ _ _ _ _ _ _ j (y 1)) (Fin.ext h0.symm))

/-- The key points keep the queries' buffer. -/
theorem q_C (c : Dev nD) (t : Fin cfg0.N) (h : 28 ≤ t.val) (h' : t.val < 32) :
    (outsAt0 m c t.val t.isLt).1 = (outsAt0 m c (t.val - 1) (Nat.lt_of_le_of_lt (Nat.sub_le _ _) t.isLt)).1 := by
  have hN : t.val < 36 := t.isLt
  rw [outsAt0_C m c t (by omega) (by omega) (by omega) (by omega) (by omega) (by omega) (by omega) (by omega) (by omega) (by omega) (by omega) (by omega) (by omega) (by omega) (by omega) (by omega)]
  dsimp only
  unfold out0_C_7
  frame_out

/-- The value points keep the queries' buffer. -/
theorem q_D (c : Dev nD) (t : Fin cfg0.N) (h : 32 ≤ t.val) :
    (outsAt0 m c t.val t.isLt).1 = (outsAt0 m c (t.val - 1) (Nat.lt_of_le_of_lt (Nat.sub_le _ _) t.isLt)).1 := by
  have hN : t.val < 36 := t.isLt
  rw [outsAt0_D m c t (by omega) (by omega) (by omega) (by omega) (by omega) (by omega) (by omega) (by omega) (by omega) (by omega) (by omega) (by omega) (by omega) (by omega) (by omega) (by omega)]
  dsimp only
  unfold out0_D_7
  frame_out

set_option maxHeartbeats 2000000 in
/-- The key points leave their blocks of keys. -/
theorem k_C (c : Dev nD) (t : Fin cfg0.N) (h : 28 ≤ t.val) (h' : t.val < 32) (y : S256x1920.Idx) :
    (outsAt0 m c t.val t.isLt).2.1 y = rotP m c t (y 0) (y 1) := by
  have hN : t.val < 36 := t.isLt
  rw [outsAt0_C m c t (by omega) (by omega) (by omega) (by omega) (by omega) (by omega) (by omega) (by omega) (by omega) (by omega) (by omega) (by omega) (by omega) (by omega) (by omega) (by omega)]
  dsimp only
  unfold rotP
  rw [← ts_ld (tB m c t) 0 inb_S2_S1_0 (by decide), ← ts_ld (tB m c t) 1 inb_S2_S1_1 (by decide)]
  unfold out0_C_8
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  canon_tiles x h
  · exact (slabR (aB m c t) (cB m c t) (sB m c t) _ _ (bB m c t) (oB m c t) (iB m c t) 1536 inb_S1920x7168_S384x7168_1536_0 inb_S32x1920_S32x384_0_1536 x (y 1) h1).trans (congrArg (fun j => rotB _ _ _ _ _ _ _ _ j (y 1)) (Fin.ext h0.symm))
  · exact (slabR (aB m c t) (cB m c t) (sB m c t) _ _ (bB m c t) (oB m c t) (iB m c t) 1152 inb_S1920x7168_S384x7168_1152_0 inb_S32x1920_S32x384_0_1152 x (y 1) h1).trans (congrArg (fun j => rotB _ _ _ _ _ _ _ _ j (y 1)) (Fin.ext h0.symm))
  · exact (slabR (aB m c t) (cB m c t) (sB m c t) _ _ (bB m c t) (oB m c t) (iB m c t) 768 inb_S1920x7168_S384x7168_768_0 inb_S32x1920_S32x384_0_768 x (y 1) h1).trans (congrArg (fun j => rotB _ _ _ _ _ _ _ _ j (y 1)) (Fin.ext h0.symm))
  · exact (slabR (aB m c t) (cB m c t) (sB m c t) _ _ (bB m c t) (oB m c t) (iB m c t) 384 inb_S1920x7168_S384x7168_384_0 inb_S32x1920_S32x384_0_384 x (y 1) h1).trans (congrArg (fun j => rotB _ _ _ _ _ _ _ _ j (y 1)) (Fin.ext h0.symm))
  · exact (slabR (aB m c t) (cB m c t) (sB m c t) _ _ (bB m c t) (oB m c t) (iB m c t) 0 inb_S1920x7168_S384x7168_0_0 inb_S32x1920_S32x384_0_0 x (y 1) (h1.trans (Nat.zero_add _).symm)).trans (congrArg (fun j => rotB _ _ _ _ _ _ _ _ j (y 1)) (Fin.ext h0.symm))

/-- The value points keep the keys' buffer. -/
theorem k_D (c : Dev nD) (t : Fin cfg0.N) (h : 32 ≤ t.val) :
    (outsAt0 m c t.val t.isLt).2.1 = (outsAt0 m c (t.val - 1) (Nat.lt_of_le_of_lt (Nat.sub_le _ _) t.isLt)).2.1 := by
  have hN : t.val < 36 := t.isLt
  rw [outsAt0_D m c t (by omega) (by omega) (by omega) (by omega) (by omega) (by omega) (by omega) (by omega) (by omega) (by omega) (by omega) (by omega) (by omega) (by omega) (by omega) (by omega)]
  dsimp only
  unfold out0_D_8
  frame_out

set_option maxHeartbeats 2000000 in
/-- The value points leave their blocks of values. -/
theorem v_D (c : Dev nD) (t : Fin cfg0.N) (h : 32 ≤ t.val) (y : S256x1920.Idx) :
    (outsAt0 m c t.val t.isLt).2.2.1 y = yP m c t (y 0) (y 1) := by
  have hN : t.val < 36 := t.isLt
  rw [outsAt0_D m c t (by omega) (by omega) (by omega) (by omega) (by omega) (by omega) (by omega) (by omega) (by omega) (by omega) (by omega) (by omega) (by omega) (by omega) (by omega) (by omega)]
  dsimp only
  unfold yP
  rw [← ts_ld (tB m c t) 0 inb_S2_S1_0 (by decide), ← ts_ld (tB m c t) 1 inb_S2_S1_1 (by decide)]
  unfold out0_D_9
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  canon_tiles x h
  · exact (slabY (aB m c t) (cB m c t) (sB m c t) _ _ (bB m c t) 1536 inb_S1920x7168_S384x7168_1536_0 x (y 1) h1).trans (congrArg (fun j => yB _ _ _ _ _ _ j (y 1)) (Fin.ext h0.symm))
  · exact (slabY (aB m c t) (cB m c t) (sB m c t) _ _ (bB m c t) 1152 inb_S1920x7168_S384x7168_1152_0 x (y 1) h1).trans (congrArg (fun j => yB _ _ _ _ _ _ j (y 1)) (Fin.ext h0.symm))
  · exact (slabY (aB m c t) (cB m c t) (sB m c t) _ _ (bB m c t) 768 inb_S1920x7168_S384x7168_768_0 x (y 1) h1).trans (congrArg (fun j => yB _ _ _ _ _ _ j (y 1)) (Fin.ext h0.symm))
  · exact (slabY (aB m c t) (cB m c t) (sB m c t) _ _ (bB m c t) 384 inb_S1920x7168_S384x7168_384_0 x (y 1) h1).trans (congrArg (fun j => yB _ _ _ _ _ _ j (y 1)) (Fin.ext h0.symm))
  · exact (slabY (aB m c t) (cB m c t) (sB m c t) _ _ (bB m c t) 0 inb_S1920x7168_S384x7168_0_0 x (y 1) (h1.trans (Nat.zero_add _).symm)).trans (congrArg (fun j => yB _ _ _ _ _ _ j (y 1)) (Fin.ext h0.symm))

/-- The keys' tile starts at zero. -/
theorem kt_A (c : Dev nD) (t : Fin cfg0.N) (h : t.val = 0) (i : S8x128.Idx) :
    (outsAt0 m c t.val t.isLt).2.2.2.1 i = 0 := by
  have hN : t.val < 36 := t.isLt
  rw [outsAt0_A m c t (by omega) (by omega) (by omega) (by omega) (by omega) (by omega) (by omega) (by omega) (by omega) (by omega) (by omega) (by omega) (by omega) (by omega) (by omega) (by omega)]
  dsimp only
  unfold out0_A_10
  frame_out
  idx_vars i
  pointwise [k0_pay5]

/-- The other query points keep the keys' tile. -/
theorem kt_B (c : Dev nD) (t : Fin cfg0.N) (h : 0 < t.val) (h' : t.val < 28) :
    (outsAt0 m c t.val t.isLt).2.2.2.1 = (outsAt0 m c (t.val - 1) (Nat.lt_of_le_of_lt (Nat.sub_le _ _) t.isLt)).2.2.2.1 := by
  have hN : t.val < 36 := t.isLt
  rw [outsAt0_B m c t (by omega) (by omega) (by omega) (by omega) (by omega) (by omega) (by omega) (by omega) (by omega) (by omega) (by omega) (by omega) (by omega) (by omega) (by omega) (by omega)]
  dsimp only
  unfold out0_B_10
  frame_out

set_option maxHeartbeats 2000000 in
/-- The key points raise the keys' tile to their block's largest magnitude. -/
theorem kt_C (c : Dev nD) (t : Fin cfg0.N) (h : 28 ≤ t.val) (h' : t.val < 32) (i : S8x128.Idx) (z : EReal) :
    (outsAt0 m c t.val t.isLt).2.2.2.1 i ≤ z ↔ (outsAt0 m c (t.val - 1) (Nat.lt_of_le_of_lt (Nat.sub_le _ _) t.isLt)).2.2.2.1 i ≤ z
      ∧ ∀ j r, max (rotP m c t j r) (-rotP m c t j r) ≤ z := by
  have hN : t.val < 36 := t.isLt
  rw [outsAt0_C m c t (by omega) (by omega) (by omega) (by omega) (by omega) (by omega) (by omega) (by omega) (by omega) (by omega) (by omega) (by omega) (by omega) (by omega) (by omega) (by omega)]
  dsimp only
  unfold rotP
  rw [← ts_ld (tB m c t) 0 inb_S2_S1_0 (by decide), ← ts_ld (tB m c t) 1 inb_S2_S1_1 (by decide)]
  unfold out0_C_10
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  exact tops _ _ _ _ _ _ _
    (fun x r hx => slabR (aB m c t) (cB m c t) (sB m c t) _ _ (bB m c t) (oB m c t) (iB m c t) 0 inb_S1920x7168_S384x7168_0_0 inb_S32x1920_S32x384_0_0 x r hx)
    (fun x r hx => slabR (aB m c t) (cB m c t) (sB m c t) _ _ (bB m c t) (oB m c t) (iB m c t) 384 inb_S1920x7168_S384x7168_384_0 inb_S32x1920_S32x384_0_384 x r hx)
    (fun x r hx => slabR (aB m c t) (cB m c t) (sB m c t) _ _ (bB m c t) (oB m c t) (iB m c t) 768 inb_S1920x7168_S384x7168_768_0 inb_S32x1920_S32x384_0_768 x r hx)
    (fun x r hx => slabR (aB m c t) (cB m c t) (sB m c t) _ _ (bB m c t) (oB m c t) (iB m c t) 1152 inb_S1920x7168_S384x7168_1152_0 inb_S32x1920_S32x384_0_1152 x r hx)
    (fun x r hx => slabR (aB m c t) (cB m c t) (sB m c t) _ _ (bB m c t) (oB m c t) (iB m c t) 1536 inb_S1920x7168_S384x7168_1536_0 inb_S32x1920_S32x384_0_1536 x r hx) i z

/-- The value points keep the keys' tile. -/
theorem kt_D (c : Dev nD) (t : Fin cfg0.N) (h : 32 ≤ t.val) :
    (outsAt0 m c t.val t.isLt).2.2.2.1 = (outsAt0 m c (t.val - 1) (Nat.lt_of_le_of_lt (Nat.sub_le _ _) t.isLt)).2.2.2.1 := by
  have hN : t.val < 36 := t.isLt
  rw [outsAt0_D m c t (by omega) (by omega) (by omega) (by omega) (by omega) (by omega) (by omega) (by omega) (by omega) (by omega) (by omega) (by omega) (by omega) (by omega) (by omega) (by omega)]
  dsimp only
  unfold out0_D_10
  frame_out

/-- The values' tile starts at zero. -/
theorem vt_A (c : Dev nD) (t : Fin cfg0.N) (h : t.val = 0) (i : S8x128.Idx) :
    (outsAt0 m c t.val t.isLt).2.2.2.2 i = 0 := by
  have hN : t.val < 36 := t.isLt
  rw [outsAt0_A m c t (by omega) (by omega) (by omega) (by omega) (by omega) (by omega) (by omega) (by omega) (by omega) (by omega) (by omega) (by omega) (by omega) (by omega) (by omega) (by omega)]
  dsimp only
  unfold out0_A_11
  frame_out
  idx_vars i
  pointwise [k0_pay6]

/-- The other query points keep the values' tile. -/
theorem vt_B (c : Dev nD) (t : Fin cfg0.N) (h : 0 < t.val) (h' : t.val < 28) :
    (outsAt0 m c t.val t.isLt).2.2.2.2 = (outsAt0 m c (t.val - 1) (Nat.lt_of_le_of_lt (Nat.sub_le _ _) t.isLt)).2.2.2.2 := by
  have hN : t.val < 36 := t.isLt
  rw [outsAt0_B m c t (by omega) (by omega) (by omega) (by omega) (by omega) (by omega) (by omega) (by omega) (by omega) (by omega) (by omega) (by omega) (by omega) (by omega) (by omega) (by omega)]
  dsimp only
  unfold out0_B_11
  frame_out

/-- The key points keep the values' tile. -/
theorem vt_C (c : Dev nD) (t : Fin cfg0.N) (h : 28 ≤ t.val) (h' : t.val < 32) :
    (outsAt0 m c t.val t.isLt).2.2.2.2 = (outsAt0 m c (t.val - 1) (Nat.lt_of_le_of_lt (Nat.sub_le _ _) t.isLt)).2.2.2.2 := by
  have hN : t.val < 36 := t.isLt
  rw [outsAt0_C m c t (by omega) (by omega) (by omega) (by omega) (by omega) (by omega) (by omega) (by omega) (by omega) (by omega) (by omega) (by omega) (by omega) (by omega) (by omega) (by omega)]
  dsimp only
  unfold out0_C_11
  frame_out

set_option maxHeartbeats 2000000 in
/-- The value points raise the values' tile to their block's largest magnitude. -/
theorem vt_D (c : Dev nD) (t : Fin cfg0.N) (h : 32 ≤ t.val) (i : S8x128.Idx) (z : EReal) :
    (outsAt0 m c t.val t.isLt).2.2.2.2 i ≤ z ↔ (outsAt0 m c (t.val - 1) (Nat.lt_of_le_of_lt (Nat.sub_le _ _) t.isLt)).2.2.2.2 i ≤ z
      ∧ ∀ j r, max (yP m c t j r) (-yP m c t j r) ≤ z := by
  have hN : t.val < 36 := t.isLt
  rw [outsAt0_D m c t (by omega) (by omega) (by omega) (by omega) (by omega) (by omega) (by omega) (by omega) (by omega) (by omega) (by omega) (by omega) (by omega) (by omega) (by omega) (by omega)]
  dsimp only
  unfold yP
  rw [← ts_ld (tB m c t) 0 inb_S2_S1_0 (by decide), ← ts_ld (tB m c t) 1 inb_S2_S1_1 (by decide)]
  unfold out0_D_11
  frame_out
  simp only [p3_eq, p8_eq, p9_eq, p10_eq, p11_eq, p13_eq, p14_eq, p15_eq, p16_eq, p17_eq, p18_eq, p19_eq, p20_eq, p21_eq, p22_eq, p23_eq, p24_eq, p25_eq, p26_eq, p27_eq, p28_eq, p29_eq, p30_eq, p31_eq]
  exact tops _ _ _ _ _ _ _
    (fun x r hx => slabY (aB m c t) (cB m c t) (sB m c t) _ _ (bB m c t) 0 inb_S1920x7168_S384x7168_0_0 x r hx)
    (fun x r hx => slabY (aB m c t) (cB m c t) (sB m c t) _ _ (bB m c t) 384 inb_S1920x7168_S384x7168_384_0 x r hx)
    (fun x r hx => slabY (aB m c t) (cB m c t) (sB m c t) _ _ (bB m c t) 768 inb_S1920x7168_S384x7168_768_0 x r hx)
    (fun x r hx => slabY (aB m c t) (cB m c t) (sB m c t) _ _ (bB m c t) 1152 inb_S1920x7168_S384x7168_1152_0 x r hx)
    (fun x r hx => slabY (aB m c t) (cB m c t) (sB m c t) _ _ (bB m c t) 1536 inb_S1920x7168_S384x7168_1536_0 x r hx) i z

end Cert.QkvIdeal.Block
end
-- ==== Proof.QkvKernel.lean ====
/-
  The query/key/value kernel's result arrays over the extended reals: after the run they hold the queries, the keys, the
  values (`QkvSpec.q`, `k`, `v`) and the two tiles of largest magnitudes (`QkvSpec.kmax`, `vmax`) of the arguments.
-/
module

public import proofs.«01_k».proof.Proof.QkvPoints

@[expose] public section

set_option maxRecDepth 16384

noncomputable section

namespace Cert.QkvIdeal.Block

open Cert.QkvIdeal Cert.QkvIdeal.Gen Cert.QkvIdeal.Value Cert.QkvIdeal.Slab Idealize.ShloMosaic Idealize.ShloMosaic.TcCoe Idealize.SL.Sem Idealize.ShloMosaic.Pointwise
open Idealize.ShloMosaic.Pipeline (Dat)
open Cert.Fp4

variable (m : (ℓ : Loc nD τ sig) → Buf (Elt Ideal) ℓ) (ρ : Dev nD → PrngReg)

/-- The arguments the call reads. -/
abbrev aM (c : Dev nD) : Vec Ideal S1920x7168 .bf16 := m ((c : Thread nD τ).loc main_arg0)
abbrev cM (c : Dev nD) : Vec Ideal S3584x9216 .i8 := m ((c : Thread nD τ).loc main_arg1)
abbrev sM (c : Dev nD) : Vec Ideal S448x9216 .fp8e4m3 := m ((c : Thread nD τ).loc main_arg2)
abbrev tM (c : Dev nD) : Vec Ideal S2 .f32 := m ((c : Thread nD τ).loc main_arg3)
abbrev bM (c : Dev nD) : Vec Ideal S1x9216 .f32 := m ((c : Thread nD τ).loc main_arg4)
abbrev oM (c : Dev nD) : Vec Ideal S32x1920 .f32 := m ((c : Thread nD τ).loc main_arg5)
abbrev iM (c : Dev nD) : Vec Ideal S32x1920 .f32 := m ((c : Thread nD τ).loc main_arg6)

/-- Elements over equal reads are equal. -/
theorem elem_congr {a a' w w' : Fin 7168 → EReal} {s s' b b' : EReal} (ha : ∀ k, a k = a' k) (hw : ∀ k, w k = w' k) (hs : s = s')
    (hb : b = b') : QkvSpec.elem a w s b = QkvSpec.elem a' w' s' b' := by
  rw [funext ha, funext hw, hs, hb]

/-- The channel that channel `j` of point `t` is. -/
abbrev ch (t : Fin cfg0.N) (j : Fin 256) : Fin 9216 := ⟨256 * t.val + j, by have : t.val < 36 := t.isLt; omega⟩

/-- The projection over the blocks of point `t` is the projection of the arguments at the point's channels. -/
theorem yP_eq (c : Dev nD) (t : Fin cfg0.N) (j : Fin 256) (r : Fin 1920) :
    yP m c t j r = QkvSpec.y (aM m c) (cM m c) (sM m c) (tM m c) (bM m c) (ch t j) r := by
  obtain ⟨i0, i1, i2, i3, i4, i5, i6⟩ := idx t
  refine elem_congr (fun k => ?_) (fun k => congrArg₂ (· * ·) (congrArg (fun z => valK (nib z k)) ?_) ?_) (congrArg₂ _ ?_ ?_) ?_
  all_goals blk_ext [iblk, V, i0, i1, i2, i3, i4, i5, i6]

/-- The tables' blocks are the tables. -/
theorem oB_eq (c : Dev nD) (t : Fin cfg0.N) : oB m c t = oM m c := by blk_ext! [iblk, V, (idx t).2.2.2.2.2.1]
theorem iB_eq (c : Dev nD) (t : Fin cfg0.N) : iB m c t = iM m c := by blk_ext! [iblk, V, (idx t).2.2.2.2.2.2]

/-- The rotated projection over the blocks of point `t` is that of the arguments at the point's channels. -/
theorem rotP_eq (c : Dev nD) (t : Fin cfg0.N) (j : Fin 256) (r : Fin 1920) :
    rotP m c t j r = QkvSpec.rot (aM m c) (cM m c) (sM m c) (tM m c) (bM m c) (oM m c) (iM m c) (ch t j) r := by
  have hy := yP_eq m c t
  have el : ch t ⟨QkvSpec.loCh j, QkvSpec.loCh_lt (n := 4) j.isLt⟩ = ⟨QkvSpec.loCh (ch t j), QkvSpec.loCh_lt (n := 144) (ch t j).isLt⟩ :=
    Fin.ext (show 256 * t.val + ((j : ℕ) / 64 * 64 + (j : ℕ) % 32) = (256 * t.val + j) / 64 * 64 + (256 * t.val + j) % 32 by omega)
  have eh : ch t ⟨QkvSpec.hiCh j, QkvSpec.hiCh_lt (n := 4) j.isLt⟩ = ⟨QkvSpec.hiCh (ch t j), QkvSpec.hiCh_lt (n := 144) (ch t j).isLt⟩ :=
    Fin.ext (show 256 * t.val + ((j : ℕ) / 64 * 64 + 32 + (j : ℕ) % 32) = (256 * t.val + j) / 64 * 64 + 32 + (256 * t.val + j) % 32 by omega)
  have ed : (⟨(j : ℕ) % 32, Nat.mod_lt _ (by decide)⟩ : Fin 32) = ⟨(ch t j : ℕ) % 32, Nat.mod_lt _ (by decide)⟩ :=
    Fin.ext (show (j : ℕ) % 32 = (256 * t.val + j) % 32 by omega)
  have ej : (j : ℕ) % 64 = (ch t j : ℕ) % 64 := show (j : ℕ) % 64 = (256 * t.val + j) % 64 by omega
  unfold rotP rotB QkvSpec.rot
  rw [oB_eq, iB_eq, ← el, ← eh, ← hy, ← hy, ← ed]
  unfold QkvSpec.turn
  rw [ej]
  rfl

/-- The queries' buffer after point `n` holds the block of the last query point up to `n`. -/
theorem q_at (c : Dev nD) : ∀ (n : ℕ) (hn : n < cfg0.N) (y : S256x1920.Idx),
    (outsAt0 m c n hn).1 y = rotP m c ⟨min n 27, lt_of_le_of_lt (Nat.min_le_left _ _) hn⟩ (y 0) (y 1) := by
  intro n
  induction n with
  | zero => exact fun hn y => q_A m c ⟨0, hn⟩ rfl y
  | succ n ih =>
    intro hn y
    by_cases h : n + 1 < 28
    · refine (q_B m c ⟨n + 1, hn⟩ (Nat.succ_pos _) h y).trans ?_
      exact congrArg (fun s => rotP m c s (y 0) (y 1)) (Fin.ext (show n + 1 = min (n + 1) 27 by omega))
    · have e : (outsAt0 m c (n + 1) hn).1 = (outsAt0 m c n (Nat.lt_of_succ_lt hn)).1 := by
        by_cases h' : n + 1 < 32
        · exact q_C m c ⟨n + 1, hn⟩ (Nat.le_of_not_lt h) h'
        · exact q_D m c ⟨n + 1, hn⟩ (Nat.le_of_not_lt h')
      rw [e, ih]
      exact congrArg (fun s => rotP m c s (y 0) (y 1)) (Fin.ext (show min n 27 = min (n + 1) 27 by omega))

/-- The keys' buffer after point `n` holds the block of the last key point up to `n`. -/
theorem k_at (c : Dev nD) : ∀ (n : ℕ) (hn : n < cfg0.N) (_ : 28 ≤ n) (y : S256x1920.Idx),
    (outsAt0 m c n hn).2.1 y = rotP m c ⟨min n 31, lt_of_le_of_lt (Nat.min_le_left _ _) hn⟩ (y 0) (y 1) := by
  intro n
  induction n with
  | zero => exact fun _ h => absurd h (by decide)
  | succ n ih =>
    intro hn h28 y
    by_cases h : n + 1 < 32
    · refine (k_C m c ⟨n + 1, hn⟩ h28 h y).trans ?_
      exact congrArg (fun s => rotP m c s (y 0) (y 1)) (Fin.ext (show n + 1 = min (n + 1) 31 by omega))
    · rw [show (outsAt0 m c (n + 1) hn).2.1 = (outsAt0 m c n (Nat.lt_of_succ_lt hn)).2.1 from
        k_D m c ⟨n + 1, hn⟩ (Nat.le_of_not_lt h), ih _ (by omega)]
      exact congrArg (fun s => rotP m c s (y 0) (y 1)) (Fin.ext (show min n 31 = min (n + 1) 31 by omega))

/-- The keys' tile after point `n` is the largest magnitude of the key blocks up to `n`, and zero before them. -/
theorem kt_at (c : Dev nD) (i : S8x128.Idx) (z : EReal) : ∀ (n : ℕ) (hn : n < cfg0.N),
    (outsAt0 m c n hn).2.2.2.1 i ≤ z ↔ 0 ≤ z ∧ ∀ s : Fin cfg0.N, 28 ≤ s.val → s.val < 32 → s.val ≤ n →
      ∀ j r, max (rotP m c s j r) (-rotP m c s j r) ≤ z := by
  intro n
  induction n with
  | zero =>
    intro hn
    rw [kt_A m c ⟨0, hn⟩ rfl]
    exact ⟨fun h => ⟨h, fun s h1 _ h3 => absurd (h1.trans h3) (by decide)⟩, fun h => h.1⟩
  | succ n ih =>
    intro hn
    have same : ((outsAt0 m c (n + 1) hn).2.2.2.1 = (outsAt0 m c n (Nat.lt_of_succ_lt hn)).2.2.2.1) → (n + 1 < 28 ∨ 32 ≤ n + 1) →
        ((outsAt0 m c (n + 1) hn).2.2.2.1 i ≤ z ↔ 0 ≤ z ∧ ∀ s : Fin cfg0.N, 28 ≤ s.val → s.val < 32 → s.val ≤ n + 1 →
          ∀ j r, max (rotP m c s j r) (-rotP m c s j r) ≤ z) := fun e ho => by
      rw [e, ih]
      exact and_congr Iff.rfl ⟨fun h s h1 h2 h3 => h s h1 h2 (by omega), fun h s h1 h2 h3 => h s h1 h2 (by omega)⟩
    by_cases h : n + 1 < 28
    · exact same (kt_B m c ⟨n + 1, hn⟩ (Nat.succ_pos _) h) (.inl h)
    by_cases h' : n + 1 < 32
    · refine (kt_C m c ⟨n + 1, hn⟩ (Nat.le_of_not_lt h) h' i z).trans ?_
      refine (and_congr (ih (Nat.lt_of_succ_lt hn)) Iff.rfl).trans ?_
      constructor
      · rintro ⟨⟨h0, hs⟩, hl⟩
        refine ⟨h0, fun s h1 h2 h3 => ?_⟩
        by_cases e : s.val ≤ n
        · exact hs s h1 h2 e
        · obtain rfl : s = ⟨n + 1, hn⟩ := Fin.ext (show s.val = n + 1 by omega)
          exact hl
      · rintro ⟨h0, hs⟩
        exact ⟨⟨h0, fun s h1 h2 h3 => hs s h1 h2 (Nat.le_succ_of_le h3)⟩, hs ⟨n + 1, hn⟩ (Nat.le_of_not_lt h) h' le_rfl⟩
    · exact same (kt_D m c ⟨n + 1, hn⟩ (Nat.le_of_not_lt h')) (.inr (Nat.le_of_not_lt h'))

/-- The values' tile after point `n` is the largest magnitude of the value blocks up to `n`, and zero before them. -/
theorem vt_at (c : Dev nD) (i : S8x128.Idx) (z : EReal) : ∀ (n : ℕ) (hn : n < cfg0.N),
    (outsAt0 m c n hn).2.2.2.2 i ≤ z ↔ 0 ≤ z ∧ ∀ s : Fin cfg0.N, 32 ≤ s.val → s.val ≤ n →
      ∀ j r, max (yP m c s j r) (-yP m c s j r) ≤ z := by
  intro n
  induction n with
  | zero =>
    intro hn
    rw [vt_A m c ⟨0, hn⟩ rfl]
    exact ⟨fun h => ⟨h, fun s h1 h3 => absurd (h1.trans h3) (by decide)⟩, fun h => h.1⟩
  | succ n ih =>
    intro hn
    have same : ((outsAt0 m c (n + 1) hn).2.2.2.2 = (outsAt0 m c n (Nat.lt_of_succ_lt hn)).2.2.2.2) → (n + 1 < 32) →
        ((outsAt0 m c (n + 1) hn).2.2.2.2 i ≤ z ↔ 0 ≤ z ∧ ∀ s : Fin cfg0.N, 32 ≤ s.val → s.val ≤ n + 1 →
          ∀ j r, max (yP m c s j r) (-yP m c s j r) ≤ z) := fun e ho => by
      rw [e, ih]
      exact and_congr Iff.rfl ⟨fun h s h1 h3 => h s h1 (by omega), fun h s h1 h3 => h s h1 (by omega)⟩
    by_cases h : n + 1 < 28
    · exact same (vt_B m c ⟨n + 1, hn⟩ (Nat.succ_pos _) h) (by omega)
    by_cases h' : n + 1 < 32
    · exact same (vt_C m c ⟨n + 1, hn⟩ (Nat.le_of_not_lt h) h') h'
    · refine (vt_D m c ⟨n + 1, hn⟩ (Nat.le_of_not_lt h') i z).trans ?_
      refine (and_congr (ih (Nat.lt_of_succ_lt hn)) Iff.rfl).trans ?_
      constructor
      · rintro ⟨⟨h0, hs⟩, hl⟩
        refine ⟨h0, fun s h1 h3 => ?_⟩
        by_cases e : s.val ≤ n
        · exact hs s h1 e
        · obtain rfl : s = ⟨n + 1, hn⟩ := Fin.ext (show s.val = n + 1 by omega)
          exact hl
      · rintro ⟨h0, hs⟩
        exact ⟨⟨h0, fun s h1 h3 => hs s h1 (Nat.le_succ_of_le h3)⟩, hs ⟨n + 1, hn⟩ (Nat.le_of_not_lt h') le_rfl⟩

/-- A magnitude is not negative. -/
theorem mag_nonneg (x : EReal) : 0 ≤ max x (-x) := by
  rcases le_total 0 x with h | h
  · exact le_max_of_le_left h
  · exact le_max_of_le_right (EReal.neg_nonneg.mpr h)

/-- The points that write each array back. -/
theorem flush8 : ∀ t : Fin cfg0.N, (cfg0.win 8).flush t = true → 28 ≤ t.val :=
  (by decide +kernel : ∀ t : Fin grid0.N, (cfg0.win 8).flush t = true → 28 ≤ t.val)
theorem flush9 : ∀ t : Fin cfg0.N, (cfg0.win 9).flush t = true → 32 ≤ t.val :=
  (by decide +kernel : ∀ t : Fin grid0.N, (cfg0.win 9).flush t = true → 32 ≤ t.val)
theorem flush10 : ∀ t : Fin cfg0.N, (cfg0.win 10).flush t = true → t.val = 35 :=
  (by decide +kernel : ∀ t : Fin grid0.N, (cfg0.win 10).flush t = true → t.val = 35)
theorem flush11 : ∀ t : Fin cfg0.N, (cfg0.win 11).flush t = true → t.val = 35 :=
  (by decide +kernel : ∀ t : Fin grid0.N, (cfg0.win 11).flush t = true → t.val = 35)

/-- The queries' array after the run. -/
theorem final7 (c : Dev nD) : (dats m 0 c).arrAt 7 cfg0.N
    = QkvSpec.q (aM m c) (cM m c) (sM m c) (tM m c) (bM m c) (oM m c) (iM m c) := by
  refine (dats m 0 c).arrAt_eq_of_covers 7 _ (by decide +kernel) fun t hf y => ?_
  blk_simp
  rw [after0_7, q_at]
  refine (rotP_eq m c _ _ _).trans (congrArg₂ (QkvSpec.rot (aM m c) (cM m c) (sM m c) (tM m c) (bM m c) (oM m c) (iM m c)) (Fin.ext ?_) (Fin.ext ?_))
  · show 256 * min t.val 27 + (y 0).val = ((win0_7.blk t).view.emb y 0).val
    blk_simp [(idxO t).1]
    omega
  · show (y 1).val = ((win0_7.blk t).view.emb y 1).val
    blk_simp [(idxO t).1]

/-- The keys' array after the run. -/
theorem final8 (c : Dev nD) : (dats m 0 c).arrAt 8 cfg0.N
    = QkvSpec.k (aM m c) (cM m c) (sM m c) (tM m c) (bM m c) (oM m c) (iM m c) := by
  refine (dats m 0 c).arrAt_eq_of_covers 8 _ (by decide +kernel) fun t hf y => ?_
  have ht := flush8 t hf
  blk_simp
  rw [after0_8, k_at m c _ _ ht]
  refine (rotP_eq m c _ _ _).trans (congrArg₂ (QkvSpec.rot (aM m c) (cM m c) (sM m c) (tM m c) (bM m c) (oM m c) (iM m c)) (Fin.ext ?_) (Fin.ext ?_))
  · show 256 * min t.val 31 + (y 0).val = 7168 + ((win0_8.blk t).view.emb y 0).val
    blk_simp [(idxO t).2.1]
    omega
  · show (y 1).val = ((win0_8.blk t).view.emb y 1).val
    blk_simp [(idxO t).2.1]

/-- The values' array after the run. -/
theorem final9 (c : Dev nD) : (dats m 0 c).arrAt 9 cfg0.N
    = QkvSpec.v (aM m c) (cM m c) (sM m c) (tM m c) (bM m c) := by
  refine (dats m 0 c).arrAt_eq_of_covers 9 _ (by decide +kernel) fun t hf y => ?_
  have ht := flush9 t hf
  have hN : t.val < 36 := t.isLt
  blk_simp
  rw [after0_9, v_D m c t ht]
  refine (yP_eq m c _ _ _).trans (congrArg₂ (QkvSpec.y (aM m c) (cM m c) (sM m c) (tM m c) (bM m c)) (Fin.ext ?_) (Fin.ext ?_))
  · show 256 * t.val + (y 0).val = 8192 + ((win0_9.blk t).view.emb y 0).val
    blk_simp [(idxO t).2.2.1]
    omega
  · show (y 1).val = ((win0_9.blk t).view.emb y 1).val
    blk_simp [(idxO t).2.2.1]

/-- The keys' tile after the last point. -/
theorem kt_last (c : Dev nD) (t : Fin cfg0.N) (ht : t.val = 35) (i : S8x128.Idx) : (outsAt0 m c t.val t.isLt).2.2.2.1 i
    = QkvSpec.maxAbs (QkvSpec.k (aM m c) (cM m c) (sM m c) (tM m c) (bM m c) (oM m c) (iM m c)) := by
  refine eq_of_forall_ge_iff fun z => ?_
  rw [kt_at, QkvSpec.maxAbs_le]
  constructor
  · rintro ⟨_, h⟩ j r
    have q := h (⟨28 + j.val / 256, show 28 + j.val / 256 < 36 by omega⟩ : Fin cfg0.N) (Nat.le_add_right _ _)
      (show 28 + j.val / 256 < 32 by omega) (show 28 + j.val / 256 ≤ t.val by omega) (⟨j.val % 256, by omega⟩ : Fin 256) r
    rw [rotP_eq] at q
    have e : ch (⟨28 + j.val / 256, show 28 + j.val / 256 < 36 by omega⟩ : Fin cfg0.N) (⟨j.val % 256, by omega⟩ : Fin 256) = ⟨7168 + j, by omega⟩ :=
      Fin.ext (show 256 * (28 + j.val / 256) + j.val % 256 = 7168 + j.val by omega)
    rw [e] at q
    exact q
  · refine fun h => ⟨(mag_nonneg _).trans (h 0 0), fun s h1 h2 _ j r => ?_⟩
    have q := h (⟨256 * (s.val - 28) + j, by omega⟩ : Fin 1024) r
    have e : ch s j = ⟨7168 + (256 * (s.val - 28) + j), by omega⟩ := Fin.ext (show 256 * s.val + j.val = 7168 + (256 * (s.val - 28) + j) by omega)
    rw [rotP_eq, e]
    exact q

/-- The values' tile after the last point. -/
theorem vt_last (c : Dev nD) (t : Fin cfg0.N) (ht : t.val = 35) (i : S8x128.Idx) : (outsAt0 m c t.val t.isLt).2.2.2.2 i
    = QkvSpec.maxAbs (QkvSpec.v (aM m c) (cM m c) (sM m c) (tM m c) (bM m c)) := by
  refine eq_of_forall_ge_iff fun z => ?_
  rw [vt_at, QkvSpec.maxAbs_le]
  constructor
  · rintro ⟨_, h⟩ j r
    have q := h (⟨32 + j.val / 256, show 32 + j.val / 256 < 36 by omega⟩ : Fin cfg0.N) (Nat.le_add_right _ _)
      (show 32 + j.val / 256 ≤ t.val by omega) (⟨j.val % 256, by omega⟩ : Fin 256) r
    rw [yP_eq] at q
    have e : ch (⟨32 + j.val / 256, show 32 + j.val / 256 < 36 by omega⟩ : Fin cfg0.N) (⟨j.val % 256, by omega⟩ : Fin 256) = ⟨8192 + j, by omega⟩ :=
      Fin.ext (show 256 * (32 + j.val / 256) + j.val % 256 = 8192 + j.val by omega)
    rw [e] at q
    exact q
  · refine fun h => ⟨(mag_nonneg _).trans (h 0 0), fun s h1 _ j r => ?_⟩
    have hN : s.val < 36 := s.isLt
    have q := h (⟨256 * (s.val - 32) + j, by omega⟩ : Fin 1024) r
    have e : ch s j = ⟨8192 + (256 * (s.val - 32) + j), by omega⟩ := Fin.ext (show 256 * s.val + j.val = 8192 + (256 * (s.val - 32) + j) by omega)
    rw [yP_eq, e]
    exact q

/-- The two tiles' arrays after the run. -/
theorem final10 (c : Dev nD) : (dats m 0 c).arrAt 10 cfg0.N
    = QkvSpec.kmax (aM m c) (cM m c) (sM m c) (tM m c) (bM m c) (oM m c) (iM m c) := by
  refine (dats m 0 c).arrAt_eq_of_covers 10 _ (by decide +kernel) fun t hf y => ?_
  blk_simp
  rw [after0_10]
  exact kt_last m c t (flush10 t hf) y
theorem final11 (c : Dev nD) : (dats m 0 c).arrAt 11 cfg0.N
    = QkvSpec.vmax (aM m c) (cM m c) (sM m c) (tM m c) (bM m c) := by
  refine (dats m 0 c).arrAt_eq_of_covers 11 _ (by decide +kernel) fun t hf y => ?_
  blk_simp
  rw [after0_11]
  exact vt_last m c t (flush11 t hf) y

/-- The kernel's run: the result cells end at the five arrays, the argument cells keep. -/
theorem runP : θ_run defs (onTc (τ := τ) (main (F := Ideal))) ⟨m, fun _ => 0, ρ⟩ (fun r => ∀ c : Dev nD,
    r.2.mem ((c : Thread nD τ).loc main_v0_0) = QkvSpec.q (aM m c) (cM m c) (sM m c) (tM m c) (bM m c) (oM m c) (iM m c)
    ∧ r.2.mem ((c : Thread nD τ).loc main_v0_1) = QkvSpec.k (aM m c) (cM m c) (sM m c) (tM m c) (bM m c) (oM m c) (iM m c)
    ∧ r.2.mem ((c : Thread nD τ).loc main_v0_2) = QkvSpec.v (aM m c) (cM m c) (sM m c) (tM m c) (bM m c)
    ∧ r.2.mem ((c : Thread nD τ).loc main_v0_3) = QkvSpec.kmax (aM m c) (cM m c) (sM m c) (tM m c) (bM m c) (oM m c) (iM m c)
    ∧ r.2.mem ((c : Thread nD τ).loc main_v0_4) = QkvSpec.vmax (aM m c) (cM m c) (sM m c) (tM m c) (bM m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2⟩) (run_blocks m ρ)

end Cert.QkvIdeal.Block
end
-- ==== Proof.QkvReference.lean ====
/-
  The query/key/value reference over the extended reals: its result arrays are the queries, the keys, the values
  (`QkvSpec.q`, `k`, `v`) and the two tiles of largest magnitudes (`QkvSpec.kmax`, `vmax`) of the arguments.
-/
module

public import proofs.«01_k».proof.Proof.Gen.QkvRefIdeal.Value
public import proofs.«01_k».proof.Proof.QkvSpec
public import Idealize.ShloMosaic.Lib.Pipeline.ValueKit

@[expose] public section

set_option maxRecDepth 16384

noncomputable section

namespace Cert.QkvRefIdeal.Block

open Cert.QkvRefIdeal Cert.QkvRefIdeal.Gen Cert.QkvRefIdeal.Value Idealize.ShloMosaic Idealize.ShloMosaic.TcCoe Idealize.SL.Sem
open Idealize.ShloMosaic.Pointwise Cert.Fp4
open Idealize.ShloMosaic.Pipeline (Dat)

/-- The weights the reference decodes, at an index. -/
theorem w_apply (v0 : Vec Ideal S3584x9216 .i8) (v1 : Vec Ideal S448x9216 .fp8e4m3) (k : Fin 7168) (j : Fin 9216) :
    k0_pay7 (F := Ideal) v0 v1 (ix2 k j) = wt v0 v1 k j := by
  refine Eq.trans ?_ (ref_wt v0 v1 k j (by omega) (by omega))
  pointwise [k0_pay7]
  rfl

/-- The projection at an index. -/
theorem p8_apply (w : Vec Ideal S7168x9216 .bf16) (a : Vec Ideal S1920x7168 .bf16) (t0 t1 : Elt Ideal .f32) (b : Vec Ideal S1x9216 .f32)
    (r : Fin 1920) (j : Fin 9216) :
    k0_pay8 (F := Ideal) w a t0 t1 b (ix2 r j)
      = QkvSpec.elem (fun k => a (ix2 r k)) (fun k => w (ix2 k j)) (t0 * t1) (b (ix2 0 j)) := by
  pointwise [k0_pay8, QkvSpec.elem]
  rw [mul_assoc]

/-- The rotated queries at an index. -/
theorem p11_apply (w : Vec Ideal S7168x9216 .bf16) (a : Vec Ideal S1920x7168 .bf16) (t0 t1 : Elt Ideal .f32) (b : Vec Ideal S1x9216 .f32)
    (O I : Vec Ideal S32x1920 .f32) (r : Fin 1920) (j : Fin 7168) :
    k0_pay11 (F := Ideal) w a t0 t1 b O I (ix2 r j)
      = QkvSpec.turn (k0_pay8 w a t0 t1 b (ix2 r (⟨QkvSpec.loCh j, lt_trans (QkvSpec.loCh_lt (n := 112) j.isLt) (by decide)⟩ : Fin 9216)))
          (k0_pay8 w a t0 t1 b (ix2 r (⟨QkvSpec.hiCh j, lt_trans (QkvSpec.hiCh_lt (n := 112) j.isLt) (by decide)⟩ : Fin 9216)))
          (O (ix2 (⟨j % 32, Nat.mod_lt _ (by decide)⟩ : Fin 32) r)) (I (ix2 (⟨j % 32, Nat.mod_lt _ (by decide)⟩ : Fin 32) r)) j := by
  pointwise [k0_pay11, k0_pay9, k0_pay10, QkvSpec.turn]
  have hY : ∀ {n n' : ℕ} (hn : n < 9216) (hn' : n' < 9216), n = n' →
      k0_pay8 (F := Ideal) w a t0 t1 b (ix2 r (⟨n, hn⟩ : Fin 9216)) = k0_pay8 w a t0 t1 b (ix2 r (⟨n', hn'⟩ : Fin 9216)) := fun _ _ e => by subst e; rfl
  have hT : ∀ (T : Vec Ideal S32x1920 .f32) {n n' : ℕ} (hn : n < 32) (hn' : n' < 32), n = n' →
      T (ix2 (⟨n, hn⟩ : Fin 32) r) = T (ix2 (⟨n', hn'⟩ : Fin 32) r) := fun _ _ _ _ _ e => by subst e; rfl
  by_cases h : j.val % 64 < 32
  · rw [dif_pos h, if_pos h]
    exact congrArg₂ (· - ·) (congrArg₂ (· * ·) (hY _ _ (by unfold QkvSpec.loCh; omega)) (hT O _ _ (by omega)))
      (congrArg₂ (· * ·) (hY _ _ (by unfold QkvSpec.hiCh; omega)) (hT I _ _ (by omega)))
  · rw [dif_neg h, if_neg h]
    exact congrArg₂ (· + ·) (congrArg₂ (· * ·) (hY _ _ (by unfold QkvSpec.hiCh; omega)) (hT O _ _ (by omega)))
      (congrArg₂ (· * ·) (hY _ _ (by unfold QkvSpec.loCh; omega)) (hT I _ _ (by omega)))

/-- The rotated keys at an index. -/
theorem p12_apply (w : Vec Ideal S7168x9216 .bf16) (a : Vec Ideal S1920x7168 .bf16) (t0 t1 : Elt Ideal .f32) (b : Vec Ideal S1x9216 .f32)
    (O I : Vec Ideal S32x1920 .f32) (r : Fin 1920) (j : Fin 1024) :
    k0_pay12 (F := Ideal) w a t0 t1 b O I (ix2 r j)
      = QkvSpec.turn (k0_pay8 w a t0 t1 b (ix2 r (⟨7168 + QkvSpec.loCh j, Nat.add_lt_of_lt_sub' (lt_trans (QkvSpec.loCh_lt (n := 16) j.isLt) (by decide))⟩ : Fin 9216)))
          (k0_pay8 w a t0 t1 b (ix2 r (⟨7168 + QkvSpec.hiCh j, Nat.add_lt_of_lt_sub' (lt_trans (QkvSpec.hiCh_lt (n := 16) j.isLt) (by decide))⟩ : Fin 9216)))
          (O (ix2 (⟨j % 32, Nat.mod_lt _ (by decide)⟩ : Fin 32) r)) (I (ix2 (⟨j % 32, Nat.mod_lt _ (by decide)⟩ : Fin 32) r)) j := by
  pointwise [k0_pay12, k0_pay9, k0_pay10, QkvSpec.turn]
  have hY : ∀ {n n' : ℕ} (hn : n < 9216) (hn' : n' < 9216), n = n' →
      k0_pay8 (F := Ideal) w a t0 t1 b (ix2 r (⟨n, hn⟩ : Fin 9216)) = k0_pay8 w a t0 t1 b (ix2 r (⟨n', hn'⟩ : Fin 9216)) := fun _ _ e => by subst e; rfl
  have hT : ∀ (T : Vec Ideal S32x1920 .f32) {n n' : ℕ} (hn : n < 32) (hn' : n' < 32), n = n' →
      T (ix2 (⟨n, hn⟩ : Fin 32) r) = T (ix2 (⟨n', hn'⟩ : Fin 32) r) := fun _ _ _ _ _ e => by subst e; rfl
  by_cases h : j.val % 64 < 32
  · rw [dif_pos h, if_pos h]
    exact congrArg₂ (· - ·) (congrArg₂ (· * ·) (hY _ _ (by unfold QkvSpec.loCh; omega)) (hT O _ _ (by omega)))
      (congrArg₂ (· * ·) (hY _ _ (by unfold QkvSpec.hiCh; omega)) (hT I _ _ (by omega)))
  · rw [dif_neg h, if_neg h]
    exact congrArg₂ (· + ·) (congrArg₂ (· * ·) (hY _ _ (by unfold QkvSpec.hiCh; omega)) (hT O _ _ (by omega)))
      (congrArg₂ (· * ·) (hY _ _ (by unfold QkvSpec.loCh; omega)) (hT I _ _ (by omega)))

/-- The values at an index. -/
theorem p1_apply (x : Vec Ideal S1920x9216 .f32) (r : Fin 1920) (j : Fin 1024) :
    k0_pay1 (F := Ideal) x (ix2 r j) = x (ix2 r (⟨8192 + j, by omega⟩ : Fin 9216)) := by
  pointwise [k0_pay1]

/-- The largest magnitudes, in every place of a tile. -/
theorem p5_apply (x : Vec Ideal S1920x1024 .f32) (i : S8x128.Idx) : k0_pay5 (F := Ideal) x i = QkvSpec.maxAbs x := by
  idx_vars i
  pointwise [k0_pay5]
  rw [← QkvSpec.fold_maxAbs]
theorem p6_apply (x : Vec Ideal S1920x9216 .f32) (i : S8x128.Idx) : k0_pay6 (F := Ideal) x i = QkvSpec.maxAbs (k0_pay1 (F := Ideal) x) := by
  idx_vars i
  pointwise [k0_pay6]
  rw [← QkvSpec.fold_maxAbs]

/-- The transposes the results are stored through. -/
theorem p2_apply (x : Vec Ideal S1920x7168 .f32) (i : S7168x1920.Idx) : k0_pay2 (F := Ideal) x i = x (ix2 (i 1) (i 0)) := by
  idx_vars i
  pointwise [k0_pay2]
theorem p3_apply (x : Vec Ideal S1920x1024 .f32) (i : S1024x1920.Idx) : k0_pay3 (F := Ideal) x i = x (ix2 (i 1) (i 0)) := by
  idx_vars i
  pointwise [k0_pay3]
theorem p4_apply (x : Vec Ideal S1920x9216 .f32) (i : S1024x1920.Idx) : k0_pay4 (F := Ideal) x i = k0_pay1 x (ix2 (i 1) (i 0)) := by
  idx_vars i
  pointwise [k0_pay4]

variable (m : (ℓ : Loc nD τ sig) → Buf (Elt Ideal) ℓ) (ρ : Dev nD → PrngReg)

/-- The arguments the call reads. -/
abbrev aM (c : Dev nD) : Vec Ideal S1920x7168 .bf16 := m ((c : Thread nD τ).loc main_arg0)
abbrev cM (c : Dev nD) : Vec Ideal S3584x9216 .i8 := m ((c : Thread nD τ).loc main_arg1)
abbrev sM (c : Dev nD) : Vec Ideal S448x9216 .fp8e4m3 := m ((c : Thread nD τ).loc main_arg2)
abbrev tM (c : Dev nD) : Vec Ideal S2 .f32 := m ((c : Thread nD τ).loc main_arg3)
abbrev bM (c : Dev nD) : Vec Ideal S1x9216 .f32 := m ((c : Thread nD τ).loc main_arg4)
abbrev oM (c : Dev nD) : Vec Ideal S32x1920 .f32 := m ((c : Thread nD τ).loc main_arg5)
abbrev iM (c : Dev nD) : Vec Ideal S32x1920 .f32 := m ((c : Thread nD τ).loc main_arg6)

/-- A scalar load of the scales reads its element. -/
theorem ts_ld (T : Vec Ideal S2 .f32) (n : Fin 2) (h) (p) : View.ld T (Rect.unit (s := S2) ![n.val] ![1] h) (Shape.Idx.first p) = T (ix1 n) :=
  View.ld_unit_apply_of T _ _ h _ (ix1 n) fun a => by
    obtain rfl : a = 0 := Subsingleton.elim _ _
    rfl

/-- The one point's index maps are all zero. -/
theorem idx : ∀ t : Fin cfg0.N, win0_0.index t = ![0, 0] ∧ win0_1.index t = ![0, 0] ∧ win0_2.index t = ![0, 0]
    ∧ win0_3.index t = ![0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0] ∧ win0_4.index t = ![0, 0] ∧ win0_5.index t = ![0, 0] ∧ win0_6.index t = ![0, 0])

/-- The whole-array blocks are the arguments. -/
theorem blk0 (c : Dev nD) (t : Fin cfg0.N) : iblk m c 0 t = aM m c := by blk_ext! [iblk, V, (idx t).1]
theorem blk1 (c : Dev nD) (t : Fin cfg0.N) : iblk m c 1 t = cM m c := by blk_ext! [iblk, V, (idx t).2.1]
theorem blk2 (c : Dev nD) (t : Fin cfg0.N) : iblk m c 2 t = sM m c := by blk_ext! [iblk, V, (idx t).2.2.1]
theorem blk3 (c : Dev nD) (t : Fin cfg0.N) : iblk m c 3 t = tM m c := by blk_ext! [iblk, V, (idx t).2.2.2.1]
theorem blk4 (c : Dev nD) (t : Fin cfg0.N) : iblk m c 4 t = bM m c := by blk_ext! [iblk, V, (idx t).2.2.2.2.1]
theorem blk5 (c : Dev nD) (t : Fin cfg0.N) : iblk m c 5 t = oM m c := by blk_ext! [iblk, V, (idx t).2.2.2.2.2.1]
theorem blk6 (c : Dev nD) (t : Fin cfg0.N) : iblk m c 6 t = iM m c := by blk_ext! [iblk, V, (idx t).2.2.2.2.2.2]

/-- The projection of the arguments as the reference computes it, from its loads of the two tensor scales. -/
abbrev yM (c : Dev nD) (t0 t1 : Elt Ideal .f32) : Vec Ideal S1920x9216 .f32 :=
  k0_pay8 (F := Ideal) (k0_pay7 (F := Ideal) (cM m c) (sM m c)) (aM m c) t0 t1 (bM m c)

/-- … at an index. -/
theorem yM_apply (c : Dev nD) (t0 t1 : Elt Ideal .f32) (h0 : t0 = tM m c (ix1 0)) (h1 : t1 = tM m c (ix1 1)) (r : Fin 1920) (j : Fin 9216) :
    yM m c t0 t1 (ix2 r j) = QkvSpec.y (aM m c) (cM m c) (sM m c) (tM m c) (bM m c) j r := by
  refine (p8_apply _ (aM m c) t0 t1 (bM m c) r j).trans ?_
  have hw : ∀ k, k0_pay7 (F := Ideal) (cM m c) (sM m c) (ix2 k j) = wt (cM m c) (sM m c) k j := fun k => w_apply _ _ k j
  rw [funext hw, h0, h1]
  rfl

variable (t0 t1 : Elt Ideal .f32)

/-- The queries, the keys and the values the reference computes, at an index. -/
theorem q_apply (c : Dev nD) (h0 : t0 = tM m c (ix1 0)) (h1 : t1 = tM m c (ix1 1)) (r : Fin 1920) (j : Fin 7168) :
    k0_pay11 (F := Ideal) (k0_pay7 (F := Ideal) (cM m c) (sM m c)) (aM m c) t0 t1 (bM m c) (oM m c) (iM m c) (ix2 r j)
      = QkvSpec.qAt (aM m c) (cM m c) (sM m c) (tM m c) (bM m c) (oM m c) (iM m c) j r := by
  refine (p11_apply _ _ _ _ _ _ _ r j).trans ?_
  refine (congrArg₂ (fun u v => QkvSpec.turn u v _ _ _) (yM_apply m c t0 t1 h0 h1 r _) (yM_apply m c t0 t1 h0 h1 r _)).trans ?_
  rfl
theorem k_apply (c : Dev nD) (h0 : t0 = tM m c (ix1 0)) (h1 : t1 = tM m c (ix1 1)) (r : Fin 1920) (j : Fin 1024) :
    k0_pay12 (F := Ideal) (k0_pay7 (F := Ideal) (cM m c) (sM m c)) (aM m c) t0 t1 (bM m c) (oM m c) (iM m c) (ix2 r j)
      = QkvSpec.kAt (aM m c) (cM m c) (sM m c) (tM m c) (bM m c) (oM m c) (iM m c) j r := by
  refine (p12_apply _ _ _ _ _ _ _ r j).trans ?_
  refine (congrArg₂ (fun u v => QkvSpec.turn u v _ _ _) (yM_apply m c t0 t1 h0 h1 r _) (yM_apply m c t0 t1 h0 h1 r _)).trans ?_
  unfold QkvSpec.kAt QkvSpec.rot
  have el : (⟨QkvSpec.loCh (7168 + j), QkvSpec.loCh_lt (n := 144) (by omega)⟩ : Fin 9216) = ⟨7168 + QkvSpec.loCh j, Nat.add_lt_of_lt_sub' (lt_trans (QkvSpec.loCh_lt (n := 16) j.isLt) (by decide))⟩ :=
    Fin.ext (show (7168 + (j : ℕ)) / 64 * 64 + (7168 + (j : ℕ)) % 32 = 7168 + ((j : ℕ) / 64 * 64 + (j : ℕ) % 32) by omega)
  have eh : (⟨QkvSpec.hiCh (7168 + j), QkvSpec.hiCh_lt (n := 144) (by omega)⟩ : Fin 9216) = ⟨7168 + QkvSpec.hiCh j, Nat.add_lt_of_lt_sub' (lt_trans (QkvSpec.hiCh_lt (n := 16) j.isLt) (by decide))⟩ :=
    Fin.ext (show (7168 + (j : ℕ)) / 64 * 64 + 32 + (7168 + (j : ℕ)) % 32 = 7168 + ((j : ℕ) / 64 * 64 + 32 + (j : ℕ) % 32) by omega)
  have ed : (⟨(j : ℕ) % 32, Nat.mod_lt _ (by decide)⟩ : Fin 32) = ⟨(7168 + (j : ℕ)) % 32, Nat.mod_lt _ (by decide)⟩ :=
    Fin.ext (show (j : ℕ) % 32 = (7168 + (j : ℕ)) % 32 by omega)
  have ej : (j : ℕ) % 64 = (7168 + (j : ℕ)) % 64 := by omega
  rw [← el, ← eh, ed]
  unfold QkvSpec.turn
  rw [ej]
theorem v_apply (c : Dev nD) (h0 : t0 = tM m c (ix1 0)) (h1 : t1 = tM m c (ix1 1)) (r : Fin 1920) (j : Fin 1024) :
    k0_pay1 (F := Ideal) (yM m c t0 t1) (ix2 r j) = QkvSpec.vAt (aM m c) (cM m c) (sM m c) (tM m c) (bM m c) j r :=
  (p1_apply _ r j).trans (yM_apply m c t0 t1 h0 h1 r _)

/-- The largest magnitude does not depend on which axis comes first. -/
theorem maxAbs_swap (x : Vec Ideal S1920x1024 .f32) (f : Fin 1024 → Fin 1920 → EReal) (h : ∀ r j, x (ix2 r j) = f j r) :
    QkvSpec.maxAbs x = QkvSpec.maxAbs (n := 1024) (m := 1920) (fun i => f (i 0) (i 1)) := by
  refine eq_of_forall_ge_iff fun z => ?_
  rw [QkvSpec.maxAbs_le, QkvSpec.maxAbs_le]
  constructor
  · intro H j r
    have q := H r j
    rw [h r j] at q
    exact q
  · intro H r j
    rw [h r j]
    exact H j r

/-- The results' arrays after the run. -/
theorem final7 (c : Dev nD) : (dats m 0 c).arrAt 7 cfg0.N
    = QkvSpec.q (aM m c) (cM m c) (sM m c) (tM m c) (bM m c) (oM m c) (iM m c) := by
  refine (dats m 0 c).arrAt_eq_of_after_last 7 t0_0 (by decide +kernel) _ fun j => ?_
  blk_simp
  rw [after0_7]
  unfold outsAt0
  frame_out
  simp only [(hs0_0 t0_0).read_unread, (hs0_1 t0_0).read_unread, (hs0_2 t0_0).read_unread, (hs0_3 t0_0).read_unread, (hs0_4 t0_0).read_unread, (hs0_5 t0_0).read_unread, (hs0_6 t0_0).read_unread, blk0, blk1, blk2, blk3, blk4, blk5, blk6]
  exact (p2_apply _ j).trans (q_apply m _ _ c (ts_ld (tM m c) 0 inb_S2_S1_0 (by decide)) (ts_ld (tM m c) 1 inb_S2_S1_1 (by decide)) (j 1) (j 0))

theorem final8 (c : Dev nD) : (dats m 0 c).arrAt 8 cfg0.N
    = QkvSpec.k (aM m c) (cM m c) (sM m c) (tM m c) (bM m c) (oM m c) (iM m c) := by
  refine (dats m 0 c).arrAt_eq_of_after_last 8 t0_0 (by decide +kernel) _ fun j => ?_
  blk_simp
  rw [after0_8]
  unfold outsAt0
  frame_out
  simp only [(hs0_0 t0_0).read_unread, (hs0_1 t0_0).read_unread, (hs0_2 t0_0).read_unread, (hs0_3 t0_0).read_unread, (hs0_4 t0_0).read_unread, (hs0_5 t0_0).read_unread, (hs0_6 t0_0).read_unread, blk0, blk1, blk2, blk3, blk4, blk5, blk6]
  exact (p3_apply _ j).trans (k_apply m _ _ c (ts_ld (tM m c) 0 inb_S2_S1_0 (by decide)) (ts_ld (tM m c) 1 inb_S2_S1_1 (by decide)) (j 1) (j 0))

theorem final9 (c : Dev nD) : (dats m 0 c).arrAt 9 cfg0.N
    = QkvSpec.v (aM m c) (cM m c) (sM m c) (tM m c) (bM m c) := by
  refine (dats m 0 c).arrAt_eq_of_after_last 9 t0_0 (by decide +kernel) _ fun j => ?_
  blk_simp
  rw [after0_9]
  unfold outsAt0
  frame_out
  simp only [(hs0_0 t0_0).read_unread, (hs0_1 t0_0).read_unread, (hs0_2 t0_0).read_unread, (hs0_3 t0_0).read_unread, (hs0_4 t0_0).read_unread, (hs0_5 t0_0).read_unread, (hs0_6 t0_0).read_unread, blk0, blk1, blk2, blk3, blk4, blk5, blk6]
  exact (p4_apply _ j).trans (v_apply m _ _ c (ts_ld (tM m c) 0 inb_S2_S1_0 (by decide)) (ts_ld (tM m c) 1 inb_S2_S1_1 (by decide)) (j 1) (j 0))

theorem final10 (c : Dev nD) : (dats m 0 c).arrAt 10 cfg0.N
    = QkvSpec.kmax (aM m c) (cM m c) (sM m c) (tM m c) (bM m c) (oM m c) (iM m c) := by
  refine (dats m 0 c).arrAt_eq_of_after_last 10 t0_0 (by decide +kernel) _ fun j => ?_
  blk_simp
  rw [after0_10]
  unfold outsAt0
  frame_out
  simp only [(hs0_0 t0_0).read_unread, (hs0_1 t0_0).read_unread, (hs0_2 t0_0).read_unread, (hs0_3 t0_0).read_unread, (hs0_4 t0_0).read_unread, (hs0_5 t0_0).read_unread, (hs0_6 t0_0).read_unread, blk0, blk1, blk2, blk3, blk4, blk5, blk6]
  exact (p5_apply _ j).trans (maxAbs_swap _ _ (k_apply m _ _ c (ts_ld (tM m c) 0 inb_S2_S1_0 (by decide)) (ts_ld (tM m c) 1 inb_S2_S1_1 (by decide))))

theorem final11 (c : Dev nD) : (dats m 0 c).arrAt 11 cfg0.N
    = QkvSpec.vmax (aM m c) (cM m c) (sM m c) (tM m c) (bM m c) := by
  refine (dats m 0 c).arrAt_eq_of_after_last 11 t0_0 (by decide +kernel) _ fun j => ?_
  blk_simp
  rw [after0_11]
  unfold outsAt0
  frame_out
  simp only [(hs0_0 t0_0).read_unread, (hs0_1 t0_0).read_unread, (hs0_2 t0_0).read_unread, (hs0_3 t0_0).read_unread, (hs0_4 t0_0).read_unread, (hs0_5 t0_0).read_unread, (hs0_6 t0_0).read_unread, blk0, blk1, blk2, blk3, blk4, blk5, blk6]
  exact (p6_apply _ j).trans (maxAbs_swap _ _ (v_apply m _ _ c (ts_ld (tM m c) 0 inb_S2_S1_0 (by decide)) (ts_ld (tM m c) 1 inb_S2_S1_1 (by decide))))

/-- The reference's run: the result cells end at the five arrays, the argument cells keep. -/
theorem runR : θ_run defs (onTc (τ := τ) (main (F := Ideal))) ⟨m, fun _ => 0, ρ⟩ (fun r => ∀ c : Dev nD,
    r.2.mem ((c : Thread nD τ).loc main_v0_0) = QkvSpec.q (aM m c) (cM m c) (sM m c) (tM m c) (bM m c) (oM m c) (iM m c)
    ∧ r.2.mem ((c : Thread nD τ).loc main_v0_1) = QkvSpec.k (aM m c) (cM m c) (sM m c) (tM m c) (bM m c) (oM m c) (iM m c)
    ∧ r.2.mem ((c : Thread nD τ).loc main_v0_2) = QkvSpec.v (aM m c) (cM m c) (sM m c) (tM m c) (bM m c)
    ∧ r.2.mem ((c : Thread nD τ).loc main_v0_3) = QkvSpec.kmax (aM m c) (cM m c) (sM m c) (tM m c) (bM m c) (oM m c) (iM m c)
    ∧ r.2.mem ((c : Thread nD τ).loc main_v0_4) = QkvSpec.vmax (aM m c) (cM m c) (sM m c) (tM m c) (bM m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5)
    ∧ r.2.mem ((c : Thread nD τ).loc main_arg6) = m ((c : Thread nD τ).loc main_arg6)) :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2⟩) (run_blocks m ρ)

end Cert.QkvRefIdeal.Block
end
-- ==== Proof.QkvEq.lean ====
/-
  The query/key/value kernel and its reference compute the same arrays over the extended reals: both runs end holding the
  queries, the keys, the values and the two tiles of largest magnitudes of the arguments.
-/
module

public import proofs.«01_k».proof.Defs
public import proofs.«01_k».proof.Proof.QkvKernel
public import proofs.«01_k».proof.Proof.QkvReference

@[expose] public section

noncomputable section

namespace Cert.QkvEq

open Idealize.ShloMosaic Idealize.ShloMosaic.TcCoe Idealize.SL.Sem

/-- From memories agreeing on the arguments the kernel and the reference both run, end with equal results and keep the
    arguments. -/
theorem algebraic : algebraic_QkvIdeal_QkvRefIdeal (hQkvIdeal := Cert.QkvIdeal.Gen.facts) (hQkvRefIdeal := Cert.QkvRefIdeal.Gen.facts) :=
  fun m ρ m' ρ' _ hag =>
    ⟨fun c => QkvSpec.q (QkvIdeal.Block.aM m c) (QkvIdeal.Block.cM m c) (QkvIdeal.Block.sM m c) (QkvIdeal.Block.tM m c) (QkvIdeal.Block.bM m c)
        (QkvIdeal.Block.oM m c) (QkvIdeal.Block.iM m c),
      fun c => QkvSpec.k (QkvIdeal.Block.aM m c) (QkvIdeal.Block.cM m c) (QkvIdeal.Block.sM m c) (QkvIdeal.Block.tM m c) (QkvIdeal.Block.bM m c)
        (QkvIdeal.Block.oM m c) (QkvIdeal.Block.iM m c),
      fun c => QkvSpec.v (QkvIdeal.Block.aM m c) (QkvIdeal.Block.cM m c) (QkvIdeal.Block.sM m c) (QkvIdeal.Block.tM m c) (QkvIdeal.Block.bM m c),
      fun c => QkvSpec.kmax (QkvIdeal.Block.aM m c) (QkvIdeal.Block.cM m c) (QkvIdeal.Block.sM m c) (QkvIdeal.Block.tM m c) (QkvIdeal.Block.bM m c)
        (QkvIdeal.Block.oM m c) (QkvIdeal.Block.iM m c),
      fun c => QkvSpec.vmax (QkvIdeal.Block.aM m c) (QkvIdeal.Block.cM m c) (QkvIdeal.Block.sM m c) (QkvIdeal.Block.tM m c) (QkvIdeal.Block.bM m c),
      QkvIdeal.Block.runP m ρ,
      (θ_run _ _ _).mono (fun _ h c => by
          obtain ⟨e0, e1, e2, e3, e4, e5, e6⟩ := hag c
          have hc := h c
          unfold QkvRefIdeal.Block.aM QkvRefIdeal.Block.cM QkvRefIdeal.Block.sM QkvRefIdeal.Block.tM QkvRefIdeal.Block.bM
            QkvRefIdeal.Block.oM QkvRefIdeal.Block.iM at hc
          exact ⟨hc.1.trans (congr (congr (congr (congr (congr (congr (congrArg QkvSpec.q e0) e1) e2) e3) e4) e5) e6),
            hc.2.1.trans (congr (congr (congr (congr (congr (congr (congrArg QkvSpec.k e0) e1) e2) e3) e4) e5) e6),
            hc.2.2.1.trans (congr (congr (congr (congr (congrArg QkvSpec.v e0) e1) e2) e3) e4),
            hc.2.2.2.1.trans (congr (congr (congr (congr (congr (congr (congrArg QkvSpec.kmax e0) e1) e2) e3) e4) e5) e6),
            hc.2.2.2.2.1.trans (congr (congr (congr (congr (congrArg QkvSpec.vmax e0) e1) e2) e3) e4),
            hc.2.2.2.2.2⟩)
        (QkvRefIdeal.Block.runR m' ρ')⟩

end Cert.QkvEq
end
-- ==== Proof.QkvFrame.lean ====
/- The frame of the query/key/value projection at the machine's own floats. The program and its idealisation are the same
   text, and `proof/Proof/Qkv/Frame.lean` proves the frame of that text for floats of any kind; here the two texts are
   compared, definition by definition, and the frame carried over. -/
module

public import proofs.«01_k».proof.Defs
public import proofs.«01_k».proof.Proof.Gen.Qkv
public import proofs.«01_k».proof.Proof.Qkv.Frame

@[expose] public section

set_option maxHeartbeats 4000000

noncomputable section

namespace Cert.QkvFrame

open Idealize.ShloMosaic

attribute [local instance] Cert.Qkv.Gen.facts Cert.QkvIdeal.Gen.facts

variable {F : FTy → Type} [FloatOps F]

/-- The two kernel bodies are the same program. -/
theorem body_eq : @Cert.Qkv.cc0_qkv F _ _ = @Cert.QkvIdeal.cc0_qkv F _ _ := rfl

/-- The two body tables are the same. -/
theorem defs0_eq : Cert.Qkv.defs₀ (F := F) = Cert.QkvIdeal.defs₀ (F := F) := by
  unfold Cert.Qkv.defs₀ Cert.QkvIdeal.defs₀
  refine congrArg Defs.onTc ?_
  funext l a
  match l, a with
  | 0, (t, s) =>
    show Cert.Qkv.cc0_qkv _ _ _ _ _ _ _ _ _ _ _ _ _ _ _ _ _ _ _ _ _ _ _ _ _ _ _ = _
    rw [body_eq]
    rfl

/-- So are the tables with the pipelines' entries. -/
theorem defs_eq : Cert.Qkv.defs (F := F) = Cert.QkvIdeal.defs (F := F) :=
  congrArg (Pipeline.defs Cert.QkvIdeal.pcfgs) defs0_eq

/-- The main functions are the same. -/
theorem main_eq : Cert.Qkv.main (F := F) = Cert.QkvIdeal.main (F := F) := rfl

/-- The program terminates without fault, leaves its arguments unchanged and every counter at zero. -/
theorem frame : Cert.quiescent_Qkv := by
  intro m ρ _
  rw [defs_eq, main_eq]
  exact Cert.QkvIdeal.Gen.frame (F := Bits) m ρ

end Cert.QkvFrame

end
-- ==== Proof.KvSpec.lean ====
/-
  Quantising the keys and values over the extended reals: what the reference computes of one column (a token), entry by
  entry, and that the kernel's shortcuts (a reciprocal, a folded constant, a repaired sign, half-sized codes) give the same.
-/
module

public import proofs.«01_k».proof.Proof.Fp4

@[expose] public section

noncomputable section

namespace Cert.KvSpec

open Idealize.ShloMosaic Cert.Fp4

/-- The largest of finitely many numbers, from minus infinity up. -/
def top {n : ℕ} (g : Fin n → EReal) : EReal := Finset.fold max (Ideal.ofBits FTy.f32 4286578688#32) g Finset.univ

/-- The tensor scale of an array whose largest magnitude is the largest entry of `g`. -/
def tscale {n : ℕ} (g : Fin n → EReal) : EReal :=
  if 0 < top g then Ideal.div (top g) (Ideal.ofBits FTy.f32 1160249344#32) else 1

/-- The scale of a block of sixteen entries. -/
def bscale (T : EReal) (x : Fin 16 → EReal) : EReal :=
  min (Ideal.ofBits FTy.f32 1138753536#32)
    (max 0 (Ideal.div (top fun r => FloatOps.absf (F := Ideal) (φ := .f32) (x r)) T * ((4097 / 24576 : ℝ) : EReal)))

/-- What an entry is divided by. -/
def eff (S T : EReal) : EReal := if S = 0 then 1 else S * T

/-- The entry in units of its block's scale, limited to the largest code. -/
def unit (S T x : EReal) : EReal :=
  min (Ideal.ofBits FTy.f32 1086324736#32) (max (Ideal.ofBits FTy.f32 3233808384#32) (Ideal.div x (eff S T)))

/-- The code of a magnitude: how many of the seven rounding thresholds it passes. -/
def magn (y : EReal) : BitVec 32 :=
  IntOp.addi (IntOp.addi (IntOp.addi (IntOp.addi (IntOp.addi (IntOp.addi
    (BitVec.setWidth 32 (BitVec.ofBool (decide (Ideal.ofBits FTy.f32 1048576000#32 < FloatOps.absf (F := Ideal) (φ := .f32) y))))
    (BitVec.setWidth 32 (BitVec.ofBool (decide (Ideal.ofBits FTy.f32 1061158912#32 ≤ FloatOps.absf (F := Ideal) (φ := .f32) y)))))
    (BitVec.setWidth 32 (BitVec.ofBool (decide (Ideal.ofBits FTy.f32 1067450368#32 < FloatOps.absf (F := Ideal) (φ := .f32) y)))))
    (BitVec.setWidth 32 (BitVec.ofBool (decide (Ideal.ofBits FTy.f32 1071644672#32 ≤ FloatOps.absf (F := Ideal) (φ := .f32) y)))))
    (BitVec.setWidth 32 (BitVec.ofBool (decide (Ideal.ofBits FTy.f32 1075838976#32 < FloatOps.absf (F := Ideal) (φ := .f32) y)))))
    (BitVec.setWidth 32 (BitVec.ofBool (decide (Ideal.ofBits FTy.f32 1080033280#32 ≤ FloatOps.absf (F := Ideal) (φ := .f32) y)))))
    (BitVec.setWidth 32 (BitVec.ofBool (decide (Ideal.ofBits FTy.f32 1084227584#32 < FloatOps.absf (F := Ideal) (φ := .f32) y))))

/-- The code the kernel forms: the sign bit of every negative number, a zero code among them. -/
def codeK (y : EReal) : BitVec 32 :=
  IntOp.addi (magn y) (IntOp.muli (BitVec.setWidth 32 (BitVec.ofBool (decide (y < 0)))) 8#32)

/-- The code the reference forms: no sign on a zero code. -/
def codeR (y : EReal) : BitVec 32 :=
  IntOp.addi (magn y) (IntOp.muli (BitVec.setWidth 32 (IntOp.andi (BitVec.ofBool (decide (y < 0)))
    (IntOp.cmpi CmpIPredicate.sgt (magn y) 0#32))) 8#32)

/-- Two codes in a byte, the first low. -/
def pack (c d : BitVec 32) : BitVec 8 := BitVec.setWidth 8 (IntOp.ori c (IntOp.shli ArithUnit.vector d 4#32))

/-- The kernel's repair of a byte: the sign bit of a field stays only where another bit of the field is set. -/
def fix (b : BitVec 8) : BitVec 8 := b &&& ((((b ||| b >>> 1 ||| b >>> 2) &&& 0x11#8) <<< 3) ||| 0x77#8)

/-- A magnitude's code is below eight. -/
theorem magn_cases (y : EReal) : ∃ n : Fin 8, magn y = BitVec.ofNat 32 n := by
  have h : ∀ a b c d e f g : Bool, ∃ n : Fin 8,
      IntOp.addi (IntOp.addi (IntOp.addi (IntOp.addi (IntOp.addi (IntOp.addi (BitVec.setWidth 32 (BitVec.ofBool a))
        (BitVec.setWidth 32 (BitVec.ofBool b))) (BitVec.setWidth 32 (BitVec.ofBool c))) (BitVec.setWidth 32 (BitVec.ofBool d)))
        (BitVec.setWidth 32 (BitVec.ofBool e))) (BitVec.setWidth 32 (BitVec.ofBool f))) (BitVec.setWidth 32 (BitVec.ofBool g))
      = BitVec.ofNat 32 n := by decide +kernel
  exact h _ _ _ _ _ _ _

/-- The repaired byte of the kernel's codes is the byte of the reference's. -/
theorem byte_eq (y z : EReal) : fix (pack (codeK y) (codeK z)) = pack (codeR y) (codeR z) := by
  obtain ⟨n, hn⟩ := magn_cases y
  obtain ⟨k, hk⟩ := magn_cases z
  have h : ∀ (n k : Fin 8) (s t : Bool),
      fix (pack (IntOp.addi (BitVec.ofNat 32 n) (IntOp.muli (BitVec.setWidth 32 (BitVec.ofBool s)) 8#32))
        (IntOp.addi (BitVec.ofNat 32 k) (IntOp.muli (BitVec.setWidth 32 (BitVec.ofBool t)) 8#32)))
      = pack (IntOp.addi (BitVec.ofNat 32 n) (IntOp.muli (BitVec.setWidth 32 (IntOp.andi (BitVec.ofBool s)
          (IntOp.cmpi CmpIPredicate.sgt (BitVec.ofNat 32 n) 0#32))) 8#32))
        (IntOp.addi (BitVec.ofNat 32 k) (IntOp.muli (BitVec.setWidth 32 (IntOp.andi (BitVec.ofBool t)
          (IntOp.cmpi CmpIPredicate.sgt (BitVec.ofNat 32 k) 0#32))) 8#32)) := by decide +kernel
  unfold codeK codeR
  rw [hn, hk]
  exact h n k _ _

/-- The reference's code is one of sixteen; the kernel's is the same, or the negative zero where the reference's is zero. -/
theorem code_cases (y : EReal) : (∃ n : Fin 16, codeR y = BitVec.ofNat 32 n)
    ∧ (codeK y = codeR y ∨ (codeK y = 8#32 ∧ codeR y = 0#32)) := by
  obtain ⟨n, hn⟩ := magn_cases y
  have h : ∀ (n : Fin 8) (s : Bool),
      (∃ k : Fin 16, IntOp.addi (BitVec.ofNat 32 n) (IntOp.muli (BitVec.setWidth 32 (IntOp.andi (BitVec.ofBool s)
          (IntOp.cmpi CmpIPredicate.sgt (BitVec.ofNat 32 n) 0#32))) 8#32) = BitVec.ofNat 32 k)
      ∧ (IntOp.addi (BitVec.ofNat 32 n) (IntOp.muli (BitVec.setWidth 32 (BitVec.ofBool s)) 8#32)
          = IntOp.addi (BitVec.ofNat 32 n) (IntOp.muli (BitVec.setWidth 32 (IntOp.andi (BitVec.ofBool s)
          (IntOp.cmpi CmpIPredicate.sgt (BitVec.ofNat 32 n) 0#32))) 8#32)
        ∨ (IntOp.addi (BitVec.ofNat 32 n) (IntOp.muli (BitVec.setWidth 32 (BitVec.ofBool s)) 8#32) = 8#32
          ∧ IntOp.addi (BitVec.ofNat 32 n) (IntOp.muli (BitVec.setWidth 32 (IntOp.andi (BitVec.ofBool s)
          (IntOp.cmpi CmpIPredicate.sgt (BitVec.ofNat 32 n) 0#32))) 8#32) = 0#32)) := by decide +kernel
  unfold codeK codeR
  rw [hn]
  exact h n _

/-- Negative zero decodes to zero, as zero does. -/
theorem val_negzero : valK 8#32 = valK 0#32 := by
  have e : ∀ f : BitVec 32, mag f = (((IntOp.andi f 7#32).toInt : ℝ) : EReal) := fun _ => rfl
  simp only [valK, absK, e]
  simp [Scalar.select, IntOp.cmpi, IntOp.andi]

/-- The two decodings of an entry agree. -/
theorem value_eq (y S : EReal) : valR (codeR y) * (S * Ideal.ofBits FTy.bf16 16128#16) = valK (codeK y) * S := by
  obtain ⟨⟨n, hn⟩, hk⟩ := code_cases y
  have hb : ∀ n : Fin 16, nib (BitVec.ofNat 8 n) 0 = BitVec.ofNat 32 n := by decide +kernel
  have e : valK (codeK y) = valK (codeR y) := by
    rcases hk with h | ⟨h, h'⟩
    · rw [h]
    · rw [h, h', val_negzero]
  rw [e, hn, ← hb n, weight_eq]

/-- Multiplying by the reciprocal is dividing, by anything but zero. -/
theorem mul_recip (x E : EReal) (h : E ≠ 0) : x * Ideal.div 1 E = Ideal.div x E := by
  rw [Ideal.div, Ideal.div, if_neg h, if_neg h, one_mul]

/-- The constant 2688. -/
theorem c_2688 : Ideal.ofBits FTy.f32 1160249344#32 = ((2688 : ℝ) : EReal) := by
  simp [Ideal.ofBits, Ideal.ieee, -EReal.coe_mul]; norm_num
/-- The constant 448. -/
theorem c_448 : Ideal.ofBits FTy.f32 1138753536#32 = ((448 : ℝ) : EReal) := by
  simp [Ideal.ofBits, Ideal.ieee, -EReal.coe_mul]; norm_num
/-- The constant six. -/
theorem c_six : Ideal.ofBits FTy.f32 1086324736#32 = ((6 : ℝ) : EReal) := by
  simp [Ideal.ofBits, Ideal.ieee, -EReal.coe_mul]; norm_num
/-- The constant 1 + 2⁻¹². -/
theorem c_step : Ideal.ofBits FTy.f32 1065355264#32 = ((4097 / 4096 : ℝ) : EReal) := by
  simp [Ideal.ofBits, Ideal.ieee, -EReal.coe_mul]; norm_num

/-- The reference's factor in two steps: times 1 + 2⁻¹², over six. -/
theorem sixth (a : EReal) : Ideal.div (a * Ideal.ofBits FTy.f32 1065355264#32) (Ideal.ofBits FTy.f32 1086324736#32)
    = a * ((4097 / 24576 : ℝ) : EReal) := by
  rw [c_six, Ideal.div_coe (by norm_num : (6 : ℝ) ≠ 0), c_step, mul_assoc, ← EReal.coe_mul]
  norm_num

/-- The tensor scale is positive. -/
theorem tscale_pos {n : ℕ} (g : Fin n → EReal) : 0 < tscale g := by
  unfold tscale
  split
  · next h =>
    rw [c_2688, Ideal.div_coe (by norm_num : (2688 : ℝ) ≠ 0)]
    exact EReal.mul_pos h (by exact_mod_cast (by norm_num : (0 : ℝ) < 1 / 2688))
  · exact zero_lt_one

/-- A block scale is not negative. -/
theorem bscale_nonneg (T : EReal) (x : Fin 16 → EReal) : 0 ≤ bscale T x := by
  unfold bscale
  refine le_min ?_ (le_max_left _ _)
  rw [c_448]
  exact_mod_cast (by norm_num : (0 : ℝ) ≤ 448)

/-- So nothing is divided by zero. -/
theorem eff_ne {n : ℕ} (g : Fin n → EReal) (x : Fin 16 → EReal) : eff (bscale (tscale g) x) (tscale g) ≠ 0 := by
  unfold eff
  split
  · exact one_ne_zero
  · next h => exact (EReal.mul_pos (lt_of_le_of_ne (bscale_nonneg _ _) (Ne.symm h)) (tscale_pos g)).ne'

/-- One column: block scale `g`, entry `k` in units, its dequantised value and byte `q`. -/
def sC (T : EReal) (col : Fin 1024 → EReal) (g : Fin 64) : EReal := bscale T fun r => col ⟨g * 16 + r, by omega⟩
def yC (T : EReal) (col : Fin 1024 → EReal) (k : Fin 1024) : EReal := unit (sC T col ⟨k / 16, by omega⟩) T (col k)
def dC (T : EReal) (col : Fin 1024 → EReal) (k : Fin 1024) : EReal := valK (codeK (yC T col k)) * sC T col ⟨k / 16, by omega⟩
def cC (T : EReal) (col : Fin 1024 → EReal) (q : Fin 512) : BitVec 8 :=
  pack (codeR (yC T col ⟨q * 2, by omega⟩)) (codeR (yC T col ⟨q * 2 + 1, by omega⟩))

/-- The token whose entries land in ring slot `j` of a batch: the last 128 tokens, turned by the context length. -/
def rpos (x : BitVec 32) (j : ℕ) : Fin 128 := ⟨(j + 128 - x.toNat % 128) % 128, Nat.mod_lt _ (by norm_num)⟩

/-- The arrays of the call, of the largest magnitudes `M`, the values `X` and the context lengths `C`. -/
def tS (M : Vec Ideal ⟨2, ![8, 128]⟩ .f32) : EReal := tscale fun l => M (ix2 0 l)
def col {N : ℕ} (X : Vec Ideal ⟨2, ![1024, N]⟩ .f32) (j : Fin N) (k : Fin 1024) : EReal := X (ix2 k j)
def deq (M : Vec Ideal ⟨2, ![8, 128]⟩ .f32) (X : Vec Ideal ⟨2, ![1024, 1920]⟩ .f32) : Vec Ideal ⟨2, ![1024, 1920]⟩ .bf16 :=
  fun i => dC (tS M) (col X (i 1)) (i 0)
def codes (M : Vec Ideal ⟨2, ![8, 128]⟩ .f32) (X : Vec Ideal ⟨2, ![1024, 1920]⟩ .f32) : Vec Ideal ⟨2, ![1920, 512]⟩ .i8 :=
  fun i => cC (tS M) (col X (i 0)) (i 1)
def scales (M : Vec Ideal ⟨2, ![8, 128]⟩ .f32) (X : Vec Ideal ⟨2, ![1024, 1920]⟩ .f32) : Vec Ideal ⟨2, ![1920, 64]⟩ .fp8e4m3 :=
  fun i => sC (tS M) (col X (i 0)) (i 1)
def tens (M : Vec Ideal ⟨2, ![8, 128]⟩ .f32) : Vec Ideal ⟨2, ![1, 1]⟩ .f32 := fun _ => tS M
/-- The token of ring row `r`. -/
def tok (C : Vec Ideal ⟨1, ![3]⟩ .i32) (r : Fin 384) : Fin 1920 :=
  ⟨640 * ((r : ℕ) / 128) + 512 + (rpos (C (ix1 (⟨(r : ℕ) / 128, by omega⟩ : Fin 3))) ((r : ℕ) % 128) : ℕ), by
    have := (rpos (C (ix1 (⟨(r : ℕ) / 128, by omega⟩ : Fin 3))) ((r : ℕ) % 128)).isLt
    omega⟩
def ringC (C : Vec Ideal ⟨1, ![3]⟩ .i32) (M : Vec Ideal ⟨2, ![8, 128]⟩ .f32) (X : Vec Ideal ⟨2, ![1024, 1920]⟩ .f32) :
    Vec Ideal ⟨2, ![384, 512]⟩ .i8 := fun i => cC (tS M) (col X (tok C (i 0))) (i 1)
def ringS (C : Vec Ideal ⟨1, ![3]⟩ .i32) (M : Vec Ideal ⟨2, ![8, 128]⟩ .f32) (X : Vec Ideal ⟨2, ![1024, 1920]⟩ .f32) :
    Vec Ideal ⟨2, ![384, 64]⟩ .fp8e4m3 := fun i => sC (tS M) (col X (tok C (i 0))) (i 1)

end Cert.KvSpec
end
-- ==== Proof.KvBits.lean ====
/-
  Bytes and words: four rows of bytes read as one row of 32-bit words and back, with the repair of the zero codes' signs or
  a turn of the columns in between, byte by byte; and remainders by 128.
-/
module

public import proofs.«01_k».proof.Proof.KvSpec
public import Idealize.ShloMosaic.Lib.BitcastFour
public import Idealize.ShloMosaic.Lib.Pointwise

@[expose] public section

noncomputable section

namespace Cert.KvBits

open Idealize.ShloMosaic Cert.KvSpec

/-- Bytes read as words: bit `q` of the word at row `a` is bit `q mod 8` of the byte at row `4 a + q / 8`. -/
theorem words_getLsbD {R r n : ℕ} (x : (⟨2, ![R, n]⟩ : Shape).Idx → BitVec 8)
    (h : (⟨2, ![R, n]⟩ : Shape).Bitcasts 8 ⟨2, ![r, n]⟩ 32) (a : Fin r) (l : Fin n) (q : ℕ) (hq : q < 32) (p : Fin R)
    (hp : (p : ℕ) = 4 * a + q / 8) :
    (bitcast ⟨2, ![r, n]⟩ 32 x h (ix2 a l)).getLsbD q = (x (ix2 p l)).getLsbD (q % 8) :=
  bitcast_8_32_getLsbD_ix2 x h a l q hq p hp

/-- Words read as bytes: bit `q` of the byte at row `p` is bit `8 (p mod 4) + q` of the word at row `p / 4`. -/
theorem bytes_getLsbD {R r n : ℕ} (w : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : (a : ℕ) = p / 4) :
    (bitcast ⟨2, ![R, n]⟩ 8 w h (ix2 p l)).getLsbD q = (w (ix2 a l)).getLsbD (8 * ((p : ℕ) % 4) + q) := by
  rw [bitcast_getLsbD w h _ q hq (by decide)]
  have e : (⟨2, ![R, n]⟩ : Shape).row (ix2 p l) = (p : ℕ) := rfl
  simp only [e]
  have e1 : ((p : ℕ) * 8 + q) % 32 = 8 * ((p : ℕ) % 4) + q := by omega
  rw [e1]
  congr 2
  funext c
  match c with
  | ⟨0, _⟩ => exact Fin.ext ((h.srcIdx_row _ _ _ ⟨0, Nat.zero_lt_two⟩ rfl).trans (by show ((p : ℕ) * 8 + q) / 32 = (a : ℕ); omega))
  | ⟨1, _⟩ => exact Fin.ext (h.srcIdx_other _ _ _ ⟨1, Nat.one_lt_two⟩ (by show ¬ 1 + 2 = 2; omega))

/-- Bytes to words and back, the words taken from column `σ l`: the bytes of column `σ l`. -/
theorem bytes_turn {R r n : ℕ} (b : (⟨2, ![R, n]⟩ : Shape).Idx → BitVec 8) (w : (⟨2, ![r, n]⟩ : Shape).Idx → BitVec 32)
    (h : (⟨2, ![R, n]⟩ : Shape).Bitcasts 8 ⟨2, ![r, n]⟩ 32) (h' : (⟨2, ![r, n]⟩ : Shape).Bitcasts 32 ⟨2, ![R, n]⟩ 8)
    (p : Fin R) (l s : Fin n) (hR : R = 4 * r) (hw : ∀ a : Fin r, w (ix2 a l) = bitcast ⟨2, ![r, n]⟩ 32 b h (ix2 a s)) :
    bitcast ⟨2, ![R, n]⟩ 8 w h' (ix2 p l) = b (ix2 p s) := by
  have hp := p.isLt
  apply BitVec.eq_of_getLsbD_eq
  intro q hq
  rw [bytes_getLsbD w h' p l q hq ⟨(p : ℕ) / 4, by omega⟩ rfl, hw,
    words_getLsbD b h _ s _ (by omega) p (by show (p : ℕ) = 4 * ((p : ℕ) / 4) + (8 * ((p : ℕ) % 4) + q) / 8; omega)]
  congr 1
  omega

/-- The repair on a word. -/
def fixW (w : BitVec 32) : BitVec 32 :=
  IntOp.andi w (IntOp.ori (IntOp.shli ArithUnit.vector (IntOp.andi (IntOp.ori (IntOp.ori w (IntOp.shrsi ArithUnit.vector w 1#32))
    (IntOp.shrsi ArithUnit.vector w 2#32)) 286331153#32) 3#32) 2004318071#32)

/-- The repair of a word, at a bit: a sign bit stays where one of the three bits below it is set, the others stay. -/
theorem fixW_bit (w : BitVec 32) (m q : ℕ) (hm : m < 4) (hq : q < 8) :
    (fixW w).getLsbD (8 * m + q) = (w.getLsbD (8 * m + q) && (if q % 4 = 3 then
      (w.getLsbD (8 * m + q - 3) || w.getLsbD (8 * m + q - 2) || w.getLsbD (8 * m + q - 1)) else true)) := by
  unfold fixW IntOp.andi IntOp.ori IntOp.shli IntOp.shrsi
  interval_cases m <;> interval_cases q <;> simp [BitVec.getElem_sshiftRight]

/-- The repair of a byte, at a bit. -/
theorem fix_bit (b : BitVec 8) (q : ℕ) (hq : q < 8) :
    (fix b).getLsbD q = (b.getLsbD q && (if q % 4 = 3 then (b.getLsbD (q - 3) || b.getLsbD (q - 2) || b.getLsbD (q - 1)) else true)) := by
  unfold fix
  interval_cases q <;> simp

/-- Bytes to words, repaired, and back: the repaired bytes. -/
theorem bytes_fix {R r n : ℕ} (b : (⟨2, ![R, n]⟩ : Shape).Idx → BitVec 8) (w : (⟨2, ![r, n]⟩ : Shape).Idx → BitVec 32)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (hR : R = 4 * r) (hw : ∀ a : Fin r, w (ix2 a l) = fixW (bitcast ⟨2, ![r, n]⟩ 32 b h (ix2 a l))) :
    bitcast ⟨2, ![R, n]⟩ 8 w h' (ix2 p l) = fix (b (ix2 p l)) := by
  have hp := p.isLt
  have hb : ∀ q, q < 8 → (bitcast ⟨2, ![r, n]⟩ 32 b h (ix2 ⟨(p : ℕ) / 4, by omega⟩ l)).getLsbD (8 * ((p : ℕ) % 4) + q)
      = (b (ix2 p l)).getLsbD q := fun q hq => by
    rw [words_getLsbD b h _ l _ (by omega) p (by show (p : ℕ) = 4 * ((p : ℕ) / 4) + (8 * ((p : ℕ) % 4) + q) / 8; omega)]
    congr 1
    omega
  apply BitVec.eq_of_getLsbD_eq
  intro q hq
  rw [bytes_getLsbD w h' p l q hq ⟨(p : ℕ) / 4, by omega⟩ rfl, hw, fixW_bit _ _ _ (by omega) hq, fix_bit _ _ hq, hb q hq]
  by_cases h3 : q % 4 = 3
  · rw [if_pos h3, if_pos h3, show 8 * ((p : ℕ) % 4) + q - 3 = 8 * ((p : ℕ) % 4) + (q - 3) by omega,
      show 8 * ((p : ℕ) % 4) + q - 2 = 8 * ((p : ℕ) % 4) + (q - 2) by omega,
      show 8 * ((p : ℕ) % 4) + q - 1 = 8 * ((p : ℕ) % 4) + (q - 1) by omega, hb _ (by omega), hb _ (by omega), hb _ (by omega)]
  · rw [if_neg h3, if_neg h3]

/-- The signed remainder by 128 keeps the residue. -/
theorem srem_mod (x : BitVec 32) : (BitVec.srem x 128#32).toNat % 128 = x.toNat % 128 := by
  have h := BitVec.toInt_srem x 128#32
  have e : (128#32 : BitVec 32).toInt = 128 := by decide
  rw [e] at h
  have h1 := Int.tmod_add_mul_tdiv x.toInt 128
  have a := BitVec.toInt_eq_toNat_cond (x := BitVec.srem x 128#32)
  have b := BitVec.toInt_eq_toNat_cond (x := x)
  split at a <;> split at b <;> omega

/-- The kernel's rotation amount keeps the residue. -/
theorem rem_mod (u : ArithUnit) (x : BitVec 32) : (IntOp.remsi u x 128#32).toNat % 128 = x.toNat % 128 := by
  unfold IntOp.remsi
  rw [if_neg (by simp [IntOp.SDivCorner])]
  exact srem_mod x

/-- The reference's ring index, as it computes it: the remainder by 128 of the slot less the context length less 512, made
    not negative, and read as an index from the end if it were negative. -/
def ringIx (j x : BitVec 32) : BitVec 32 :=
  let D : BitVec 32 := Scalar.select (Scalar.cmpi CmpIPredicate.eq 128#32 0#32) 1#32 128#32
  let r := IntOp.remsi ArithUnit.vector (IntOp.addi (IntOp.subi (IntOp.subi j x) 640#32) 128#32) D
  let v := Scalar.select (IntOp.andi (IntOp.xori (IntOp.cmpi CmpIPredicate.slt r 0#32) (Scalar.cmpi CmpIPredicate.slt D 0#32))
    (IntOp.cmpi CmpIPredicate.ne r 0#32)) (IntOp.addi r D) r
  Scalar.select (IntOp.cmpi CmpIPredicate.slt v 0#32) (IntOp.addi v 128#32) v

/-- Adding 128 keeps the residue. -/
theorem add_mod (x : BitVec 32) : (IntOp.addi x 128#32).toNat % 128 = x.toNat % 128 := by
  have := x.isLt
  show (x + 128#32).toNat % 128 = _
  rw [BitVec.toNat_add]
  simp only [BitVec.toNat_ofNat]
  omega

/-- The reference's ring index is the turned slot. -/
theorem ringIx_mod (j : ℕ) (hj : j < 128) (x : BitVec 32) : (ringIx (BitVec.ofNat 32 j) x).toNat % 128 = (rpos x j : ℕ) := by
  have sel : ∀ (c : BitVec 1) (a b : BitVec 32), a.toNat % 128 = b.toNat % 128 → (Scalar.select c a b).toNat % 128 = b.toNat % 128 := by
    intro c a b h
    unfold Scalar.select
    split
    · exact h
    · rfl
  have D : (Scalar.select (Scalar.cmpi CmpIPredicate.eq 128#32 0#32) 1#32 128#32 : BitVec 32) = 128#32 := by decide
  unfold ringIx
  simp only [D]
  rw [sel _ _ _ (add_mod _), sel _ _ _ (add_mod _), rem_mod]
  have := x.isLt
  show (BitVec.ofNat 32 j - x - 640#32 + 128#32).toNat % 128 = (j + 128 - x.toNat % 128) % 128
  simp only [BitVec.toNat_add, BitVec.toNat_sub, BitVec.toNat_ofNat]
  omega

/-- The token a rotation by the remainder of the context length brings to slot `j`. -/
theorem rot_pos (x : BitVec 32) (j : ℕ) (h) : (⟨(j + 128 - (Scalar.remsi x 128#32).toNat % 128) % 128, h⟩ : Fin 128) = rpos x j := by
  apply Fin.ext
  show (j + 128 - (IntOp.remsi .scalar x 128#32).toNat % 128) % 128 = _
  rw [rem_mod]
  rfl

end Cert.KvBits
end
-- ==== Proof.KvPay.lean ====
/-
  The quantising kernel over the extended reals: the values one block of 128 tokens gets, entry by entry.
-/
module

public import proofs.«01_k».proof.Proof.Gen.KvIdeal.Skeleton
public import proofs.«01_k».proof.Proof.KvBits
public import Idealize.ShloMosaic.PureOps.IdealRules

@[expose] public section

set_option maxRecDepth 16384

noncomputable section

namespace Cert.KvIdeal.Pay

open Cert.KvIdeal Cert.KvIdeal.Gen Idealize.ShloMosaic Idealize.ShloMosaic.TcCoe Idealize.SL.Sem Idealize.ShloMosaic.Pointwise
open Cert.KvSpec Cert.KvBits

variable (M : Vec Ideal S8x128 .f32) (X : Vec Ideal S1024x128 .f32)

/-- The folded constant, read exactly. -/
theorem named_sixth : (Named.named κ "sixth" 1042986325#32 : Ideal .f32) = ((4097 / 24576 : ℝ) : EReal) :=
  IdealRules.named_const.ideal_named_scalar _ _ _ _ rfl

/-- The tensor scale. -/
theorem t7 (i : S1x1.Idx) : k0_pay7 (F := Ideal) (k0_pay5 M) (k0_pay6 M) i = tS M := by
  idx_vars i
  pointwise [k0_pay7, k0_pay5, k0_pay6, k0_pay4]
  rfl

theorem sel : Scalar.select (k0_pay5 (F := Ideal) M (ix2 0 0)) (k0_pay6 (F := Ideal) M (ix2 0 0)) 1 = tS M := by
  rw [← t7 M (ix2 0 0)]
  pointwise [k0_pay7]

/-- The block scales. -/
theorem s9 (g : Fin 64) (l : Fin 128) : k0_pay9 (F := Ideal) (k0_pay5 M) (k0_pay6 M) X (ix2 g l) = sC (tS M) (col X l) g := by
  pointwise [k0_pay7, k0_pay8, k0_pay9]
  rw [sel, named_sixth]
  rfl

/-- The entries in units of their block's scale. -/
theorem y10 (k : Fin 1024) (l : Fin 128) :
    k0_pay10 (F := Ideal) (k0_pay5 M) (k0_pay6 M) X (ix2 k l) = yC (tS M) (col X l) k := by
  pointwise [k0_pay7, k0_pay8, k0_pay10]
  rw [s9, sel]
  refine Eq.trans ?_ (congrArg (fun z => min (Ideal.ofBits FTy.f32 1086324736#32) (max (Ideal.ofBits FTy.f32 3233808384#32) z))
    (mul_recip (col X l k) _ (eff_ne (fun l => M (ix2 0 l)) (fun r => col X l ⟨((⟨(k : ℕ) / 16, by omega⟩ : Fin 64) : ℕ) * 16 + r, by
      show (k : ℕ) / 16 * 16 + r < 1024
      omega⟩))))
  rfl

/-- The codes, a negative zero's among them. -/
theorem c14 (k : Fin 1024) (l : Fin 128) :
    k0_pay14 (F := Ideal) (k0_pay10 (k0_pay5 M) (k0_pay6 M) X) (k0_pay11 (k0_pay5 M) (k0_pay6 M) X)
      (k0_pay12 (k0_pay5 M) (k0_pay6 M) X) k0_pay13 (ix2 k l) = codeK (yC (tS M) (col X l) k) := by
  pointwise [k0_pay14, k0_pay11, k0_pay12, k0_pay13]
  simp only [y10]
  rfl

/-- The dequantised values. -/
theorem d17 (k : Fin 1024) (l : Fin 128) :
    k0_pay17 (F := Ideal) (k0_pay9 (k0_pay5 M) (k0_pay6 M) X) (k0_pay14 (k0_pay10 (k0_pay5 M) (k0_pay6 M) X)
      (k0_pay11 (k0_pay5 M) (k0_pay6 M) X) (k0_pay12 (k0_pay5 M) (k0_pay6 M) X) k0_pay13) (ix2 k l) = dC (tS M) (col X l) k := by
  pointwise [k0_pay17]
  rw [c14, s9]
  rfl

/-- The words of the packed codes, the zero codes' signs repaired. -/
abbrev wK : IVec S128x128 32 := k0_pay15 (F := Ideal) (k0_pay10 (k0_pay5 M) (k0_pay6 M) X) (k0_pay11 (k0_pay5 M) (k0_pay6 M) X)
  (k0_pay12 (k0_pay5 M) (k0_pay6 M) X) k0_pay13

/-- The packed bytes before the repair. -/
def raw (c : IVec S1024x128 32) : IVec S512x128 8 :=
  trunci 8 (ori (shapeCast S512x128 (extractStridedSlice S512x1x128 ![0, 0, 0] (shapeCast S512x2x128 c shapeCasts_S1024x128_S512x2x128)
      slices_S512x2x128_o0_0_0_S512x1x128) shapeCasts_S512x1x128_S512x128)
    (shli (shapeCast S512x128 (extractStridedSlice S512x1x128 ![0, 1, 0] (shapeCast S512x2x128 c shapeCasts_S1024x128_S512x2x128)
      slices_S512x2x128_o0_1_0_S512x1x128) shapeCasts_S512x1x128_S512x128) (broadcast S512x128 4#32))) natLt_8_32

theorem raw_apply (c : IVec S1024x128 32) (q : Fin 512) (l : Fin 128) :
    raw c (ix2 q l) = pack (c (ix2 ⟨q * 2, by omega⟩ l)) (c (ix2 ⟨q * 2 + 1, by omega⟩ l)) := by
  pointwise [raw, pack]

/-- The words are the packed bytes', repaired. -/
theorem w15 (a b : FVec Ideal S1024x128 .f32) (d : IVec S1024x128 32) (e : FVec Ideal S1024x128 .f32) (i : S128x128.Idx) :
    k0_pay15 (F := Ideal) a b d e i
      = fixW (bitcast S128x128 32 (raw (k0_pay14 (F := Ideal) a b d e)) bitcasts_S512x128_w8_S128x128_w32 i) := by
  unfold k0_pay15 raw fixW
  rfl

/-- The bytes: the reference's codes, two to a byte. -/
theorem b16 (q : Fin 512) (l : Fin 128) : k0_pay16 (wK M X) (ix2 q l) = cC (tS M) (col X l) q := by
  have h := bytes_fix (R := 512) (r := 128) (n := 128) (raw (k0_pay14 (F := Ideal) (k0_pay10 (k0_pay5 M) (k0_pay6 M) X)
    (k0_pay11 (k0_pay5 M) (k0_pay6 M) X) (k0_pay12 (k0_pay5 M) (k0_pay6 M) X) k0_pay13)) (wK M X)
    bitcasts_S512x128_w8_S128x128_w32 bitcasts_S128x128_w32_S512x128_w8 q l (by norm_num) (fun a => w15 _ _ _ _ (ix2 a l))
  rw [raw_apply, c14, c14] at h
  unfold k0_pay16
  exact h.trans (byte_eq _ _)

theorem b18 (l : Fin 128) (q : Fin 512) : k0_pay18 (wK M X) (ix2 l q) = cC (tS M) (col X l) q := by
  refine Eq.trans ?_ (b16 M X q l)
  pointwise [k0_pay18]

theorem s19 (l : Fin 128) (g : Fin 64) :
    k0_pay19 (F := Ideal) (k0_pay9 (k0_pay5 M) (k0_pay6 M) X) (ix2 l g) = sC (tS M) (col X l) g := by
  refine Eq.trans ?_ (s9 M X g l)
  pointwise [k0_pay19]

/-- The ring's bytes: the last tokens' bytes, turned. -/
theorem r20 (x : BitVec 32) (j : Fin 128) (q : Fin 512) :
    k0_pay20 (Scalar.remsi x 128#32) (wK M X) (ix2 j q) = cC (tS M) (col X (rpos x j)) q := by
  refine Eq.trans ?_ (b16 M X q (rpos x j))
  pointwise [k0_pay20]
  refine bytes_turn (k0_pay16 (wK M X)) _ bitcasts_S512x128_w8_S128x128_w32 _ q j (rpos x j) rfl fun a => ?_
  rw [← rot_pos x j (Nat.mod_lt _ (by norm_num))]
  pointwise

/-- The ring's block scales. -/
theorem r21 (x : BitVec 32) (j : Fin 128) (g : Fin 64) :
    k0_pay21 (F := Ideal) (Scalar.remsi x 128#32) (k0_pay9 (k0_pay5 M) (k0_pay6 M) X) (ix2 j g) = sC (tS M) (col X (rpos x j)) g := by
  refine Eq.trans ?_ (s9 M X g (rpos x j))
  rw [← rot_pos x j (Nat.mod_lt _ (by norm_num))]
  pointwise [k0_pay21]

/-! The values' spellings are the keys'. -/

theorem v22 : k0_pay22 (F := Ideal) M = k0_pay7 (k0_pay5 M) (k0_pay6 M) := rfl
theorem v24 : k0_pay24 (F := Ideal) M X = k0_pay9 (k0_pay5 M) (k0_pay6 M) X := rfl
theorem v25 : k0_pay25 (F := Ideal) M X = k0_pay10 (k0_pay5 M) (k0_pay6 M) X := rfl
theorem v26 : k0_pay26 (F := Ideal) M X = k0_pay11 (k0_pay5 M) (k0_pay6 M) X := rfl
theorem v27 : k0_pay27 (F := Ideal) (k0_pay10 (k0_pay5 M) (k0_pay6 M) X) (k0_pay11 (k0_pay5 M) (k0_pay6 M) X)
    = k0_pay14 (k0_pay10 (k0_pay5 M) (k0_pay6 M) X) (k0_pay11 (k0_pay5 M) (k0_pay6 M) X) (k0_pay12 (k0_pay5 M) (k0_pay6 M) X) k0_pay13 := rfl
theorem v31 : k0_pay31 (k0_pay28 (F := Ideal) (k0_pay10 (k0_pay5 M) (k0_pay6 M) X) (k0_pay11 (k0_pay5 M) (k0_pay6 M) X))
    (k0_pay29 (F := Ideal) (k0_pay10 (k0_pay5 M) (k0_pay6 M) X) (k0_pay11 (k0_pay5 M) (k0_pay6 M) X))
    (k0_pay30 (F := Ideal) (k0_pay10 (k0_pay5 M) (k0_pay6 M) X) (k0_pay11 (k0_pay5 M) (k0_pay6 M) X)) = k0_pay16 (wK M X) := rfl
theorem v33 (a b c : IVec S128x128 32) : k0_pay33 a b c = transpose S128x512 [1, 0] (k0_pay31 a b c) transposes_S512x128_p1_0_S128x512 := rfl
theorem v18 (w : IVec S128x128 32) : k0_pay18 w = transpose S128x512 [1, 0] (k0_pay16 w) transposes_S512x128_p1_0_S128x512 := rfl
theorem v32 (s : FVec Ideal S64x128 .f32) (c : IVec S1024x128 32) : k0_pay32 (F := Ideal) s c = k0_pay17 s c := rfl
theorem v1 (s : FVec Ideal S64x128 .f32) : k0_pay1 (F := Ideal) (k0_pay34 s) = k0_pay19 s := rfl
theorem v2 (x : BitVec 32) (w : IVec S128x128 32) : k0_pay2 x (k0_pay16 w) = k0_pay20 x w := rfl
theorem v3 (x : BitVec 32) (s : FVec Ideal S64x128 .f32) : k0_pay3 (F := Ideal) x s = k0_pay21 x s := rfl

end Cert.KvIdeal.Pay
end
-- ==== Proof.KvKernel.lean ====
/-
  The cache kernel over the extended reals: what one point of the grid leaves in the staging buffers, and that the result
  arrays end holding the arrays `KvSpec` names.
-/
module

public import proofs.«01_k».proof.Proof.Gen.KvIdeal.Value
public import proofs.«01_k».proof.Proof.KvPay
public import Idealize.ShloMosaic.Lib.Pipeline.ValueKit

@[expose] public section

set_option maxRecDepth 16384

noncomputable section

namespace Cert.KvIdeal.Block

open Cert.KvIdeal Cert.KvIdeal.Gen Cert.KvIdeal.Value Idealize.ShloMosaic Idealize.ShloMosaic.TcCoe Idealize.SL.Sem Idealize.ShloMosaic.Pointwise
open Idealize.ShloMosaic.Pipeline (Dat)
open Cert.KvSpec Cert.KvIdeal.Pay

variable (m : (ℓ : Loc nD τ sig) → Buf (Elt Ideal) ℓ) (ρ : Dev nD → PrngReg)

/-- The arguments the call reads. -/
abbrev cM (c : Dev nD) : Vec Ideal S3 .i32 := m ((c : Thread nD τ).loc main_arg0)
abbrev kX (c : Dev nD) : Vec Ideal S1024x1920 .f32 := m ((c : Thread nD τ).loc main_arg1)
abbrev vX (c : Dev nD) : Vec Ideal S1024x1920 .f32 := m ((c : Thread nD τ).loc main_arg2)
abbrev kM (c : Dev nD) : Vec Ideal S8x128 .f32 := m ((c : Thread nD τ).loc main_arg3)
abbrev vM (c : Dev nD) : Vec Ideal S8x128 .f32 := m ((c : Thread nD τ).loc main_arg4)

/-- The blocks of tokens point `t` reads. -/
abbrev kB (c : Dev nD) (t : Fin cfg0.N) : Vec Ideal S1024x128 .f32 := iblk m c 1 t
abbrev vB (c : Dev nD) (t : Fin cfg0.N) : Vec Ideal S1024x128 .f32 := iblk m c 2 t

/-- The index maps of the inputs. -/
theorem idx : ∀ t : Fin cfg0.N, win0_0.index t = ![0] ∧ win0_1.index t = ![0, t.val] ∧ win0_2.index t = ![0, t.val]
    ∧ win0_3.index t = ![0, 0] ∧ win0_4.index t = ![0, 0] :=
  (by decide +kernel : ∀ t : Fin grid0.N, win0_0.index t = ![0] ∧ win0_1.index t = ![0, t.val] ∧ win0_2.index t = ![0, t.val]
    ∧ win0_3.index t = ![0, 0] ∧ win0_4.index t = ![0, 0])

/-- The index maps of the results: a block of tokens per point, the tensor scales stay, the rings move once a batch. -/
theorem idxO : ∀ t : Fin cfg0.N, win0_5.index t = ![0, t.val] ∧ win0_6.index t = ![0, t.val] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![t.val / 5, 0] ∧ win0_14.index t = ![t.val / 5, 0]
    ∧ win0_15.index t = ![t.val / 5, 0] ∧ win0_16.index t = ![t.val / 5, 0] :=
  (by decide +kernel : ∀ t : Fin grid0.N, win0_5.index t = ![0, t.val] ∧ win0_6.index t = ![0, t.val] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![t.val / 5, 0] ∧ win0_14.index t = ![t.val / 5, 0]
    ∧ win0_15.index t = ![t.val / 5, 0] ∧ win0_16.index t = ![t.val / 5, 0])

/-- The rings are written back at the last block of a batch. -/
theorem ring_last : ∀ t : Fin cfg0.N, (win0_13.flush t = true → t.val % 5 = 4) ∧ (win0_14.flush t = true → t.val % 5 = 4)
    ∧ (win0_15.flush t = true → t.val % 5 = 4) ∧ (win0_16.flush t = true → t.val % 5 = 4) :=
  (by decide +kernel : ∀ t : Fin grid0.N, (win0_13.flush t = true → t.val % 5 = 4) ∧ (win0_14.flush t = true → t.val % 5 = 4)
    ∧ (win0_15.flush t = true → t.val % 5 = 4) ∧ (win0_16.flush t = true → t.val % 5 = 4))

/-- The context length a point loads is its batch's. -/
theorem off1 : ∀ t : Fin cfg0.N, k0_off1 (grid0.coords t) = ![t.val / 5] :=
  (by decide +kernel : ∀ t : Fin grid0.N, k0_off1 (grid0.coords t) = ![t.val / 5])
theorem ctx_lt (t : Fin cfg0.N) : t.val / 5 < 3 := by
  have h : t.val < 15 := t.isLt
  omega

/-- The whole-array blocks are the arguments. -/
theorem blk0 (c : Dev nD) (t : Fin cfg0.N) : iblk m c 0 t = cM m c := by blk_ext! [iblk, V, (idx t).1]
theorem blk3 (c : Dev nD) (t : Fin cfg0.N) : iblk m c 3 t = kM m c := by blk_ext! [iblk, V, (idx t).2.2.2.1]
theorem blk4 (c : Dev nD) (t : Fin cfg0.N) : iblk m c 4 t = vM m c := by blk_ext! [iblk, V, (idx t).2.2.2.2]

/-- The context length point `t` loads. -/
theorem ctx_ld (C : Vec Ideal S3 .i32) (t : Fin cfg0.N) (h) (p) :
    View.ld C (Rect.unit (s := S3) (k0_off1 (grid0.coords t)) ![1] h) (Shape.Idx.first p) = C (ix1 ⟨t.val / 5, ctx_lt t⟩) :=
  View.ld_unit_apply_of C _ _ h _ (ix1 ⟨t.val / 5, ctx_lt t⟩) fun a => by
    obtain rfl : a = 0 := Subsingleton.elim _ _
    show (t.val / 5 : ℕ) = k0_off1 (grid0.coords t) 0 + 0
    rw [congrFun (off1 t) 0]
    rfl

/-- A block's column is the array's. -/
theorem col_k (c : Dev nD) (t : Fin cfg0.N) (l : Fin 128) (j : Fin 1920) (h : (j : ℕ) = t.val * 128 + (l : ℕ)) :
    col (kB m c t) l = col (kX m c) j := by
  funext k
  obtain ⟨-, i1, -⟩ := idx t
  unfold col
  blk_ext [iblk, V, i1]
theorem col_v (c : Dev nD) (t : Fin cfg0.N) (l : Fin 128) (j : Fin 1920) (h : (j : ℕ) = t.val * 128 + (l : ℕ)) :
    col (vB m c t) l = col (vX m c) j := by
  funext k
  obtain ⟨-, -, i2, -⟩ := idx t
  unfold col
  blk_ext [iblk, V, i2]

/-! What point `t` leaves in each staging buffer, at an index. -/

theorem o5 (c : Dev nD) (t : Fin cfg0.N) (y : S1024x128.Idx) :
    (outsAt0 m c t.val t.isLt).1 y = dC (tS (kM m c)) (col (kB m c t) (y 1)) (y 0) := by
  idx_vars y
  by_cases h : t.val % 5 = 4
  · rw [outsAt0_B m c t h h]
    dsimp only
    unfold out0_B_5
    frame_out
    rw [blk3]
    exact d17 _ _ _ _
  · rw [outsAt0_A m c t h h]
    dsimp only
    unfold out0_A_5
    frame_out
    rw [blk3]
    exact d17 _ _ _ _

theorem o6 (c : Dev nD) (t : Fin cfg0.N) (y : S1024x128.Idx) :
    (outsAt0 m c t.val t.isLt).2.1 y = dC (tS (vM m c)) (col (vB m c t) (y 1)) (y 0) := by
  idx_vars y
  by_cases h : t.val % 5 = 4
  · rw [outsAt0_B m c t h h]
    dsimp only
    unfold out0_B_6
    frame_out
    rw [v24, v25, v26, v27, v32]
    rw [blk4]
    exact d17 _ _ _ _
  · rw [outsAt0_A m c t h h]
    dsimp only
    unfold out0_A_6
    frame_out
    rw [v24, v25, v26, v27, v32]
    rw [blk4]
    exact d17 _ _ _ _

theorem o7 (c : Dev nD) (t : Fin cfg0.N) (y : S128x512.Idx) :
    (outsAt0 m c t.val t.isLt).2.2.1 y = cC (tS (kM m c)) (col (kB m c t) (y 0)) (y 1) := by
  idx_vars y
  by_cases h : t.val % 5 = 4
  · rw [outsAt0_B m c t h h]
    dsimp only
    unfold out0_B_7
    frame_out
    rw [blk3]
    exact b18 _ _ _ _
  · rw [outsAt0_A m c t h h]
    dsimp only
    unfold out0_A_7
    frame_out
    rw [blk3]
    exact b18 _ _ _ _

theorem o8 (c : Dev nD) (t : Fin cfg0.N) (y : S128x64.Idx) :
    (outsAt0 m c t.val t.isLt).2.2.2.1 y = sC (tS (kM m c)) (col (kB m c t) (y 0)) (y 1) := by
  idx_vars y
  by_cases h : t.val % 5 = 4
  · rw [outsAt0_B m c t h h]
    dsimp only
    unfold out0_B_8
    frame_out
    rw [blk3]
    exact s19 _ _ _ _
  · rw [outsAt0_A m c t h h]
    dsimp only
    unfold out0_A_8
    frame_out
    rw [blk3]
    exact s19 _ _ _ _

theorem o9 (c : Dev nD) (t : Fin cfg0.N) (y : S128x512.Idx) :
    (outsAt0 m c t.val t.isLt).2.2.2.2.1 y = cC (tS (vM m c)) (col (vB m c t) (y 0)) (y 1) := by
  idx_vars y
  by_cases h : t.val % 5 = 4
  · rw [outsAt0_B m c t h h]
    dsimp only
    unfold out0_B_9
    frame_out
    rw [v33, v25, v26, v31, ← v18]
    rw [blk4]
    exact b18 _ _ _ _
  · rw [outsAt0_A m c t h h]
    dsimp only
    unfold out0_A_9
    frame_out
    rw [v33, v25, v26, v31, ← v18]
    rw [blk4]
    exact b18 _ _ _ _

theorem o10 (c : Dev nD) (t : Fin cfg0.N) (y : S128x64.Idx) :
    (outsAt0 m c t.val t.isLt).2.2.2.2.2.1 y = sC (tS (vM m c)) (col (vB m c t) (y 0)) (y 1) := by
  idx_vars y
  by_cases h : t.val % 5 = 4
  · rw [outsAt0_B m c t h h]
    dsimp only
    unfold out0_B_10
    frame_out
    rw [v24, v1]
    rw [blk4]
    exact s19 _ _ _ _
  · rw [outsAt0_A m c t h h]
    dsimp only
    unfold out0_A_10
    frame_out
    rw [v24, v1]
    rw [blk4]
    exact s19 _ _ _ _

theorem o11 (c : Dev nD) (t : Fin cfg0.N) (y : S1x1.Idx) :
    (outsAt0 m c t.val t.isLt).2.2.2.2.2.2.1 y = tS (kM m c) := by
  idx_vars y
  by_cases h : t.val % 5 = 4
  · rw [outsAt0_B m c t h h]
    dsimp only
    unfold out0_B_11
    frame_out
    rw [blk3]
    exact t7 _ _
  · rw [outsAt0_A m c t h h]
    dsimp only
    unfold out0_A_11
    frame_out
    rw [blk3]
    exact t7 _ _

theorem o12 (c : Dev nD) (t : Fin cfg0.N) (y : S1x1.Idx) :
    (outsAt0 m c t.val t.isLt).2.2.2.2.2.2.2.1 y = tS (vM m c) := by
  idx_vars y
  by_cases h : t.val % 5 = 4
  · rw [outsAt0_B m c t h h]
    dsimp only
    unfold out0_B_12
    frame_out
    rw [v22]
    rw [blk4]
    exact t7 _ _
  · rw [outsAt0_A m c t h h]
    dsimp only
    unfold out0_A_12
    frame_out
    rw [v22]
    rw [blk4]
    exact t7 _ _

theorem o13 (c : Dev nD) (t : Fin cfg0.N) (y : S128x512.Idx) (h : t.val % 5 = 4) :
    (outsAt0 m c t.val t.isLt).2.2.2.2.2.2.2.2.1 y = cC (tS (kM m c)) (col (kB m c t) (rpos (cM m c (ix1 ⟨t.val / 5, ctx_lt t⟩)) (y 0))) (y 1) := by
  idx_vars y
  rw [outsAt0_B m c t h h]
  dsimp only
  unfold out0_B_13
  frame_out
  rw [blk0, ctx_ld]
  rw [blk3]
  exact r20 _ _ _ _ _

theorem o14 (c : Dev nD) (t : Fin cfg0.N) (y : S128x64.Idx) (h : t.val % 5 = 4) :
    (outsAt0 m c t.val t.isLt).2.2.2.2.2.2.2.2.2.1 y = sC (tS (kM m c)) (col (kB m c t) (rpos (cM m c (ix1 ⟨t.val / 5, ctx_lt t⟩)) (y 0))) (y 1) := by
  idx_vars y
  rw [outsAt0_B m c t h h]
  dsimp only
  unfold out0_B_14
  frame_out
  rw [blk0, ctx_ld]
  rw [blk3]
  exact r21 _ _ _ _ _

theorem o15 (c : Dev nD) (t : Fin cfg0.N) (y : S128x512.Idx) (h : t.val % 5 = 4) :
    (outsAt0 m c t.val t.isLt).2.2.2.2.2.2.2.2.2.2.1 y = cC (tS (vM m c)) (col (vB m c t) (rpos (cM m c (ix1 ⟨t.val / 5, ctx_lt t⟩)) (y 0))) (y 1) := by
  idx_vars y
  rw [outsAt0_B m c t h h]
  dsimp only
  unfold out0_B_15
  frame_out
  rw [v25, v26, v31, v2]
  rw [blk0, ctx_ld]
  rw [blk4]
  exact r20 _ _ _ _ _

theorem o16 (c : Dev nD) (t : Fin cfg0.N) (y : S128x64.Idx) (h : t.val % 5 = 4) :
    (outsAt0 m c t.val t.isLt).2.2.2.2.2.2.2.2.2.2.2 y = sC (tS (vM m c)) (col (vB m c t) (rpos (cM m c (ix1 ⟨t.val / 5, ctx_lt t⟩)) (y 0))) (y 1) := by
  idx_vars y
  rw [outsAt0_B m c t h h]
  dsimp only
  unfold out0_B_16
  frame_out
  rw [v24, v3]
  rw [blk0, ctx_ld]
  rw [blk4]
  exact r21 _ _ _ _ _

/-- The token a ring row holds, in its batch's last block. -/
theorem tok_val (C : Vec Ideal S3 .i32) (t : Fin cfg0.N) (j : Fin 128) (e : Fin 384) (he : (e : ℕ) = t.val / 5 * 128 + (j : ℕ)) (h : t.val % 5 = 4) :
    (tok C e : ℕ) = t.val * 128 + (rpos (C (ix1 ⟨t.val / 5, ctx_lt t⟩)) j : ℕ) := by
  have e1 : (⟨(e : ℕ) / 128, by omega⟩ : Fin 3) = ⟨t.val / 5, ctx_lt t⟩ := Fin.ext (show (e : ℕ) / 128 = t.val / 5 by omega)
  have e2 : (e : ℕ) % 128 = (j : ℕ) := by omega
  show 640 * ((e : ℕ) / 128) + 512 + (rpos (C (ix1 (⟨(e : ℕ) / 128, _⟩ : Fin 3))) ((e : ℕ) % 128) : ℕ) = _
  rw [e1, e2]
  omega

/-! The result arrays after the run. -/

theorem final5 (c : Dev nD) : (dats m 0 c).arrAt 5 cfg0.N = deq (kM m c) (kX m c) := by
  refine (dats m 0 c).arrAt_eq_of_covers 5 _ (by decide +kernel) fun t hf y => ?_
  show (dats m 0 c).after 5 t y = _
  rw [after0_5]
  refine (o5 m c t y).trans (congr (congrArg (dC _) (col_k m c t _ ((win0_5.blk t).view.emb y 1) ?_)) (Fin.ext ?_))
  · blk_simp [(idxO t).1]
  · show (y 0).val = ((win0_5.blk t).view.emb y 0).val
    blk_simp [(idxO t).1]

theorem final6 (c : Dev nD) : (dats m 0 c).arrAt 6 cfg0.N = deq (vM m c) (vX m c) := by
  refine (dats m 0 c).arrAt_eq_of_covers 6 _ (by decide +kernel) fun t hf y => ?_
  show (dats m 0 c).after 6 t y = _
  rw [after0_6]
  refine (o6 m c t y).trans (congr (congrArg (dC _) (col_v m c t _ ((win0_6.blk t).view.emb y 1) ?_)) (Fin.ext ?_))
  · blk_simp [(idxO t).2.1]
  · show (y 0).val = ((win0_6.blk t).view.emb y 0).val
    blk_simp [(idxO t).2.1]

theorem final7 (c : Dev nD) : (dats m 0 c).arrAt 7 cfg0.N = codes (kM m c) (kX m c) := by
  refine (dats m 0 c).arrAt_eq_of_covers 7 _ (by decide +kernel) fun t hf y => ?_
  show (dats m 0 c).after 7 t y = _
  rw [after0_7]
  refine (o7 m c t y).trans (congr (congrArg (cC _) (col_k m c t _ ((win0_7.blk t).view.emb y 0) ?_)) (Fin.ext ?_))
  · blk_simp [(idxO t).2.2.1]
  · show (y 1).val = ((win0_7.blk t).view.emb y 1).val
    blk_simp [(idxO t).2.2.1]

theorem final8 (c : Dev nD) : (dats m 0 c).arrAt 8 cfg0.N = scales (kM m c) (kX m c) := by
  refine (dats m 0 c).arrAt_eq_of_covers 8 _ (by decide +kernel) fun t hf y => ?_
  show (dats m 0 c).after 8 t y = _
  rw [after0_8]
  refine (o8 m c t y).trans (congr (congrArg (sC _) (col_k m c t _ ((win0_8.blk t).view.emb y 0) ?_)) (Fin.ext ?_))
  · blk_simp [(idxO t).2.2.2.1]
  · show (y 1).val = ((win0_8.blk t).view.emb y 1).val
    blk_simp [(idxO t).2.2.2.1]

theorem final9 (c : Dev nD) : (dats m 0 c).arrAt 9 cfg0.N = codes (vM m c) (vX m c) := by
  refine (dats m 0 c).arrAt_eq_of_covers 9 _ (by decide +kernel) fun t hf y => ?_
  show (dats m 0 c).after 9 t y = _
  rw [after0_9]
  refine (o9 m c t y).trans (congr (congrArg (cC _) (col_v m c t _ ((win0_9.blk t).view.emb y 0) ?_)) (Fin.ext ?_))
  · blk_simp [(idxO t).2.2.2.2.1]
  · show (y 1).val = ((win0_9.blk t).view.emb y 1).val
    blk_simp [(idxO t).2.2.2.2.1]

theorem final10 (c : Dev nD) : (dats m 0 c).arrAt 10 cfg0.N = scales (vM m c) (vX m c) := by
  refine (dats m 0 c).arrAt_eq_of_covers 10 _ (by decide +kernel) fun t hf y => ?_
  show (dats m 0 c).after 10 t y = _
  rw [after0_10]
  refine (o10 m c t y).trans (congr (congrArg (sC _) (col_v m c t _ ((win0_10.blk t).view.emb y 0) ?_)) (Fin.ext ?_))
  · blk_simp [(idxO t).2.2.2.2.2.1]
  · show (y 1).val = ((win0_10.blk t).view.emb y 1).val
    blk_simp [(idxO t).2.2.2.2.2.1]

theorem final11 (c : Dev nD) : (dats m 0 c).arrAt 11 cfg0.N = tens (kM m c) := by
  refine (dats m 0 c).arrAt_eq_of_covers 11 _ (by decide +kernel) fun t hf y => ?_
  show (dats m 0 c).after 11 t y = _
  rw [after0_11]
  exact o11 m c t y

theorem final12 (c : Dev nD) : (dats m 0 c).arrAt 12 cfg0.N = tens (vM m c) := by
  refine (dats m 0 c).arrAt_eq_of_covers 12 _ (by decide +kernel) fun t hf y => ?_
  show (dats m 0 c).after 12 t y = _
  rw [after0_12]
  exact o12 m c t y

theorem final13 (c : Dev nD) : (dats m 0 c).arrAt 13 cfg0.N = ringC (cM m c) (kM m c) (kX m c) := by
  refine (dats m 0 c).arrAt_eq_of_covers 13 _ (by decide +kernel) fun t hf y => ?_
  have h := (ring_last t).1 hf
  show (dats m 0 c).after 13 t y = _
  rw [after0_13]
  refine (o13 m c t y h).trans (congr (congrArg (cC _) (col_k m c t _ (tok (cM m c) ((win0_13.blk t).view.emb y 0)) (tok_val (cM m c) t (y 0) _ ?_ h))) (Fin.ext ?_))
  · blk_simp [(idxO t).2.2.2.2.2.2.2.2.1]
  · show (y 1).val = ((win0_13.blk t).view.emb y 1).val
    blk_simp [(idxO t).2.2.2.2.2.2.2.2.1]

theorem final14 (c : Dev nD) : (dats m 0 c).arrAt 14 cfg0.N = ringS (cM m c) (kM m c) (kX m c) := by
  refine (dats m 0 c).arrAt_eq_of_covers 14 _ (by decide +kernel) fun t hf y => ?_
  have h := (ring_last t).2.1 hf
  show (dats m 0 c).after 14 t y = _
  rw [after0_14]
  refine (o14 m c t y h).trans (congr (congrArg (sC _) (col_k m c t _ (tok (cM m c) ((win0_14.blk t).view.emb y 0)) (tok_val (cM m c) t (y 0) _ ?_ h))) (Fin.ext ?_))
  · blk_simp [(idxO t).2.2.2.2.2.2.2.2.2.1]
  · show (y 1).val = ((win0_14.blk t).view.emb y 1).val
    blk_simp [(idxO t).2.2.2.2.2.2.2.2.2.1]

theorem final15 (c : Dev nD) : (dats m 0 c).arrAt 15 cfg0.N = ringC (cM m c) (vM m c) (vX m c) := by
  refine (dats m 0 c).arrAt_eq_of_covers 15 _ (by decide +kernel) fun t hf y => ?_
  have h := (ring_last t).2.2.1 hf
  show (dats m 0 c).after 15 t y = _
  rw [after0_15]
  refine (o15 m c t y h).trans (congr (congrArg (cC _) (col_v m c t _ (tok (cM m c) ((win0_15.blk t).view.emb y 0)) (tok_val (cM m c) t (y 0) _ ?_ h))) (Fin.ext ?_))
  · blk_simp [(idxO t).2.2.2.2.2.2.2.2.2.2.1]
  · show (y 1).val = ((win0_15.blk t).view.emb y 1).val
    blk_simp [(idxO t).2.2.2.2.2.2.2.2.2.2.1]

theorem final16 (c : Dev nD) : (dats m 0 c).arrAt 16 cfg0.N = ringS (cM m c) (vM m c) (vX m c) := by
  refine (dats m 0 c).arrAt_eq_of_covers 16 _ (by decide +kernel) fun t hf y => ?_
  have h := (ring_last t).2.2.2 hf
  show (dats m 0 c).after 16 t y = _
  rw [after0_16]
  refine (o16 m c t y h).trans (congr (congrArg (sC _) (col_v m c t _ (tok (cM m c) ((win0_16.blk t).view.emb y 0)) (tok_val (cM m c) t (y 0) _ ?_ h))) (Fin.ext ?_))
  · blk_simp [(idxO t).2.2.2.2.2.2.2.2.2.2.2]
  · show (y 1).val = ((win0_16.blk t).view.emb y 1).val
    blk_simp [(idxO t).2.2.2.2.2.2.2.2.2.2.2]

/-- The kernel's run: the result cells end at the twelve arrays, the argument cells keep. -/
theorem runP : θ_run defs (onTc (τ := τ) (main (F := Ideal))) ⟨m, fun _ => 0, ρ⟩ (fun r => ∀ c : Dev nD,
    r.2.mem ((c : Thread nD τ).loc main_v0_0) = deq (kM m c) (kX m c)
    ∧ r.2.mem ((c : Thread nD τ).loc main_v0_1) = deq (vM m c) (vX m c)
    ∧ r.2.mem ((c : Thread nD τ).loc main_v0_2) = codes (kM m c) (kX m c)
    ∧ r.2.mem ((c : Thread nD τ).loc main_v0_3) = scales (kM m c) (kX m c)
    ∧ r.2.mem ((c : Thread nD τ).loc main_v0_4) = codes (vM m c) (vX m c)
    ∧ r.2.mem ((c : Thread nD τ).loc main_v0_5) = scales (vM m c) (vX m c)
    ∧ r.2.mem ((c : Thread nD τ).loc main_v0_6) = tens (kM m c)
    ∧ r.2.mem ((c : Thread nD τ).loc main_v0_7) = tens (vM m c)
    ∧ r.2.mem ((c : Thread nD τ).loc main_v0_8) = ringC (cM m c) (kM m c) (kX m c)
    ∧ r.2.mem ((c : Thread nD τ).loc main_v0_9) = ringS (cM m c) (kM m c) (kX m c)
    ∧ r.2.mem ((c : Thread nD τ).loc main_v0_10) = ringC (cM m c) (vM m c) (vX m c)
    ∧ r.2.mem ((c : Thread nD τ).loc main_v0_11) = ringS (cM m c) (vM m c) (vX m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4)) :=
  (θ_run defs _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2.1.trans (final10 m c), (h c).2.2.2.2.2.2.1.trans (final11 m c), (h c).2.2.2.2.2.2.2.1.trans (final12 m c), (h c).2.2.2.2.2.2.2.2.1.trans (final13 m c), (h c).2.2.2.2.2.2.2.2.2.1.trans (final14 m c), (h c).2.2.2.2.2.2.2.2.2.2.1.trans (final15 m c), (h c).2.2.2.2.2.2.2.2.2.2.2.1.trans (final16 m c), (h c).2.2.2.2.2.2.2.2.2.2.2.2⟩) (run_blocks m ρ)

end Cert.KvIdeal.Block
end
-- ==== Proof.KvRefPay.lean ====
/-
  The cache reference's expressions over the extended reals, at an index: the same functions of a column as the kernel's.
-/
module

public import proofs.«01_k».proof.Proof.Gen.KvRefIdeal.Skeleton
public import proofs.«01_k».proof.Proof.KvSpec
public import proofs.«01_k».proof.Proof.KvBits
public import Idealize.ShloMosaic.Lib.Pipeline.ValueKit

@[expose] public section

set_option maxRecDepth 16384

noncomputable section

namespace Cert.KvRefIdeal.Pay

open Cert.KvRefIdeal Cert.KvRefIdeal.Gen Idealize.ShloMosaic Idealize.ShloMosaic.TcCoe Idealize.ShloMosaic.Pointwise
open Cert.KvSpec Cert.KvBits Cert.Fp4

variable (X : Vec Ideal S1024x1920 .f32) (A : Vec Ideal S1x128 .f32)

/-- The tensor scale of a row of largest magnitudes. -/
abbrev tA : EReal := tscale fun l => A (ix2 0 l)

theorem t2 (i : S1x1.Idx) : k0_pay2 (F := Ideal) A i = tA A := by
  idx_vars i
  pointwise [k0_pay2]
  rfl

/-- The block scales. -/
theorem s3 (j : Fin 1920) (g : Fin 64) : k0_pay3 (F := Ideal) X A (ix2 j g) = sC (tA A) (col X j) g := by
  pointwise [k0_pay3, k0_pay1]
  rw [t2, sixth]
  rfl

/-- The entries in units of their block's scale. -/
theorem y4 (j : Fin 1920) (g : Fin 64) (r : Fin 16) :
    k0_pay4 (F := Ideal) X A (ix3 j g r) = yC (tA A) (col X j) ⟨(g : ℕ) * 16 + r, by omega⟩ := by
  have hg : (⟨((g : ℕ) * 16 + r) / 16, by omega⟩ : Fin 64) = g := Fin.ext (show ((g : ℕ) * 16 + r) / 16 = g by omega)
  show _ = unit (sC (tA A) (col X j) ⟨((g : ℕ) * 16 + r) / 16, by omega⟩) (tA A) (col X j ⟨(g : ℕ) * 16 + r, by omega⟩)
  rw [hg]
  pointwise [k0_pay4, k0_pay1]
  rw [s3, t2]
  rfl

/-- The codes. -/
abbrev cd : IVec S1920x64x16 32 := k0_pay7 (k0_pay4 (F := Ideal) X A) (k0_pay5 X A) (k0_pay6 X A)
theorem c7 (j : Fin 1920) (g : Fin 64) (r : Fin 16) : cd X A (ix3 j g r) = codeR (yC (tA A) (col X j) ⟨(g : ℕ) * 16 + r, by omega⟩) := by
  pointwise [k0_pay7, k0_pay5, k0_pay6]
  simp only [y4]
  rfl

/-- The values the codes and scales stand for. -/
theorem d13 (k : Fin 1024) (j : Fin 1920) :
    k0_pay13 (F := Ideal) (k0_pay3 X A) (cd X A) (k0_pay9 (k0_pay4 X A) (k0_pay5 X A) (k0_pay6 X A))
      (k0_pay10 (k0_pay4 (F := Ideal) X A) (k0_pay5 X A) (k0_pay6 X A)) (k0_pay11 (k0_pay4 (F := Ideal) X A) (k0_pay5 X A) (k0_pay6 X A))
      (k0_pay12 (k0_pay4 X A) (k0_pay5 X A) (k0_pay6 X A)) (ix2 k j) = dC (tA A) (col X j) k := by
  have hc : k0_pay7 (k0_pay4 (F := Ideal) X A) (k0_pay5 X A) (k0_pay6 X A) (ix3 j ⟨(k : ℕ) / 16, by omega⟩ ⟨(k : ℕ) % 16, by omega⟩)
      = codeR (yC (tA A) (col X j) k) :=
    (c7 X A j _ _).trans (congrArg (fun z => codeR (yC (tA A) (col X j) z)) (Fin.ext (show (k : ℕ) / 16 * 16 + (k : ℕ) % 16 = k by omega)))
  unfold cd
  pointwise [k0_pay13, k0_pay9, k0_pay10, k0_pay11, k0_pay12, k0_pay8]
  rw [hc, s3]
  exact value_eq (yC (tA A) (col X j) k) (sC (tA A) (col X j) ⟨(k : ℕ) / 16, by omega⟩)

/-- The packed codes as words, and as bytes. -/
theorem w14 (j : Fin 1920) (q : Fin 512) : BitVec.setWidth 8 (k0_pay14 (cd X A) (ix2 j q)) = cC (tA A) (col X j) q := by
  pointwise [k0_pay14]
  rw [c7, c7]
  have e1 : (⟨(q : ℕ) / 8 * 16 + (q : ℕ) % 8 * 2, by omega⟩ : Fin 1024) = ⟨(q : ℕ) * 2, by omega⟩ :=
    Fin.ext (show (q : ℕ) / 8 * 16 + (q : ℕ) % 8 * 2 = (q : ℕ) * 2 by omega)
  have e2 : (⟨(q : ℕ) / 8 * 16 + ((q : ℕ) % 8 * 2 + 1), by omega⟩ : Fin 1024) = ⟨(q : ℕ) * 2 + 1, by omega⟩ :=
    Fin.ext (show (q : ℕ) / 8 * 16 + ((q : ℕ) % 8 * 2 + 1) = (q : ℕ) * 2 + 1 by omega)
  unfold cC
  rw [← e1, ← e2]
  rfl
theorem b15 (j : Fin 1920) (q : Fin 512) : k0_pay15 (cd X A) (ix2 j q) = cC (tA A) (col X j) q := by
  refine Eq.trans ?_ (w14 X A j q)
  pointwise [k0_pay15]

/-- The token a ring slot reads is the one the reference's index names. -/
theorem turn (o : ℕ) (ho : o + 128 ≤ 1920) (x : BitVec 32) (j : Fin 128) :
    (⟨o + (rpos x j : ℕ), by omega⟩ : Fin 1920) = ⟨o + (ringIx (BitVec.ofNat 32 j) x).toNat % 128, by omega⟩ :=
  Fin.ext (congrArg (o + ·) (ringIx_mod j j.isLt x).symm)

/-- One batch's ring: the last batch's spelling, and the others'. -/
theorem rc2 (c : IVec S1920x512 32) (x : BitVec 32) (j : Fin 128) (q : Fin 512) :
    k0_pay34 (k0_pay32 c) (k0_pay33 (F := Ideal) x) (ix2 j q) = BitVec.setWidth 8 (c (ix2 ⟨1792 + rpos x j, by omega⟩ q)) := by
  rw [turn 1792 (by norm_num)]
  pointwise [k0_pay34, k0_pay32, k0_pay33]
  rfl
theorem rc1 (c : IVec S1920x512 32) (x : BitVec 32) (j : Fin 128) (q : Fin 512) :
    k0_pay26 (k0_pay23 c) 128#32 (k0_pay24 (F := Ideal) x) (k0_pay25 (F := Ideal) x) 0#32 (ix2 j q)
      = BitVec.setWidth 8 (c (ix2 ⟨1152 + rpos x j, by omega⟩ q)) := by
  rw [turn 1152 (by norm_num)]
  pointwise [k0_pay26, k0_pay23, k0_pay24, k0_pay25]
  rfl
theorem rc0 (c : IVec S1920x64x16 32) (x : BitVec 32) (j : Fin 128) (q : Fin 512) :
    k0_pay19 (k0_pay17 c) (iota Kind.tc S512x128 32 [1] iota_S512x128_d1_w32) (k0_pay18 (F := Ideal) x) (ix2 j q)
      = BitVec.setWidth 8 (k0_pay14 c (ix2 ⟨512 + rpos x j, by omega⟩ q)) := by
  rw [turn 512 (by norm_num)]
  generalize hg : k0_pay14 c = C
  pointwise [k0_pay19, k0_pay17, k0_pay18]
  rw [hg]
  rfl

theorem rs2 (s : FVec Ideal S1920x64 .fp8e4m3) (x : BitVec 32) (j : Fin 128) (g : Fin 64) :
    k0_pay35 (F := Ideal) (k0_pay16 s) x (ix2 j g) = s (ix2 ⟨1792 + rpos x j, by omega⟩ g) := by
  rw [turn 1792 (by norm_num)]
  pointwise [k0_pay35, k0_pay16]
  rfl
theorem rs1 (s : FVec Ideal S1920x64 .fp8e4m3) (x : BitVec 32) (j : Fin 128) (g : Fin 64) :
    k0_pay31 (F := Ideal) (k0_pay27 (k0_pay16 s)) (k0_pay28 (F := Ideal) x) (k0_pay29 (F := Ideal) x) k0_pay30 (ix2 j g)
      = s (ix2 ⟨1152 + rpos x j, by omega⟩ g) := by
  rw [turn 1152 (by norm_num)]
  pointwise [k0_pay31, k0_pay27, k0_pay28, k0_pay29, k0_pay30, k0_pay16]
  rfl
theorem rs0 (s : FVec Ideal S1920x64 .fp8e4m3) (x : BitVec 32) (j : Fin 128) (g : Fin 64) :
    k0_pay22 (F := Ideal) (k0_pay20 (k0_pay16 s)) (k0_pay21 (F := Ideal) x) 128#32 0#32 (ix2 j g)
      = s (ix2 ⟨512 + rpos x j, by omega⟩ g) := by
  rw [turn 512 (by norm_num)]
  pointwise [k0_pay22, k0_pay20, k0_pay21, k0_pay16]
  rfl

/-! The values' spellings are the keys'. -/

theorem u37 : k0_pay37 (F := Ideal) A = k0_pay2 A := rfl
theorem u38 : k0_pay38 (F := Ideal) X A = k0_pay3 X A := rfl
theorem u39 : k0_pay39 (F := Ideal) X A = k0_pay4 X A := rfl
theorem u40 : k0_pay40 (F := Ideal) X A = k0_pay5 X A := rfl
theorem u41 : k0_pay41 (F := Ideal) X A = k0_pay6 X A := rfl
theorem u42 (a b c) : k0_pay42 (F := Ideal) a b c = k0_pay7 a b c := rfl
theorem u44 (a b c) : k0_pay44 (F := Ideal) a b c = k0_pay9 a b c := rfl
theorem u45 (a b c) : k0_pay45 (F := Ideal) a b c = k0_pay10 a b c := rfl
theorem u46 (a b c) : k0_pay46 (F := Ideal) a b c = k0_pay11 a b c := rfl
theorem u47 (a b c) : k0_pay47 (F := Ideal) a b c = k0_pay12 a b c := rfl
theorem u48 (a b c d e f) : k0_pay48 (F := Ideal) a b c d e f = k0_pay13 a b c d e f := rfl
theorem u49 (a) : k0_pay49 a = k0_pay14 a := rfl
theorem u50 (a) : k0_pay50 a = k0_pay15 a := rfl
theorem u51 (a) : k0_pay51 (F := Ideal) a = k0_pay16 a := rfl
theorem u52 (a) : k0_pay52 a = k0_pay17 a := rfl
theorem u53 (a) : k0_pay53 (F := Ideal) a = k0_pay18 (F := Ideal) a := rfl
theorem u54 (a b c) : k0_pay54 a b c = k0_pay19 a b c := rfl
theorem u55 (a) : k0_pay55 (F := Ideal) a = k0_pay20 a := rfl
theorem u56 (a) : k0_pay56 (F := Ideal) a = k0_pay21 (F := Ideal) a := rfl
theorem u57 (a b c d) : k0_pay57 (F := Ideal) a b c d = k0_pay22 a b c d := rfl
theorem u58 (a) : k0_pay58 a = k0_pay23 a := rfl
theorem u59 (a) : k0_pay59 (F := Ideal) a = k0_pay24 (F := Ideal) a := rfl
theorem u60 (a) : k0_pay60 (F := Ideal) a = k0_pay25 (F := Ideal) a := rfl
theorem u61 (a b c d e) : k0_pay61 a b c d e = k0_pay26 a b c d e := rfl
theorem u62 (a) : k0_pay62 (F := Ideal) a = k0_pay27 a := rfl
theorem u63 (a) : k0_pay63 (F := Ideal) a = k0_pay28 (F := Ideal) a := rfl
theorem u64 (a) : k0_pay64 (F := Ideal) a = k0_pay29 (F := Ideal) a := rfl
theorem u65 : k0_pay65 = k0_pay30 := rfl
theorem u66 (a b c d) : k0_pay66 (F := Ideal) a b c d = k0_pay31 a b c d := rfl
theorem u67 (a) : k0_pay67 a = k0_pay32 a := rfl
theorem u68 (a) : k0_pay68 (F := Ideal) a = k0_pay33 (F := Ideal) a := rfl
theorem u69 (a b) : k0_pay69 a b = k0_pay34 a b := rfl
theorem u70 (a b) : k0_pay70 (F := Ideal) a b = k0_pay35 a b := rfl

end Cert.KvRefIdeal.Pay
end
-- ==== Proof.KvReference.lean ====
/-
  The cache reference over the extended reals: its result arrays are the arrays `KvSpec` names.
-/
module

public import proofs.«01_k».proof.Proof.Gen.KvRefIdeal.Value
public import proofs.«01_k».proof.Proof.KvRefPay
public import Idealize.ShloMosaic.Lib.Pipeline.ValueKit

@[expose] public section

set_option maxRecDepth 16384

noncomputable section

namespace Cert.KvRefIdeal.Block

open Cert.KvRefIdeal Cert.KvRefIdeal.Gen Cert.KvRefIdeal.Value Idealize.ShloMosaic Idealize.ShloMosaic.TcCoe Idealize.SL.Sem
open Idealize.ShloMosaic.Pointwise
open Idealize.ShloMosaic.Pipeline (Dat)
open Cert.KvSpec Cert.KvRefIdeal.Pay

/-- The row of largest magnitudes the reference reads. -/
abbrev row (M : Vec Ideal S8x128 .f32) : Vec Ideal S1x128 .f32 := View.ld M (Rect.unit (s := S8x128) ![0, 0] ![1, 128] inb_S8x128_S1x128_0_0)

/-- Its tensor scale is the array's. -/
theorem t_row (M : Vec Ideal S8x128 .f32) : tA (row M) = tS M :=
  congrArg tscale (funext fun l => View.ld_unit_apply_of M _ _ inb_S8x128_S1x128_0_0 _ (ix2 0 l) fun a => by
    match a with
    | 0 => rfl
    | 1 => exact (Nat.zero_add _).symm)

/-- A scalar load of the context lengths reads its element. -/
theorem ctx_ld (C : Vec Ideal S3 .i32) (n : Fin 3) (h) (p) : View.ld C (Rect.unit (s := S3) ![n.val] ![1] h) (Shape.Idx.first p) = C (ix1 n) :=
  View.ld_unit_apply_of C _ _ h _ (ix1 n) fun a => by
    obtain rfl : a = 0 := Subsingleton.elim _ _
    rfl

section Arrays

variable (C : Vec Ideal S3 .i32) (M : Vec Ideal S8x128 .f32) (X : Vec Ideal S1024x1920 .f32)

theorem deq_apply (y : S1024x1920.Idx) :
    k0_pay13 (F := Ideal) (k0_pay3 X (row M)) (cd X (row M)) (k0_pay9 (k0_pay4 X (row M)) (k0_pay5 X (row M)) (k0_pay6 X (row M)))
      (k0_pay10 (k0_pay4 (F := Ideal) X (row M)) (k0_pay5 X (row M)) (k0_pay6 X (row M)))
      (k0_pay11 (k0_pay4 (F := Ideal) X (row M)) (k0_pay5 X (row M)) (k0_pay6 X (row M)))
      (k0_pay12 (k0_pay4 X (row M)) (k0_pay5 X (row M)) (k0_pay6 X (row M))) y = deq M X y := by
  idx_vars y
  rw [d13, t_row]
  rfl
theorem codes_apply (y : S1920x512.Idx) : k0_pay15 (cd X (row M)) y = codes M X y := by
  idx_vars y
  rw [b15, t_row]
  rfl
theorem scales_apply (y : S1920x64.Idx) : k0_pay3 (F := Ideal) X (row M) y = scales M X y := by
  idx_vars y
  rw [s3, t_row]
  rfl
theorem tens_apply (y : S1x1.Idx) : k0_pay2 (F := Ideal) (row M) y = tens M y := by
  rw [t2, t_row]
  rfl

/-- The token of a ring row, batch by batch. -/
theorem tok_eq (b : Fin 3) (j : Fin 128) (e : Fin 384) (he : (e : ℕ) = 128 * (b : ℕ) + (j : ℕ)) (o : ℕ) (ho : o = 640 * (b : ℕ) + 512) (h) :
    (⟨o + (rpos (C (ix1 b)) j : ℕ), h⟩ : Fin 1920) = tok C e := by
  have e1 : (⟨(e : ℕ) / 128, by omega⟩ : Fin 3) = b := Fin.ext (show (e : ℕ) / 128 = b by omega)
  have e2 : (e : ℕ) % 128 = (j : ℕ) := by omega
  refine Fin.ext ?_
  show o + _ = 640 * ((e : ℕ) / 128) + 512 + (rpos (C (ix1 (⟨(e : ℕ) / 128, _⟩ : Fin 3))) ((e : ℕ) % 128) : ℕ)
  rw [e1, e2]
  omega

/-- One batch's rows of the ring of codes, and of scales, from the entries the reference takes. -/
theorem ringC_tile (b : Fin 3) (o : ℕ) (ho : o = 640 * (b : ℕ) + 512) (j : Fin 128) (q : Fin 512) (y : S384x512.Idx)
    (h0 : (y 0 : ℕ) = 128 * (b : ℕ) + (j : ℕ)) (h1 : (y 1 : ℕ) = (q : ℕ)) (h) :
    BitVec.setWidth 8 (k0_pay14 (cd X (row M)) (ix2 (⟨o + (rpos (C (ix1 b)) j : ℕ), h⟩ : Fin 1920) q)) = ringC C M X y := by
  rw [w14, t_row, tok_eq C b j (y 0) h0 o ho]
  exact congrArg (cC (tS M) (col X (tok C (y 0)))) (Fin.ext h1.symm)
theorem ringS_tile (b : Fin 3) (o : ℕ) (ho : o = 640 * (b : ℕ) + 512) (j : Fin 128) (g : Fin 64) (y : S384x64.Idx)
    (h0 : (y 0 : ℕ) = 128 * (b : ℕ) + (j : ℕ)) (h1 : (y 1 : ℕ) = (g : ℕ)) (h) :
    k0_pay3 (F := Ideal) X (row M) (ix2 (⟨o + (rpos (C (ix1 b)) j : ℕ), h⟩ : Fin 1920) g) = ringS C M X y := by
  rw [s3, t_row, tok_eq C b j (y 0) h0 o ho]
  exact congrArg (sC (tS M) (col X (tok C (y 0)))) (Fin.ext h1.symm)
theorem tileC2 (z : BitVec 32) (hz : z = C (ix1 2)) (x : S128x512.Idx) (y : S384x512.Idx) (h0 : (y 0 : ℕ) = 256 + (x 0 : ℕ))
    (h1 : (y 1 : ℕ) = (x 1 : ℕ)) : k0_pay34 (k0_pay32 (k0_pay14 (cd X (row M)))) (k0_pay33 (F := Ideal) z) x = ringC C M X y := by
  subst hz
  idx_vars x
  rw [rc2]
  exact ringC_tile C M X 2 1792 rfl _ _ y h0 h1 _
theorem tileC1 (z : BitVec 32) (hz : z = C (ix1 1)) (x : S128x512.Idx) (y : S384x512.Idx) (h0 : (y 0 : ℕ) = 128 + (x 0 : ℕ))
    (h1 : (y 1 : ℕ) = (x 1 : ℕ)) : k0_pay26 (k0_pay23 (k0_pay14 (cd X (row M)))) 128#32 (k0_pay24 (F := Ideal) z) (k0_pay25 (F := Ideal) z) 0#32 x = ringC C M X y := by
  subst hz
  idx_vars x
  rw [rc1]
  exact ringC_tile C M X 1 1152 rfl _ _ y h0 h1 _
theorem tileC0 (z : BitVec 32) (hz : z = C (ix1 0)) (x : S128x512.Idx) (y : S384x512.Idx) (h0 : (y 0 : ℕ) = 0 + (x 0 : ℕ))
    (h1 : (y 1 : ℕ) = (x 1 : ℕ)) : k0_pay19 (k0_pay17 (cd X (row M))) (iota Kind.tc S512x128 32 [1] iota_S512x128_d1_w32) (k0_pay18 (F := Ideal) z) x = ringC C M X y := by
  subst hz
  idx_vars x
  rw [rc0]
  exact ringC_tile C M X 0 512 rfl _ _ y h0 h1 _
theorem tileS2 (z : BitVec 32) (hz : z = C (ix1 2)) (x : S128x64.Idx) (y : S384x64.Idx) (h0 : (y 0 : ℕ) = 256 + (x 0 : ℕ))
    (h1 : (y 1 : ℕ) = (x 1 : ℕ)) : k0_pay35 (F := Ideal) (k0_pay16 (k0_pay3 X (row M))) z x = ringS C M X y := by
  subst hz
  idx_vars x
  rw [rs2]
  exact ringS_tile C M X 2 1792 rfl _ _ y h0 h1 _
theorem tileS1 (z : BitVec 32) (hz : z = C (ix1 1)) (x : S128x64.Idx) (y : S384x64.Idx) (h0 : (y 0 : ℕ) = 128 + (x 0 : ℕ))
    (h1 : (y 1 : ℕ) = (x 1 : ℕ)) : k0_pay31 (F := Ideal) (k0_pay27 (k0_pay16 (k0_pay3 X (row M)))) (k0_pay28 (F := Ideal) z) (k0_pay29 (F := Ideal) z) k0_pay30 x = ringS C M X y := by
  subst hz
  idx_vars x
  rw [rs1]
  exact ringS_tile C M X 1 1152 rfl _ _ y h0 h1 _
theorem tileS0 (z : BitVec 32) (hz : z = C (ix1 0)) (x : S128x64.Idx) (y : S384x64.Idx) (h0 : (y 0 : ℕ) = 0 + (x 0 : ℕ))
    (h1 : (y 1 : ℕ) = (x 1 : ℕ)) : k0_pay22 (F := Ideal) (k0_pay20 (k0_pay16 (k0_pay3 X (row M)))) (k0_pay21 (F := Ideal) z) 128#32 0#32 x = ringS C M X y := by
  subst hz
  idx_vars x
  rw [rs0]
  exact ringS_tile C M X 0 512 rfl _ _ y h0 h1 _

end Arrays

variable (m : (ℓ : Loc nD τ sig) → Buf (Elt Ideal) ℓ) (ρ : Dev nD → PrngReg)

/-- The arguments the call reads. -/
abbrev cM (c : Dev nD) : Vec Ideal S3 .i32 := m ((c : Thread nD τ).loc main_arg0)
abbrev kX (c : Dev nD) : Vec Ideal S1024x1920 .f32 := m ((c : Thread nD τ).loc main_arg1)
abbrev vX (c : Dev nD) : Vec Ideal S1024x1920 .f32 := m ((c : Thread nD τ).loc main_arg2)
abbrev kM (c : Dev nD) : Vec Ideal S8x128 .f32 := m ((c : Thread nD τ).loc main_arg3)
abbrev vM (c : Dev nD) : Vec Ideal S8x128 .f32 := m ((c : Thread nD τ).loc main_arg4)

/-- The one point's index maps are all zero. -/
theorem idx : ∀ t : Fin cfg0.N, win0_0.index t = ![0] ∧ win0_1.index t = ![0, 0] ∧ win0_2.index t = ![0, 0]
    ∧ win0_3.index t = ![0, 0] ∧ win0_4.index t = ![0, 0] :=
  (by decide +kernel : ∀ t : Fin grid0.N, win0_0.index t = ![0] ∧ win0_1.index t = ![0, 0] ∧ win0_2.index t = ![0, 0]
    ∧ win0_3.index t = ![0, 0] ∧ win0_4.index t = ![0, 0])

/-- The whole-array blocks are the arguments. -/
theorem blk0 (c : Dev nD) (t : Fin cfg0.N) : iblk m c 0 t = cM m c := by blk_ext! [iblk, V, (idx t).1]
theorem blk1 (c : Dev nD) (t : Fin cfg0.N) : iblk m c 1 t = kX m c := by blk_ext! [iblk, V, (idx t).2.1]
theorem blk2 (c : Dev nD) (t : Fin cfg0.N) : iblk m c 2 t = vX m c := by blk_ext! [iblk, V, (idx t).2.2.1]
theorem blk3 (c : Dev nD) (t : Fin cfg0.N) : iblk m c 3 t = kM m c := by blk_ext! [iblk, V, (idx t).2.2.2.1]
theorem blk4 (c : Dev nD) (t : Fin cfg0.N) : iblk m c 4 t = vM m c := by blk_ext! [iblk, V, (idx t).2.2.2.2]

/-! The result arrays after the run. -/

theorem final5 (c : Dev nD) : (dats m 0 c).arrAt 5 cfg0.N = deq (kM m c) (kX m c) := by
  refine (dats m 0 c).arrAt_eq_of_after_last 5 t0_0 (by decide +kernel) _ fun j => ?_
  blk_simp
  rw [after0_5]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  exact deq_apply (kM m c) (kX m c) j

theorem final6 (c : Dev nD) : (dats m 0 c).arrAt 6 cfg0.N = deq (vM m c) (vX m c) := by
  refine (dats m 0 c).arrAt_eq_of_after_last 6 t0_0 (by decide +kernel) _ fun j => ?_
  blk_simp
  rw [after0_6]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u38, u39, u40, u41, u42, u44, u45, u46, u47, u48]
  exact deq_apply (vM m c) (vX m c) j

theorem final7 (c : Dev nD) : (dats m 0 c).arrAt 7 cfg0.N = codes (kM m c) (kX m c) := by
  refine (dats m 0 c).arrAt_eq_of_after_last 7 t0_0 (by decide +kernel) _ fun j => ?_
  blk_simp
  rw [after0_7]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  exact codes_apply (kM m c) (kX m c) j

theorem final8 (c : Dev nD) : (dats m 0 c).arrAt 8 cfg0.N = scales (kM m c) (kX m c) := by
  refine (dats m 0 c).arrAt_eq_of_after_last 8 t0_0 (by decide +kernel) _ fun j => ?_
  blk_simp
  rw [after0_8]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  exact scales_apply (kM m c) (kX m c) j

theorem final9 (c : Dev nD) : (dats m 0 c).arrAt 9 cfg0.N = codes (vM m c) (vX m c) := by
  refine (dats m 0 c).arrAt_eq_of_after_last 9 t0_0 (by decide +kernel) _ fun j => ?_
  blk_simp
  rw [after0_9]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u39, u40, u41, u42, u50]
  exact codes_apply (vM m c) (vX m c) j

theorem final10 (c : Dev nD) : (dats m 0 c).arrAt 10 cfg0.N = scales (vM m c) (vX m c) := by
  refine (dats m 0 c).arrAt_eq_of_after_last 10 t0_0 (by decide +kernel) _ fun j => ?_
  blk_simp
  rw [after0_10]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u38]
  exact scales_apply (vM m c) (vX m c) j

theorem final11 (c : Dev nD) : (dats m 0 c).arrAt 11 cfg0.N = tens (kM m c) := by
  refine (dats m 0 c).arrAt_eq_of_after_last 11 t0_0 (by decide +kernel) _ fun j => ?_
  blk_simp
  rw [after0_11]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  exact tens_apply (kM m c) j

theorem final12 (c : Dev nD) : (dats m 0 c).arrAt 12 cfg0.N = tens (vM m c) := by
  refine (dats m 0 c).arrAt_eq_of_after_last 12 t0_0 (by decide +kernel) _ fun j => ?_
  blk_simp
  rw [after0_12]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u37]
  exact tens_apply (vM m c) j

theorem final13 (c : Dev nD) : (dats m 0 c).arrAt 13 cfg0.N = ringC (cM m c) (kM m c) (kX m c) := by
  refine (dats m 0 c).arrAt_eq_of_after_last 13 t0_0 (by decide +kernel) _ fun j => ?_
  blk_simp
  rw [after0_13]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  canon_tiles x h
  · exact tileC2 (cM m c) (kM m c) (kX m c) _ (ctx_ld (cM m c) 2 _ _) x j h0 h1
  · exact tileC1 (cM m c) (kM m c) (kX m c) _ (ctx_ld (cM m c) 1 _ _) x j h0 h1
  · exact tileC0 (cM m c) (kM m c) (kX m c) _ (ctx_ld (cM m c) 0 _ _) x j (h0.trans (Nat.zero_add _).symm) h1

theorem final14 (c : Dev nD) : (dats m 0 c).arrAt 14 cfg0.N = ringS (cM m c) (kM m c) (kX m c) := by
  refine (dats m 0 c).arrAt_eq_of_after_last 14 t0_0 (by decide +kernel) _ fun j => ?_
  blk_simp
  rw [after0_14]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  canon_tiles x h
  · exact tileS2 (cM m c) (kM m c) (kX m c) _ (ctx_ld (cM m c) 2 _ _) x j h0 h1
  · exact tileS1 (cM m c) (kM m c) (kX m c) _ (ctx_ld (cM m c) 1 _ _) x j h0 h1
  · exact tileS0 (cM m c) (kM m c) (kX m c) _ (ctx_ld (cM m c) 0 _ _) x j (h0.trans (Nat.zero_add _).symm) h1

theorem final15 (c : Dev nD) : (dats m 0 c).arrAt 15 cfg0.N = ringC (cM m c) (vM m c) (vX m c) := by
  refine (dats m 0 c).arrAt_eq_of_after_last 15 t0_0 (by decide +kernel) _ fun j => ?_
  blk_simp
  rw [after0_15]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u39, u40, u41, u42, u49, u52, u53, u54, u58, u59, u60, u61, u67, u68, u69]
  canon_tiles x h
  · exact tileC2 (cM m c) (vM m c) (vX m c) _ (ctx_ld (cM m c) 2 _ _) x j h0 h1
  · exact tileC1 (cM m c) (vM m c) (vX m c) _ (ctx_ld (cM m c) 1 _ _) x j h0 h1
  · exact tileC0 (cM m c) (vM m c) (vX m c) _ (ctx_ld (cM m c) 0 _ _) x j (h0.trans (Nat.zero_add _).symm) h1

theorem final16 (c : Dev nD) : (dats m 0 c).arrAt 16 cfg0.N = ringS (cM m c) (vM m c) (vX m c) := by
  refine (dats m 0 c).arrAt_eq_of_after_last 16 t0_0 (by decide +kernel) _ fun j => ?_
  blk_simp
  rw [after0_16]
  unfold outsAt0
  frame_out
  simp only [(hs0_0 t0_0).read_unread, (hs0_1 t0_0).read_unread, (hs0_2 t0_0).read_unread, (hs0_3 t0_0).read_unread,
    (hs0_4 t0_0).read_unread, blk0, blk1, blk2, blk3, blk4]
  simp only [u38, u51, u55, u56, u57, u62, u63, u64, u65, u66, u70]
  canon_tiles x h
  · exact tileS2 (cM m c) (vM m c) (vX m c) _ (ctx_ld (cM m c) 2 _ _) x j h0 h1
  · exact tileS1 (cM m c) (vM m c) (vX m c) _ (ctx_ld (cM m c) 1 _ _) x j h0 h1
  · exact tileS0 (cM m c) (vM m c) (vX m c) _ (ctx_ld (cM m c) 0 _ _) x j (h0.trans (Nat.zero_add _).symm) h1

/-- The reference's run: the result cells end at the twelve arrays, the argument cells keep. -/
theorem runR : θ_run defs (onTc (τ := τ) (main (F := Ideal))) ⟨m, fun _ => 0, ρ⟩ (fun r => ∀ c : Dev nD,
    r.2.mem ((c : Thread nD τ).loc main_v0_0) = deq (kM m c) (kX m c)
    ∧ r.2.mem ((c : Thread nD τ).loc main_v0_1) = deq (vM m c) (vX m c)
    ∧ r.2.mem ((c : Thread nD τ).loc main_v0_2) = codes (kM m c) (kX m c)
    ∧ r.2.mem ((c : Thread nD τ).loc main_v0_3) = scales (kM m c) (kX m c)
    ∧ r.2.mem ((c : Thread nD τ).loc main_v0_4) = codes (vM m c) (vX m c)
    ∧ r.2.mem ((c : Thread nD τ).loc main_v0_5) = scales (vM m c) (vX m c)
    ∧ r.2.mem ((c : Thread nD τ).loc main_v0_6) = tens (kM m c)
    ∧ r.2.mem ((c : Thread nD τ).loc main_v0_7) = tens (vM m c)
    ∧ r.2.mem ((c : Thread nD τ).loc main_v0_8) = ringC (cM m c) (kM m c) (kX m c)
    ∧ r.2.mem ((c : Thread nD τ).loc main_v0_9) = ringS (cM m c) (kM m c) (kX m c)
    ∧ r.2.mem ((c : Thread nD τ).loc main_v0_10) = ringC (cM m c) (vM m c) (vX m c)
    ∧ r.2.mem ((c : Thread nD τ).loc main_v0_11) = ringS (cM m c) (vM m c) (vX m c)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3) ∧ r.2.mem ((c : Thread nD τ).loc main_arg4) = m ((c : Thread nD τ).loc main_arg4)) :=
  (θ_run defs _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2.1.trans (final10 m c), (h c).2.2.2.2.2.2.1.trans (final11 m c), (h c).2.2.2.2.2.2.2.1.trans (final12 m c), (h c).2.2.2.2.2.2.2.2.1.trans (final13 m c), (h c).2.2.2.2.2.2.2.2.2.1.trans (final14 m c), (h c).2.2.2.2.2.2.2.2.2.2.1.trans (final15 m c), (h c).2.2.2.2.2.2.2.2.2.2.2.1.trans (final16 m c), (h c).2.2.2.2.2.2.2.2.2.2.2.2⟩) (run_blocks m ρ)

end Cert.KvRefIdeal.Block
end
-- ==== Proof.KvEq.lean ====
/-
  The cache kernel and its reference compute the same arrays over the extended reals: both runs end holding the arrays
  `KvSpec` names, of the arguments.
-/
module

public import proofs.«01_k».proof.Defs
public import proofs.«01_k».proof.Proof.KvKernel
public import proofs.«01_k».proof.Proof.KvReference

@[expose] public section

noncomputable section

namespace Cert.KvEq

open Idealize.ShloMosaic Idealize.ShloMosaic.TcCoe Idealize.SL.Sem Cert.KvSpec

/-- From memories agreeing on the arguments the kernel and the reference both run, end with equal results and keep the
    arguments. -/
theorem algebraic : algebraic_KvIdeal_KvRefIdeal (hKvIdeal := Cert.KvIdeal.Gen.facts) (hKvRefIdeal := Cert.KvRefIdeal.Gen.facts) := by
  intro m ρ m' ρ' _ hag
  refine ⟨fun c => deq (KvIdeal.Block.kM m c) (KvIdeal.Block.kX m c),
    fun c => deq (KvIdeal.Block.vM m c) (KvIdeal.Block.vX m c),
    fun c => codes (KvIdeal.Block.kM m c) (KvIdeal.Block.kX m c),
    fun c => scales (KvIdeal.Block.kM m c) (KvIdeal.Block.kX m c),
    fun c => codes (KvIdeal.Block.vM m c) (KvIdeal.Block.vX m c),
    fun c => scales (KvIdeal.Block.vM m c) (KvIdeal.Block.vX m c),
    fun c => tens (KvIdeal.Block.kM m c),
    fun c => tens (KvIdeal.Block.vM m c),
    fun c => ringC (KvIdeal.Block.cM m c) (KvIdeal.Block.kM m c) (KvIdeal.Block.kX m c),
    fun c => ringS (KvIdeal.Block.cM m c) (KvIdeal.Block.kM m c) (KvIdeal.Block.kX m c),
    fun c => ringC (KvIdeal.Block.cM m c) (KvIdeal.Block.vM m c) (KvIdeal.Block.vX m c),
    fun c => ringS (KvIdeal.Block.cM m c) (KvIdeal.Block.vM m c) (KvIdeal.Block.vX m c),
    KvIdeal.Block.runP m ρ, (θ_run _ _ _).mono (fun r h c => ?_) (KvRefIdeal.Block.runR m' ρ')⟩
  obtain ⟨e0, e1, e2, e3, e4⟩ := hag c
  obtain ⟨r5, r6, r7, r8, r9, r10, r11, r12, r13, r14, r15, r16, ra⟩ := h c
  exact ⟨r5.trans (congrArg₂ deq e3 e1),
    r6.trans (congrArg₂ deq e4 e2),
    r7.trans (congrArg₂ codes e3 e1),
    r8.trans (congrArg₂ scales e3 e1),
    r9.trans (congrArg₂ codes e4 e2),
    r10.trans (congrArg₂ scales e4 e2),
    r11.trans (congrArg tens e3),
    r12.trans (congrArg tens e4),
    r13.trans (congr (congrArg₂ ringC e0 e3) e1),
    r14.trans (congr (congrArg₂ ringS e0 e3) e1),
    r15.trans (congr (congrArg₂ ringC e0 e4) e2),
    r16.trans (congr (congrArg₂ ringS e0 e4) e2), ra⟩

end Cert.KvEq
end
-- ==== Proof.QaRun.lean ====
/-
  The run of the kernel that quantises the attention output, its result cells named: each ends at its window's array after
  the last grid point, and the argument cells keep.
-/
module

public import proofs.«01_k».proof.Proof.Gen.QaIdeal.Frame
public import Idealize.ShloMosaic.Lib.Pipeline.Value

@[expose] public section

noncomputable section

namespace Cert.QaIdeal.Run

open Cert.QaIdeal Cert.QaIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      post6 m r h c,
      kept_main_arg0 m r h c,
      kept_main_arg1 m r h c⟩)
    (run_main m ρ)

end Cert.QaIdeal.Run
end
-- ==== Proof.QaSpec.lean ====
/-
  Quantising the attention output over the extended reals: what the reference computes of one token's 7168 entries, entry
  by entry, with the functions `KvSpec` states, and the arrays of the call.
-/
module

public import proofs.«01_k».proof.Proof.KvSpec

@[expose] public section

noncomputable section

namespace Cert.QaSpec

open Idealize.ShloMosaic Cert.Fp4 Cert.KvSpec

/-- One token: block scale `g`, entry `k` in units, its dequantised value and byte `q`. -/
def sA (T : EReal) (x : Fin 7168 → EReal) (g : Fin 448) : EReal := bscale T fun r => x ⟨g * 16 + r, by omega⟩
def yA (T : EReal) (x : Fin 7168 → EReal) (k : Fin 7168) : EReal := unit (sA T x ⟨k / 16, by omega⟩) T (x k)
def dA (T : EReal) (x : Fin 7168 → EReal) (k : Fin 7168) : EReal := valK (codeK (yA T x k)) * sA T x ⟨k / 16, by omega⟩
def cA (T : EReal) (x : Fin 7168 → EReal) (q : Fin 3584) : BitVec 8 :=
  pack (codeR (yA T x ⟨q * 2, by omega⟩)) (codeR (yA T x ⟨q * 2 + 1, by omega⟩))

/-- The start of the largest number is minus infinity. -/
theorem start : Ideal.ofBits FTy.f32 4286578688#32 = ⊥ := by
  simp [Ideal.ofBits, Ideal.ieee]

/-- The largest of finitely many numbers is their supremum. -/
theorem top_sup {n : ℕ} (g : Fin n → EReal) : top g = Finset.univ.sup g := by
  unfold top
  rw [start]
  rfl

/-- Rows first or columns first: the same largest number. -/
theorem top_comm {a b : ℕ} (M : Fin a → Fin b → EReal) : (top fun l => top fun r => M r l) = top fun r => top fun l => M r l := by
  simp only [top_sup]
  exact Finset.sup_comm _ _ _

/-- The tensor scale of a whole tile of largest magnitudes. -/
def tT (M : Vec Ideal ⟨2, ![8, 128]⟩ .f32) : EReal := tscale fun l : Fin 128 => top fun r : Fin 8 => M (ix2 r l)

/-- The same, each row's largest taken first. -/
theorem tT_rows (M : Vec Ideal ⟨2, ![8, 128]⟩ .f32) : (tscale fun r : Fin 8 => top fun l : Fin 128 => M (ix2 r l)) = tT M := by
  unfold tT tscale
  rw [top_comm fun (r : Fin 8) (l : Fin 128) => M (ix2 r l)]

/-- A token's entries. -/
def tokA {N : ℕ} (X : Vec Ideal ⟨2, ![7168, N]⟩ .f32) (j : Fin N) (k : Fin 7168) : EReal := X (ix2 k j)

/-- The arrays of the call, of the attention output `X` and the largest magnitudes `M`. -/
def attn {N : ℕ} (X : Vec Ideal ⟨2, ![7168, N]⟩ .f32) : Vec Ideal ⟨2, ![N, 7168]⟩ .bf16 := fun i => tokA X (i 0) (i 1)
def deqA {N : ℕ} (M : Vec Ideal ⟨2, ![8, 128]⟩ .f32) (X : Vec Ideal ⟨2, ![7168, N]⟩ .f32) : Vec Ideal ⟨2, ![N, 7168]⟩ .bf16 :=
  fun i => dA (tT M) (tokA X (i 0)) (i 1)
def codesA {N : ℕ} (M : Vec Ideal ⟨2, ![8, 128]⟩ .f32) (X : Vec Ideal ⟨2, ![7168, N]⟩ .f32) : Vec Ideal ⟨2, ![N, 3584]⟩ .i8 :=
  fun i => cA (tT M) (tokA X (i 0)) (i 1)
def scalesA {N : ℕ} (M : Vec Ideal ⟨2, ![8, 128]⟩ .f32) (X : Vec Ideal ⟨2, ![7168, N]⟩ .f32) : Vec Ideal ⟨2, ![N, 448]⟩ .fp8e4m3 :=
  fun i => sA (tT M) (tokA X (i 0)) (i 1)
def tensA (M : Vec Ideal ⟨2, ![8, 128]⟩ .f32) : Vec Ideal ⟨2, ![1, 1]⟩ .f32 := fun _ => tT M

end Cert.QaSpec
end
-- ==== Proof.QaPay.lean ====
/-
  The kernel that quantises the attention output, over the extended reals: what one slab of 256 rows gives, entry by entry,
  for 128 tokens. Every slab is computed by the same expressions of the slab and the tensor scale.
-/
module

public import proofs.«01_k».proof.Proof.Gen.QaIdeal.Skeleton
public import proofs.«01_k».proof.Proof.QaSpec
public import proofs.«01_k».proof.Proof.KvBits
public import Idealize.ShloMosaic.PureOps.IdealRules

@[expose] public section

set_option maxRecDepth 16384

noncomputable section

namespace Cert.QaIdeal.Pay

open Cert.QaIdeal Cert.QaIdeal.Gen Idealize.ShloMosaic Idealize.ShloMosaic.TcCoe Idealize.SL.Sem Idealize.ShloMosaic.Pointwise
open Cert.KvSpec Cert.QaSpec Cert.KvBits

/-- The folded constant, read exactly. -/
theorem named_sixth : (Named.named κ "sixth" 1042986325#32 : Ideal .f32) = ((4097 / 24576 : ℝ) : EReal) :=
  IdealRules.named_const.ideal_named_scalar _ _ _ _ rfl

variable (A : Vec Ideal S8x128 .f32) (X : Vec Ideal S7168x128 .f32) (v : Vec Ideal S256x128 .f32)

/-- The tensor scale. -/
theorem t3 (i : S1x1.Idx) : k0_pay3 (F := Ideal) A i = tT A := by
  idx_vars i
  pointwise [k0_pay3]
  rfl

/-! One slab `v`: its block scales, entries in units, codes, values and bytes. -/

abbrev sV : FVec Ideal S16x128 .f32 := k0_pay19 (k0_pay3 A) v
abbrev yV : FVec Ideal S256x128 .f32 := k0_pay20 (k0_pay3 A) v
abbrev cV : IVec S256x128 32 := k0_pay22 (yV A v) (k0_pay21 (k0_pay3 A) v) (Scalar.ofBits .f32 0x3E800000#32)
abbrev dV : FVec Ideal S128x256 .bf16 := k0_pay25 (sV A v) (cV A v)
abbrev wV : IVec S32x128 32 := k0_pay23 (yV A v) (k0_pay21 (k0_pay3 A) v) (Scalar.ofBits .f32 0x3E800000#32)
abbrev bV : IVec S128x128 8 := k0_pay26 (wV A v) (k0_pay24 (yV A v) (k0_pay21 (k0_pay3 A) v) (Scalar.ofBits .f32 0x3E800000#32))

/-- The packed bytes before the repair. -/
def raw (c : IVec S256x128 32) : IVec S128x128 8 :=
  trunci 8 (ori (shapeCast S128x128 (extractStridedSlice S128x1x128 ![0, 0, 0] (shapeCast S128x2x128 c shapeCasts_S256x128_S128x2x128)
      slices_S128x2x128_o0_0_0_S128x1x128) shapeCasts_S128x1x128_S128x128)
    (shli (shapeCast S128x128 (extractStridedSlice S128x1x128 ![0, 1, 0] (shapeCast S128x2x128 c shapeCasts_S256x128_S128x2x128)
      slices_S128x2x128_o0_1_0_S128x1x128) shapeCasts_S128x1x128_S128x128) (broadcast S128x128 4#32))) natLt_8_32

theorem raw_apply (c : IVec S256x128 32) (q l : Fin 128) :
    raw c (ix2 q l) = pack (c (ix2 ⟨q * 2, by omega⟩ l)) (c (ix2 ⟨q * 2 + 1, by omega⟩ l)) := by
  pointwise [raw, pack]

/-- A row of a slab is a row of the array. -/
theorem lt_slab {o : ℕ} (ho : o + 256 ≤ 7168) (k : Fin 256) : o + (k : ℕ) < 7168 := by omega

section Slab

variable (o : ℕ) (ho : o + 256 ≤ 7168) (h16 : o % 256 = 0)
  (hv : ∀ (k : Fin 256) (l : Fin 128), v (ix2 k l) = tokA X l ⟨o + k, lt_slab ho k⟩)
include h16 hv

theorem sV_apply (g : Fin 16) (l : Fin 128) : sV A v (ix2 g l) = sA (tT A) (tokA X l) ⟨o / 16 + g, by omega⟩ := by
  have e : (fun r : Fin 16 => tokA X l ⟨(o / 16 + g) * 16 + r, by omega⟩) = fun r : Fin 16 => v (ix2 (⟨(g : ℕ) * 16 + r, by omega⟩ : Fin 256) l) :=
    funext fun r => ((hv _ l).trans (congrArg (tokA X l) (Fin.ext (show o + (g * 16 + r) = (o / 16 + g) * 16 + r by omega)))).symm
  pointwise [k0_pay19, k0_pay18]
  rw [t3, named_sixth]
  show _ = bscale (tT A) (fun r : Fin 16 => tokA X l ⟨(o / 16 + g) * 16 + r, by omega⟩)
  rw [e]
  rfl

theorem yV_apply (k : Fin 256) (l : Fin 128) : yV A v (ix2 k l) = yA (tT A) (tokA X l) ⟨o + k, by omega⟩ := by
  have hs := sV_apply A X v o ho h16 hv ⟨(k : ℕ) / 16, by omega⟩ l
  have hg : (⟨o / 16 + (k : ℕ) / 16, by omega⟩ : Fin 448) = ⟨(o + k) / 16, by omega⟩ :=
    Fin.ext (show o / 16 + (k : ℕ) / 16 = (o + k) / 16 by omega)
  have hs' : k0_pay19 (F := Ideal) (k0_pay3 A) v (ix2 ⟨(k : ℕ) / 16, by omega⟩ l) = sA (tT A) (tokA X l) ⟨(o + k) / 16, by omega⟩ :=
    hs.trans (congrArg _ hg)
  have hk := hv k l
  pointwise [k0_pay20, k0_pay18]
  rw [hs', t3, hk]
  exact congrArg (fun z => min (Ideal.ofBits FTy.f32 1086324736#32) (max (Ideal.ofBits FTy.f32 3233808384#32) z))
    (mul_recip (tokA X l ⟨o + k, by omega⟩) (eff (sA (tT A) (tokA X l) ⟨(o + k) / 16, by omega⟩) (tT A)) (eff_ne _ _))

theorem cV_apply (k : Fin 256) (l : Fin 128) : cV A v (ix2 k l) = codeK (yA (tT A) (tokA X l) ⟨o + k, by omega⟩) := by
  have hy := yV_apply A X v o ho h16 hv
  pointwise [k0_pay22, k0_pay21]
  simp only [hy]
  rfl

theorem dV_apply (l : Fin 128) (k : Fin 256) : dV A v (ix2 l k) = dA (tT A) (tokA X l) ⟨o + k, by omega⟩ := by
  have hs := sV_apply A X v o ho h16 hv ⟨(k : ℕ) / 16, by omega⟩ l
  have hg : (⟨o / 16 + (k : ℕ) / 16, by omega⟩ : Fin 448) = ⟨(o + k) / 16, by omega⟩ :=
    Fin.ext (show o / 16 + (k : ℕ) / 16 = (o + k) / 16 by omega)
  have hs' : k0_pay19 (F := Ideal) (k0_pay3 A) v (ix2 ⟨(k : ℕ) / 16, by omega⟩ l) = sA (tT A) (tokA X l) ⟨(o + k) / 16, by omega⟩ :=
    hs.trans (congrArg _ hg)
  have hc := cV_apply A X v o ho h16 hv k l
  pointwise [k0_pay25]
  rw [hc]
  exact congrArg₂ (· * ·) rfl hs'

theorem bV_apply (l q : Fin 128) : bV A v (ix2 l q) = cA (tT A) (tokA X l) ⟨o / 2 + q, by omega⟩ := by
  have h := bytes_fix (R := 128) (r := 32) (n := 128) (raw (cV A v))
    (andi (wV A v) (ori (shli (andi (k0_pay24 (F := Ideal) (yV A v) (k0_pay21 (k0_pay3 A) v) (Scalar.ofBits .f32 0x3E800000#32)) (broadcast S32x128 286331153#32)) (broadcast S32x128 3#32)) (broadcast S32x128 2004318071#32)))
    bitcasts_S128x128_w8_S32x128_w32 bitcasts_S32x128_w32_S128x128_w8 q l (by norm_num) (fun a => rfl)
  rw [raw_apply, cV_apply A X v o ho h16 hv, cV_apply A X v o ho h16 hv] at h
  have e1 : (⟨o + q * 2, by omega⟩ : Fin 7168) = ⟨(o / 2 + q) * 2, by omega⟩ := Fin.ext (show o + q * 2 = (o / 2 + q) * 2 by omega)
  have e2 : (⟨o + (q * 2 + 1), by omega⟩ : Fin 7168) = ⟨(o / 2 + q) * 2 + 1, by omega⟩ :=
    Fin.ext (show o + (q * 2 + 1) = (o / 2 + q) * 2 + 1 by omega)
  refine Eq.trans ?_ ((h.trans (byte_eq _ _)).trans (congrArg₂ (fun a b => pack (codeR (yA (tT A) (tokA X l) a)) (codeR (yA (tT A) (tokA X l) b))) e1 e2))
  pointwise [k0_pay26]

theorem aV_apply (l : Fin 128) (k : Fin 256) : k0_pay4 (F := Ideal) v (ix2 l k) = tokA X l ⟨o + k, by omega⟩ := by
  rw [← hv k l]
  pointwise [k0_pay4]

end Slab

end Cert.QaIdeal.Pay
end
-- ==== Proof.QaKernel.lean ====
/-
  The kernel that quantises the attention output, over the extended reals: what the slabs leave in the output blocks of one
  grid point, and that the result arrays end holding the arrays `QaSpec` names.
-/
module

public import proofs.«01_k».proof.Proof.QaRun
public import proofs.«01_k».proof.Proof.QaPay
public import Idealize.ShloMosaic.Lib.Pipeline.ValueKit

@[expose] public section

set_option maxRecDepth 16384

noncomputable section

namespace Cert.QaIdeal.Block

open Cert.QaIdeal Cert.QaIdeal.Gen Cert.QaIdeal.Run Idealize.ShloMosaic Idealize.ShloMosaic.TcCoe Idealize.SL.Sem
open Idealize.ShloMosaic.Pointwise
open Idealize.ShloMosaic.Pipeline (Dat)
open Cert.KvSpec Cert.QaSpec Cert.QaIdeal.Pay

section Point

variable (X : Vec Ideal S7168x128 .f32) (M : Vec Ideal S8x128 .f32)

/-- The tile of largest magnitudes as the kernel loads it, and slab `o` of the entries. -/
abbrev mL : Vec Ideal S8x128 .f32 := View.ld M r0_0
abbrev xL (o : ℕ) (h : ∀ a, (![o, 0] : Fin 2 → ℕ) a + S256x128.size a ≤ S7168x128.size a) : Vec Ideal S256x128 .f32 :=
  View.ld X (Rect.unit (s := S7168x128) ![o, 0] S256x128.size h)

theorem mL_eq : mL M = M := by
  funext i
  refine View.ld_unit_apply_of M _ _ inb_S8x128_S8x128_0_0 _ i fun a => ?_
  match a with
  | 0 => exact (Nat.zero_add _).symm
  | 1 => exact (Nat.zero_add _).symm

theorem xL_apply (o : ℕ) (h) (ho : o + 256 ≤ 7168) (k : Fin 256) (l : Fin 128) : xL X o h (ix2 k l) = tokA X l ⟨o + k, lt_slab ho k⟩ :=
  View.ld_unit_apply_of X _ _ h _ (ix2 (⟨o + k, lt_slab ho k⟩ : Fin 7168) l) fun a => by
    match a with
    | 0 => rfl
    | 1 => exact (Nat.zero_add _).symm

/-- One slab's attention values, values and bytes, where the output block takes them. -/
theorem attn_slab (x : S128x256.Idx) (y : S128x7168.Idx) (o : ℕ) (h1 : (y 1 : ℕ) = o + (x 1 : ℕ)) (h0 : (y 0 : ℕ) = (x 0 : ℕ)) (h)
    (ho : o + 256 ≤ 7168 ∧ o % 256 = 0) : k0_pay4 (F := Ideal) (xL X o h) x = attn X y := by
  idx_vars x
  idx_vars y
  rw [aV_apply X _ o ho.1 ho.2 (xL_apply X o h ho.1)]
  exact congrArg₂ (tokA X) (Fin.ext h0.symm) (Fin.ext h1.symm)

theorem vals_slab (x : S128x256.Idx) (y : S128x7168.Idx) (o : ℕ) (h1 : (y 1 : ℕ) = o + (x 1 : ℕ)) (h0 : (y 0 : ℕ) = (x 0 : ℕ)) (h)
    (ho : o + 256 ≤ 7168 ∧ o % 256 = 0) : dV (mL M) (xL X o h) x = deqA M X y := by
  idx_vars x
  idx_vars y
  rw [dV_apply (mL M) X _ o ho.1 ho.2 (xL_apply X o h ho.1), mL_eq]
  exact congrArg₂ (fun a b => dA (tT M) (tokA X a) b) (Fin.ext h0.symm) (Fin.ext h1.symm)

theorem bytes_slab (x : S128x128.Idx) (y : S128x3584.Idx) (p : ℕ) (h1 : (y 1 : ℕ) = p + (x 1 : ℕ)) (h0 : (y 0 : ℕ) = (x 0 : ℕ)) (h)
    (ho : 2 * p + 256 ≤ 7168 ∧ 2 * p % 256 = 0) : bV (mL M) (xL X (2 * p) h) x = codesA M X y := by
  idx_vars x
  idx_vars y
  rw [bV_apply (mL M) X _ (2 * p) ho.1 ho.2 (xL_apply X (2 * p) h ho.1), mL_eq]
  have h1' : (y1 : ℕ) = p + (x1 : ℕ) := h1
  exact congrArg₂ (fun a b => cA (tT M) (tokA X a) b) (Fin.ext h0.symm) (Fin.ext (show 2 * p / 2 + (x1 : ℕ) = (y1 : ℕ) by omega))

theorem o2 (y : S128x7168.Idx) : out0_2 X M y = attn X y := by
  unfold out0_2
  canon_tiles x h
  all_goals first
    | (refine Eq.trans ?_ (attn_slab X x y _ h1 h0 (by decide) (by decide)); rfl)
    | (refine Eq.trans ?_ (attn_slab X x y 0 (h1.trans (Nat.zero_add _).symm) h0 (by decide) (by decide)); rfl)

theorem o3 (y : S128x7168.Idx) : out0_3 X M y = deqA M X y := by
  unfold out0_3
  canon_tiles x h
  all_goals first
    | (refine Eq.trans ?_ (vals_slab X M x y _ h1 h0 (by decide) (by decide)); rfl)
    | (refine Eq.trans ?_ (vals_slab X M x y 0 (h1.trans (Nat.zero_add _).symm) h0 (by decide) (by decide)); rfl)

theorem o4 (y : S128x3584.Idx) : out0_4 X M y = codesA M X y := by
  unfold out0_4
  canon_tiles x h
  all_goals first
    | (refine Eq.trans ?_ (bytes_slab X M x y _ h1 h0 (by decide) (by decide)); rfl)
    | (refine Eq.trans ?_ (bytes_slab X M x y 0 (h1.trans (Nat.zero_add _).symm) h0 (by decide) (by decide)); rfl)

theorem o6 (y : S1x1.Idx) : out0_6 X M y = tensA M y := by
  unfold out0_6
  canon_tiles x h
  exact (t3 (mL M) x).trans (congrArg tT (mL_eq M))

/-- The slabs' block scales, one after another. -/
def part (n : Fin 28) : FVec Ideal S16x128 .f32 :=
  sV (mL M) (xL X (256 * (n : ℕ)) fun a => by
    match a with
    | 0 => show 256 * (n : ℕ) + 256 ≤ 7168; omega
    | 1 => exact Nat.le_refl 128)

theorem parts_apply (h) (g : Fin 448) (l : Fin 128) :
    concatenate S448x128 0 (List.ofFn fun n : Fin 28 => (⟨S16x128, part X M n⟩ : (s : Shape) × (s.Idx → EReal))) h (ix2 g l)
      = sA (tT M) (tokA X l) g := by
  refine (concatenate_ofFn_apply (t := S448x128) (s₁ := S16x128) (0 : Fin 2) (part X M) h rfl 16 rfl (ix2 g l)
    ⟨(g : ℕ) / 16, by omega⟩ rfl (ix2 (⟨(g : ℕ) % 16, by omega⟩ : Fin 16) l) rfl (fun b hb => ?_)).trans ?_
  · match b with
    | 0 => exact absurd rfl hb
    | 1 => rfl
  · refine (sV_apply (mL M) X _ (256 * ((g : ℕ) / 16)) (by omega) (by omega) (xL_apply X _ _ (by omega)) _ l).trans ?_
    rw [mL_eq]
    exact congrArg (sA (tT M) (tokA X l)) (Fin.ext (show 256 * ((g : ℕ) / 16) / 16 + (g : ℕ) % 16 = g by omega))

theorem o5 (y : S128x448.Idx) : out0_5 X M y = scalesA M X y := by
  unfold out0_5
  canon_tiles x h
  obtain rfl : x = y := funext fun a => by
    match a with
    | 0 => exact Fin.ext h0.symm
    | 1 => exact Fin.ext h1.symm
  idx_vars x
  refine Eq.trans ?_ (parts_apply X M concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S448x128_d0 x1 x0)
  show k0_pay2 (F := Ideal) (concatenate S448x128 0 (List.ofFn fun n : Fin 28 => (⟨S16x128, part X M n⟩ : (s : Shape) × (s.Idx → EReal))) _) (ix2 x0 x1) = _
  generalize concatenate S448x128 0 _ _ = w
  pointwise [k0_pay2]

end Point

variable (m : (ℓ : Loc nD τ sig) → Buf (Elt Ideal) ℓ) (ρ : Dev nD → PrngReg)

/-- The arguments the call reads. -/
abbrev aX (c : Dev nD) : Vec Ideal S7168x1920 .f32 := m ((c : Thread nD τ).loc main_arg0)
abbrev aM (c : Dev nD) : Vec Ideal S8x128 .f32 := m ((c : Thread nD τ).loc main_arg1)

/-- The index maps: the tokens move with the point, the magnitudes and the tensor scale stay. -/
theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![0, 0])

/-- The magnitudes' block is the argument. -/
theorem blk1 (c : Dev nD) (t : Fin cfg0.N) : iblk m c 1 t = aM m c := by blk_ext! [iblk, V, (idx t).2.1]

/-- The block of tokens point `t` reads, and that a token of it is a token of the array. -/
abbrev aB (c : Dev nD) (t : Fin cfg0.N) : Vec Ideal S7168x128 .f32 := iblk m c 0 t

theorem tok_a (c : Dev nD) (t : Fin cfg0.N) (l : Fin 128) (j : Fin 1920) (h : (j : ℕ) = t.val * 128 + (l : ℕ)) :
    tokA (aB m c t) l = tokA (aX m c) j := by
  funext k
  obtain ⟨i0, -⟩ := idx t
  unfold tokA
  blk_ext [iblk, V, i0]

/-! The result arrays after the run. -/

theorem final2 (c : Dev nD) : (dats m 0 c).arrAt 2 cfg0.N = attn (aX m c) := by
  refine (dats m 0 c).arrAt_eq_of_covers 2 _ (by decide +kernel) fun t hf y => ?_
  show (dats m 0 c).after 2 t y = _
  rw [after0_2]
  refine (o2 (aB m c t) _ y).trans (congr (tok_a m c t _ ((win0_2.blk t).view.emb y 0) ?_) (Fin.ext ?_))
  · blk_simp [(idx t).2.2.1]
  · show (y 1).val = ((win0_2.blk t).view.emb y 1).val
    blk_simp [(idx t).2.2.1]

theorem final3 (c : Dev nD) : (dats m 0 c).arrAt 3 cfg0.N = deqA (aM m c) (aX m c) := by
  refine (dats m 0 c).arrAt_eq_of_covers 3 _ (by decide +kernel) fun t hf y => ?_
  show (dats m 0 c).after 3 t y = _
  rw [after0_3, blk1]
  refine (o3 (aB m c t) (aM m c) y).trans (congr (congrArg (dA _) (tok_a m c t _ ((win0_3.blk t).view.emb y 0) ?_)) (Fin.ext ?_))
  · blk_simp [(idx t).2.2.2.1]
  · show (y 1).val = ((win0_3.blk t).view.emb y 1).val
    blk_simp [(idx t).2.2.2.1]

theorem final4 (c : Dev nD) : (dats m 0 c).arrAt 4 cfg0.N = codesA (aM m c) (aX m c) := by
  refine (dats m 0 c).arrAt_eq_of_covers 4 _ (by decide +kernel) fun t hf y => ?_
  show (dats m 0 c).after 4 t y = _
  rw [after0_4, blk1]
  refine (o4 (aB m c t) (aM m c) y).trans (congr (congrArg (cA _) (tok_a m c t _ ((win0_4.blk t).view.emb y 0) ?_)) (Fin.ext ?_))
  · blk_simp [(idx t).2.2.2.2.1]
  · show (y 1).val = ((win0_4.blk t).view.emb y 1).val
    blk_simp [(idx t).2.2.2.2.1]

theorem final5 (c : Dev nD) : (dats m 0 c).arrAt 5 cfg0.N = scalesA (aM m c) (aX m c) := by
  refine (dats m 0 c).arrAt_eq_of_covers 5 _ (by decide +kernel) fun t hf y => ?_
  show (dats m 0 c).after 5 t y = _
  rw [after0_5, blk1]
  refine (o5 (aB m c t) (aM m c) y).trans (congr (congrArg (sA _) (tok_a m c t _ ((win0_5.blk t).view.emb y 0) ?_)) (Fin.ext ?_))
  · blk_simp [(idx t).2.2.2.2.2.1]
  · show (y 1).val = ((win0_5.blk t).view.emb y 1).val
    blk_simp [(idx t).2.2.2.2.2.1]

theorem final6 (c : Dev nD) : (dats m 0 c).arrAt 6 cfg0.N = tensA (aM m c) := by
  refine (dats m 0 c).arrAt_eq_of_covers 6 _ (by decide +kernel) fun t hf y => ?_
  show (dats m 0 c).after 6 t y = _
  rw [after0_6, blk1]
  exact o6 (aB m c t) (aM m c) y

/-- The kernel's run: the result cells end at the five arrays, the argument cells keep. -/
theorem runP : θ_run defs (onTc (τ := τ) (main (F := Ideal))) ⟨m, fun _ => 0, ρ⟩ (fun r => ∀ c : Dev nD,
    r.2.mem ((c : Thread nD τ).loc main_v0_0) = attn (aX m c)
    ∧ r.2.mem ((c : Thread nD τ).loc main_v0_1) = deqA (aM m c) (aX m c)
    ∧ r.2.mem ((c : Thread nD τ).loc main_v0_2) = codesA (aM m c) (aX m c)
    ∧ r.2.mem ((c : Thread nD τ).loc main_v0_3) = scalesA (aM m c) (aX m c)
    ∧ r.2.mem ((c : Thread nD τ).loc main_v0_4) = tensA (aM m c)
    ∧ r.2.mem ((c : Thread nD τ).loc main_arg0) = m ((c : Thread nD τ).loc main_arg0) ∧ r.2.mem ((c : Thread nD τ).loc main_arg1) = m ((c : Thread nD τ).loc main_arg1)) :=
  (θ_run defs _ _).mono (fun _ h c => ⟨(h c).1.trans (final2 m c), (h c).2.1.trans (final3 m c), (h c).2.2.1.trans (final4 m c), (h c).2.2.2.1.trans (final5 m c), (h c).2.2.2.2.1.trans (final6 m c), (h c).2.2.2.2.2⟩) (run_blocks m ρ)

end Cert.QaIdeal.Block
end
-- ==== Proof.QaRefPay.lean ====
/-
  The attention-output reference's expressions over the extended reals, at an index: the functions `QaSpec` states.
-/
module

public import proofs.«01_k».proof.Proof.Gen.QaRefIdeal.Skeleton
public import proofs.«01_k».proof.Proof.QaSpec
public import proofs.«01_k».proof.Proof.KvBits
public import Idealize.ShloMosaic.Lib.Pipeline.ValueKit

@[expose] public section

set_option maxRecDepth 16384

noncomputable section

namespace Cert.QaRefIdeal.Pay

open Cert.QaRefIdeal Cert.QaRefIdeal.Gen Idealize.ShloMosaic Idealize.ShloMosaic.TcCoe Idealize.ShloMosaic.Pointwise
open Cert.KvSpec Cert.QaSpec Cert.KvBits Cert.Fp4

variable (X : Vec Ideal S7168x1920 .f32) (A : Vec Ideal S8x128 .f32)

/-- The tensor scale. -/
theorem t3 (i : S1x1.Idx) : k0_pay3 (F := Ideal) A i = tT A := by
  rw [← tT_rows]
  idx_vars i
  pointwise [k0_pay3]
  rfl

/-- The attention output, a token to a row. -/
theorem a8 (y : S1920x7168.Idx) : k0_pay8 (F := Ideal) (k0_pay1 X) y = attn X y := by
  idx_vars y
  pointwise [k0_pay8, k0_pay1]
  rfl

/-- The block scales. -/
theorem s4 (j : Fin 1920) (g : Fin 448) : k0_pay4 (F := Ideal) X A (ix2 j g) = sA (tT A) (tokA X j) g := by
  pointwise [k0_pay4, k0_pay2, k0_pay1]
  rw [t3, sixth]
  rfl

/-- The entries in units of their block's scale. -/
theorem y5 (j : Fin 1920) (g : Fin 448) (r : Fin 16) :
    k0_pay5 (F := Ideal) X A (ix3 j g r) = yA (tT A) (tokA X j) ⟨(g : ℕ) * 16 + r, by omega⟩ := by
  have hg : (⟨((g : ℕ) * 16 + r) / 16, by omega⟩ : Fin 448) = g := Fin.ext (show ((g : ℕ) * 16 + r) / 16 = g by omega)
  show _ = unit (sA (tT A) (tokA X j) ⟨((g : ℕ) * 16 + r) / 16, by omega⟩) (tT A) (tokA X j ⟨(g : ℕ) * 16 + r, by omega⟩)
  rw [hg]
  pointwise [k0_pay5, k0_pay2, k0_pay1]
  rw [s4, t3]
  rfl

/-- The codes. -/
abbrev cd : IVec S1920x448x16 32 := k0_pay7 (k0_pay5 (F := Ideal) X A) (k0_pay6 X A)
theorem c7 (j : Fin 1920) (g : Fin 448) (r : Fin 16) :
    cd X A (ix3 j g r) = codeR (yA (tT A) (tokA X j) ⟨(g : ℕ) * 16 + r, by omega⟩) := by
  pointwise [k0_pay7, k0_pay6]
  simp only [y5]
  rfl

/-- The values the codes and scales stand for. -/
theorem d11 (j : Fin 1920) (k : Fin 7168) :
    k0_pay11 (F := Ideal) (k0_pay4 X A) (cd X A) (k0_pay9 (F := Ideal) (k0_pay5 X A) (k0_pay6 X A))
      (k0_pay10 (F := Ideal) (k0_pay5 X A) (k0_pay6 X A)) 4#32 (ix2 j k) = dA (tT A) (tokA X j) k := by
  have hc : k0_pay7 (k0_pay5 (F := Ideal) X A) (k0_pay6 X A) (ix3 j ⟨(k : ℕ) / 16, by omega⟩ ⟨(k : ℕ) % 16, by omega⟩)
      = codeR (yA (tT A) (tokA X j) k) :=
    (c7 X A j _ _).trans (congrArg (fun z => codeR (yA (tT A) (tokA X j) z)) (Fin.ext (show (k : ℕ) / 16 * 16 + (k : ℕ) % 16 = k by omega)))
  unfold cd
  pointwise [k0_pay11, k0_pay9, k0_pay10]
  rw [hc, s4]
  exact value_eq (yA (tT A) (tokA X j) k) (sA (tT A) (tokA X j) ⟨(k : ℕ) / 16, by omega⟩)

/-- The packed codes. -/
theorem b12 (j : Fin 1920) (q : Fin 3584) : k0_pay12 (cd X A) (ix2 j q) = cA (tT A) (tokA X j) q := by
  pointwise [k0_pay12]
  rw [c7, c7]
  have e1 : (⟨(q : ℕ) / 8 * 16 + (q : ℕ) % 8 * 2, by omega⟩ : Fin 7168) = ⟨(q : ℕ) * 2, by omega⟩ :=
    Fin.ext (show (q : ℕ) / 8 * 16 + (q : ℕ) % 8 * 2 = (q : ℕ) * 2 by omega)
  have e2 : (⟨(q : ℕ) / 8 * 16 + ((q : ℕ) % 8 * 2 + 1), by omega⟩ : Fin 7168) = ⟨(q : ℕ) * 2 + 1, by omega⟩ :=
    Fin.ext (show (q : ℕ) / 8 * 16 + ((q : ℕ) % 8 * 2 + 1) = (q : ℕ) * 2 + 1 by omega)
  unfold cA
  rw [← e1, ← e2]
  rfl

end Cert.QaRefIdeal.Pay
end
-- ==== Proof.QaReference.lean ====
/-
  The attention-output reference over the extended reals: its result arrays are the arrays `QaSpec` names.
-/
module

public import proofs.«01_k».proof.Proof.Gen.QaRefIdeal.Value
public import proofs.«01_k».proof.Proof.QaRefPay
public import Idealize.ShloMosaic.Lib.Pipeline.ValueKit

@[expose] public section

set_option maxRecDepth 16384

noncomputable section

namespace Cert.QaRefIdeal.Block

open Cert.QaRefIdeal Cert.QaRefIdeal.Gen Cert.QaRefIdeal.Value Idealize.ShloMosaic Idealize.ShloMosaic.TcCoe Idealize.SL.Sem
open Idealize.ShloMosaic.Pointwise
open Idealize.ShloMosaic.Pipeline (Dat)
open Cert.KvSpec Cert.QaSpec Cert.QaRefIdeal.Pay

variable (m : (ℓ : Loc nD τ sig) → Buf (Elt Ideal) ℓ) (ρ : Dev nD → PrngReg)

/-- The arguments the call reads. -/
abbrev aX (c : Dev nD) : Vec Ideal S7168x1920 .f32 := m ((c : Thread nD τ).loc main_arg0)
abbrev aM (c : Dev nD) : Vec Ideal S8x128 .f32 := m ((c : Thread nD τ).loc main_arg1)

/-- The one point's index maps are all zero. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The whole-array blocks are the arguments. -/
theorem blk0 (c : Dev nD) (t : Fin cfg0.N) : iblk m c 0 t = aX m c := by blk_ext! [iblk, V, (idx t).1]
theorem blk1 (c : Dev nD) (t : Fin cfg0.N) : iblk m c 1 t = aM m c := by blk_ext! [iblk, V, (idx t).2]

/-! The result arrays after the run. -/

theorem final2 (c : Dev nD) : (dats m 0 c).arrAt 2 cfg0.N = attn (aX m c) := by
  refine (dats m 0 c).arrAt_eq_of_after_last 2 t0_0 (by decide +kernel) _ fun j => ?_
  blk_simp
  rw [after0_2]
  unfold_out out0_2
  frame_out
  rw [blk0]
  exact a8 (aX m c) j

theorem final3 (c : Dev nD) : (dats m 0 c).arrAt 3 cfg0.N = deqA (aM m c) (aX m c) := by
  refine (dats m 0 c).arrAt_eq_of_after_last 3 t0_0 (by decide +kernel) _ fun j => ?_
  blk_simp
  rw [after0_3]
  unfold_out out0_3
  frame_out
  rw [blk0, blk1]
  idx_vars j
  exact d11 (aX m c) (aM m c) _ _

theorem final4 (c : Dev nD) : (dats m 0 c).arrAt 4 cfg0.N = codesA (aM m c) (aX m c) := by
  refine (dats m 0 c).arrAt_eq_of_after_last 4 t0_0 (by decide +kernel) _ fun j => ?_
  blk_simp
  rw [after0_4]
  unfold_out out0_4
  frame_out
  rw [blk0, blk1]
  idx_vars j
  exact b12 (aX m c) (aM m c) _ _

theorem final5 (c : Dev nD) : (dats m 0 c).arrAt 5 cfg0.N = scalesA (aM m c) (aX m c) := by
  refine (dats m 0 c).arrAt_eq_of_after_last 5 t0_0 (by decide +kernel) _ fun j => ?_
  blk_simp
  rw [after0_5]
  unfold_out out0_5
  frame_out
  rw [blk0, blk1]
  idx_vars j
  exact s4 (aX m c) (aM m c) _ _

theorem final6 (c : Dev nD) : (dats m 0 c).arrAt 6 cfg0.N = tensA (aM m c) := by
  refine (dats m 0 c).arrAt_eq_of_after_last 6 t0_0 (by decide +kernel) _ fun j => ?_
  blk_simp
  rw [after0_6]
  unfold_out out0_6
  frame_out
  rw [blk1]
  exact t3 (aM m c) j

/-- The reference's run: the result cells end at the five arrays, the argument cells keep. -/
theorem runR : θ_run defs (onTc (τ := τ) (main (F := Ideal))) ⟨m, fun _ => 0, ρ⟩ (fun r => ∀ c : Dev nD,
    r.2.mem ((c : Thread nD τ).loc main_v0_0) = attn (aX m c)
    ∧ r.2.mem ((c : Thread nD τ).loc main_v0_1) = deqA (aM m c) (aX m c)
    ∧ r.2.mem ((c : Thread nD τ).loc main_v0_2) = codesA (aM m c) (aX m c)
    ∧ r.2.mem ((c : Thread nD τ).loc main_v0_3) = scalesA (aM m c) (aX m c)
    ∧ r.2.mem ((c : Thread nD τ).loc main_v0_4) = tensA (aM m c)
    ∧ r.2.mem ((c : Thread nD τ).loc main_arg0) = m ((c : Thread nD τ).loc main_arg0) ∧ r.2.mem ((c : Thread nD τ).loc main_arg1) = m ((c : Thread nD τ).loc main_arg1)) :=
  (θ_run defs _ _).mono (fun _ h c => ⟨(h c).1.trans (final2 m c), (h c).2.1.trans (final3 m c), (h c).2.2.1.trans (final4 m c), (h c).2.2.2.1.trans (final5 m c), (h c).2.2.2.2.1.trans (final6 m c), (h c).2.2.2.2.2⟩) (run_blocks m ρ)

end Cert.QaRefIdeal.Block
end
-- ==== Proof.QaEq.lean ====
/-
  The kernel that quantises the attention output and its reference compute the same arrays over the extended reals: both
  runs end holding the arrays `QaSpec` names, of the arguments.
-/
module

public import proofs.«01_k».proof.Defs
public import proofs.«01_k».proof.Proof.QaKernel
public import proofs.«01_k».proof.Proof.QaReference

@[expose] public section

noncomputable section

namespace Cert.QaEq

open Idealize.ShloMosaic Idealize.ShloMosaic.TcCoe Idealize.SL.Sem Cert.QaSpec

/-- From memories agreeing on the arguments the kernel and the reference both run, end with equal results and keep the
    arguments. -/
theorem algebraic : algebraic_QaIdeal_QaRefIdeal (hQaIdeal := Cert.QaIdeal.Gen.facts) (hQaRefIdeal := Cert.QaRefIdeal.Gen.facts) := by
  intro m ρ m' ρ' _ hag
  refine ⟨fun c => attn (QaIdeal.Block.aX m c),
    fun c => deqA (QaIdeal.Block.aM m c) (QaIdeal.Block.aX m c),
    fun c => codesA (QaIdeal.Block.aM m c) (QaIdeal.Block.aX m c),
    fun c => scalesA (QaIdeal.Block.aM m c) (QaIdeal.Block.aX m c),
    fun c => tensA (QaIdeal.Block.aM m c),
    QaIdeal.Block.runP m ρ, (θ_run _ _ _).mono (fun r h c => ?_) (QaRefIdeal.Block.runR m' ρ')⟩
  obtain ⟨e0, e1⟩ := hag c
  obtain ⟨r2, r3, r4, r5, r6, ra⟩ := h c
  exact ⟨r2.trans (congrArg attn e0),
    r3.trans (congrArg₂ deqA e1 e0),
    r4.trans (congrArg₂ codesA e1 e0),
    r5.trans (congrArg₂ scalesA e1 e0),
    r6.trans (congrArg tensA e1), ra⟩

end Cert.QaEq
end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.OutIdeal.Value
public import proofs.«01_k».proof.Proof.Gen.OutRefIdeal.Value
public import proofs.«01_k».proof.Proof.Gen.QkvRefIdeal.Value
public import proofs.«01_k».proof.Proof.OutEq
public import proofs.«01_k».proof.Proof.QkvEq
public import proofs.«01_k».proof.Proof.QkvFrame
public import proofs.«01_k».proof.Proof.KvEq
public import proofs.«01_k».proof.Proof.QaEq
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Skeleton
public import proofs.«01_k».proof.Proof.Gen.KvRefIdeal.Launch
public import proofs.«01_k».proof.Proof.Gen.KvRefIdeal.Points
public import proofs.«01_k».proof.Proof.Gen.KvRefIdeal.Frame
public import proofs.«01_k».proof.Proof.Gen.KvRefIdeal.Value
public import proofs.«01_k».proof.Proof.Gen.Qa
public import proofs.«01_k».proof.Proof.Gen.Qa.Skeleton
public import proofs.«01_k».proof.Proof.Gen.Qa.Launch
public import proofs.«01_k».proof.Proof.Gen.Qa.Points
public import proofs.«01_k».proof.Proof.Gen.Qa.Frame
public import proofs.«01_k».proof.Proof.Gen.QaIdeal
public import proofs.«01_k».proof.Proof.Gen.QaIdeal.Skeleton
public import proofs.«01_k».proof.Proof.Gen.QaIdeal.Launch
public import proofs.«01_k».proof.Proof.Gen.QaIdeal.Points
public import proofs.«01_k».proof.Proof.Gen.QaIdeal.Frame
public import proofs.«01_k».proof.Proof.Gen.QaRefIdeal
public import proofs.«01_k».proof.Proof.Gen.QaRefIdeal.Skeleton
public import proofs.«01_k».proof.Proof.Gen.QaRefIdeal.Launch
public import proofs.«01_k».proof.Proof.Gen.QaRefIdeal.Points
public import proofs.«01_k».proof.Proof.Gen.QaRefIdeal.Frame
public import proofs.«01_k».proof.Proof.Gen.QaRefIdeal.Value

@[expose] public section

noncomputable section

namespace Cert.Proof

open Idealize Idealize.ShloMosaic

/-- Everything the certificate claims. -/
theorem claim : Cert.Claim :=
  ⟨Cert.Out.Gen.facts, Cert.OutIdeal.Gen.facts, Cert.OutRefIdeal.Gen.facts,
    Cert.Qkv.Gen.facts, Cert.QkvIdeal.Gen.facts, Cert.QkvRefIdeal.Gen.facts,
    Cert.Kv.Gen.facts, Cert.KvIdeal.Gen.facts, Cert.KvRefIdeal.Gen.facts,
    Cert.Qa.Gen.facts, Cert.QaIdeal.Gen.facts, Cert.QaRefIdeal.Gen.facts,
    fun m ρ _ => Cert.Out.Gen.frame m ρ, fun m ρ _ => Cert.OutIdeal.Gen.frame m ρ, fun m ρ _ => Cert.OutRefIdeal.Gen.frame m ρ,
    Cert.QkvFrame.frame, fun m ρ _ => Cert.QkvIdeal.Gen.frame m ρ, fun m ρ _ => Cert.QkvRefIdeal.Gen.frame m ρ,
    fun m ρ _ => Cert.Kv.Gen.frame m ρ, fun m ρ _ => Cert.KvIdeal.Gen.frame m ρ, fun m ρ _ => Cert.KvRefIdeal.Gen.frame m ρ,
    fun m ρ _ => Cert.Qa.Gen.frame m ρ, fun m ρ _ => Cert.QaIdeal.Gen.frame m ρ, fun m ρ _ => Cert.QaRefIdeal.Gen.frame m ρ,
    trivial, Cert.OutEq.algebraic, trivial, Cert.QkvEq.algebraic,
    IdealRules.named_const.statement Cert.KvIdeal.κ "sixth" .f32 0x3E2AB555#32 ((4097 / 24576 : ℝ) : EReal) rfl, Cert.KvEq.algebraic,
    IdealRules.named_const.statement Cert.QaIdeal.κ "sixth" .f32 0x3E2AB555#32 ((4097 / 24576 : ℝ) : EReal) rfl, Cert.QaEq.algebraic⟩

end Cert.Proof

end
